-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_MobaKernel (m : (ℓ : Loc Cert.MobaKernel.nD Cert.MobaKernel.τ Cert.MobaKernel.sig) → Buf (Elt Bits) ℓ) : Prop :=
  True

def Pre_MobaKernelIdeal (m : (ℓ : Loc Cert.MobaKernelIdeal.nD Cert.MobaKernelIdeal.τ Cert.MobaKernelIdeal.sig) → Buf (Elt Ideal) ℓ) : Prop :=
  True

def Pre_MobaKernelIdeal_finite_qk_means [hPre_finite_qk_means : Cert.Pre_finite_qk_means.Facts] (m : (ℓ : Loc Cert.MobaKernelIdeal.nD Cert.MobaKernelIdeal.τ Cert.MobaKernelIdeal.sig) → Buf (Elt Ideal) ℓ) : Prop :=
  ∀ c : Dev Cert.MobaKernelIdeal.nD,
    (Cert.Pre_finite_qk_means.fn (F := Ideal) (m ((c.tc : Thread Cert.MobaKernelIdeal.nD Cert.MobaKernelIdeal.τ).loc Cert.MobaKernelIdeal.main_arg0)) (m ((c.tc : Thread Cert.MobaKernelIdeal.nD Cert.MobaKernelIdeal.τ).loc Cert.MobaKernelIdeal.main_arg1)) (m ((c.tc : Thread Cert.MobaKernelIdeal.nD Cert.MobaKernelIdeal.τ).loc Cert.MobaKernelIdeal.main_arg2)) (m ((c.tc : Thread Cert.MobaKernelIdeal.nD Cert.MobaKernelIdeal.τ).loc Cert.MobaKernelIdeal.main_arg3))) = (fun _ => 1#1)

def Pre_MobaReferenceIdeal (m : (ℓ : Loc Cert.MobaReferenceIdeal.nD Cert.MobaReferenceIdeal.τ Cert.MobaReferenceIdeal.sig) → Buf (Elt Ideal) ℓ) : Prop :=
  True

def Pre_MobaReferenceIdeal_finite_qk_means [hPre_finite_qk_means : Cert.Pre_finite_qk_means.Facts] (m : (ℓ : Loc Cert.MobaReferenceIdeal.nD Cert.MobaReferenceIdeal.τ Cert.MobaReferenceIdeal.sig) → Buf (Elt Ideal) ℓ) : Prop :=
  ∀ c : Dev Cert.MobaReferenceIdeal.nD,
    (Cert.Pre_finite_qk_means.fn (F := Ideal) (m ((c.tc : Thread Cert.MobaReferenceIdeal.nD Cert.MobaReferenceIdeal.τ).loc Cert.MobaReferenceIdeal.main_arg0)) (m ((c.tc : Thread Cert.MobaReferenceIdeal.nD Cert.MobaReferenceIdeal.τ).loc Cert.MobaReferenceIdeal.main_arg1)) (m ((c.tc : Thread Cert.MobaReferenceIdeal.nD Cert.MobaReferenceIdeal.τ).loc Cert.MobaReferenceIdeal.main_arg2)) (m ((c.tc : Thread Cert.MobaReferenceIdeal.nD Cert.MobaReferenceIdeal.τ).loc Cert.MobaReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6)
      ∧ r.2.mem ((c.tc : Thread Cert.OutKernel.nD Cert.OutKernel.τ).loc Cert.OutKernel.main_arg7) = m ((c.tc : Thread Cert.OutKernel.nD Cert.OutKernel.τ).loc Cert.OutKernel.main_arg7)
      ∧ r.2.mem ((c.tc : Thread Cert.OutKernel.nD Cert.OutKernel.τ).loc Cert.OutKernel.main_arg8) = m ((c.tc : Thread Cert.OutKernel.nD Cert.OutKernel.τ).loc Cert.OutKernel.main_arg8)
      ∧ r.2.mem ((c.tc : Thread Cert.OutKernel.nD Cert.OutKernel.τ).loc Cert.OutKernel.main_arg9) = m ((c.tc : Thread Cert.OutKernel.nD Cert.OutKernel.τ).loc Cert.OutKernel.main_arg9)
      ∧ r.2.mem ((c.tc : Thread Cert.OutKernel.nD Cert.OutKernel.τ).loc Cert.OutKernel.main_arg10) = m ((c.tc : Thread Cert.OutKernel.nD Cert.OutKernel.τ).loc Cert.OutKernel.main_arg10)
      ∧ r.2.mem ((c.tc : Thread Cert.OutKernel.nD Cert.OutKernel.τ).loc Cert.OutKernel.main_arg11) = m ((c.tc : Thread Cert.OutKernel.nD Cert.OutKernel.τ).loc Cert.OutKernel.main_arg11))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
      ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8)
      ∧ r.2.mem ((c.tc : Thread Cert.OutKernelIdeal.nD Cert.OutKernelIdeal.τ).loc Cert.OutKernelIdeal.main_arg9) = m ((c.tc : Thread Cert.OutKernelIdeal.nD Cert.OutKernelIdeal.τ).loc Cert.OutKernelIdeal.main_arg9)
      ∧ r.2.mem ((c.tc : Thread Cert.OutKernelIdeal.nD Cert.OutKernelIdeal.τ).loc Cert.OutKernelIdeal.main_arg10) = m ((c.tc : Thread Cert.OutKernelIdeal.nD Cert.OutKernelIdeal.τ).loc Cert.OutKernelIdeal.main_arg10)
      ∧ r.2.mem ((c.tc : Thread Cert.OutKernelIdeal.nD Cert.OutKernelIdeal.τ).loc Cert.OutKernelIdeal.main_arg11) = m ((c.tc : Thread Cert.OutKernelIdeal.nD Cert.OutKernelIdeal.τ).loc Cert.OutKernelIdeal.main_arg11))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8)
      ∧ r.2.mem ((c.tc : Thread Cert.OutReferenceIdeal.nD Cert.OutReferenceIdeal.τ).loc Cert.OutReferenceIdeal.main_arg9) = m ((c.tc : Thread Cert.OutReferenceIdeal.nD Cert.OutReferenceIdeal.τ).loc Cert.OutReferenceIdeal.main_arg9)
      ∧ r.2.mem ((c.tc : Thread Cert.OutReferenceIdeal.nD Cert.OutReferenceIdeal.τ).loc Cert.OutReferenceIdeal.main_arg10) = m ((c.tc : Thread Cert.OutReferenceIdeal.nD Cert.OutReferenceIdeal.τ).loc Cert.OutReferenceIdeal.main_arg10)
      ∧ r.2.mem ((c.tc : Thread Cert.OutReferenceIdeal.nD Cert.OutReferenceIdeal.τ).loc Cert.OutReferenceIdeal.main_arg11) = m ((c.tc : Thread Cert.OutReferenceIdeal.nD Cert.OutReferenceIdeal.τ).loc Cert.OutReferenceIdeal.main_arg11))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3))
      ∧ r.2.sem = fun _ => 0)

def quiescent_MobaKernel [hMobaKernel : Cert.MobaKernel.Facts] : Prop :=
  ∀ (m : (ℓ : Loc Cert.MobaKernel.nD Cert.MobaKernel.τ Cert.MobaKernel.sig) → Buf (Elt Bits) ℓ) (g : Dev Cert.MobaKernel.nD → PrngReg), Pre_MobaKernel m →
    θ_run (Cert.MobaKernel.defs (F := Bits)) (onTc (τ := Cert.MobaKernel.τ) (Cert.MobaKernel.main (F := Bits))) ⟨m, fun _ => 0, g⟩ (fun r => (∀ c : Dev Cert.MobaKernel.nD,
      r.2.mem ((c.tc : Thread Cert.MobaKernel.nD Cert.MobaKernel.τ).loc Cert.MobaKernel.main_arg0) = m ((c.tc : Thread Cert.MobaKernel.nD Cert.MobaKernel.τ).loc Cert.MobaKernel.main_arg0)
      ∧ r.2.mem ((c.tc : Thread Cert.MobaKernel.nD Cert.MobaKernel.τ).loc Cert.MobaKernel.main_arg1) = m ((c.tc : Thread Cert.MobaKernel.nD Cert.MobaKernel.τ).loc Cert.MobaKernel.main_arg1)
      ∧ r.2.mem ((c.tc : Thread Cert.MobaKernel.nD Cert.MobaKernel.τ).loc Cert.MobaKernel.main_arg2) = m ((c.tc : Thread Cert.MobaKernel.nD Cert.MobaKernel.τ).loc Cert.MobaKernel.main_arg2)
      ∧ r.2.mem ((c.tc : Thread Cert.MobaKernel.nD Cert.MobaKernel.τ).loc Cert.MobaKernel.main_arg3) = m ((c.tc : Thread Cert.MobaKernel.nD Cert.MobaKernel.τ).loc Cert.MobaKernel.main_arg3))
      ∧ r.2.sem = fun _ => 0)

def quiescent_MobaKernelIdeal [hMobaKernelIdeal : Cert.MobaKernelIdeal.Facts] : Prop :=
  ∀ (m : (ℓ : Loc Cert.MobaKernelIdeal.nD Cert.MobaKernelIdeal.τ Cert.MobaKernelIdeal.sig) → Buf (Elt Ideal) ℓ) (g : Dev Cert.MobaKernelIdeal.nD → PrngReg), Pre_MobaKernelIdeal m →
    θ_run (Cert.MobaKernelIdeal.defs (F := Ideal)) (onTc (τ := Cert.MobaKernelIdeal.τ) (Cert.MobaKernelIdeal.main (F := Ideal))) ⟨m, fun _ => 0, g⟩ (fun r => (∀ c : Dev Cert.MobaKernelIdeal.nD,
      r.2.mem ((c.tc : Thread Cert.MobaKernelIdeal.nD Cert.MobaKernelIdeal.τ).loc Cert.MobaKernelIdeal.main_arg0) = m ((c.tc : Thread Cert.MobaKernelIdeal.nD Cert.MobaKernelIdeal.τ).loc Cert.MobaKernelIdeal.main_arg0)
      ∧ r.2.mem ((c.tc : Thread Cert.MobaKernelIdeal.nD Cert.MobaKernelIdeal.τ).loc Cert.MobaKernelIdeal.main_arg1) = m ((c.tc : Thread Cert.MobaKernelIdeal.nD Cert.MobaKernelIdeal.τ).loc Cert.MobaKernelIdeal.main_arg1)
      ∧ r.2.mem ((c.tc : Thread Cert.MobaKernelIdeal.nD Cert.MobaKernelIdeal.τ).loc Cert.MobaKernelIdeal.main_arg2) = m ((c.tc : Thread Cert.MobaKernelIdeal.nD Cert.MobaKernelIdeal.τ).loc Cert.MobaKernelIdeal.main_arg2)
      ∧ r.2.mem ((c.tc : Thread Cert.MobaKernelIdeal.nD Cert.MobaKernelIdeal.τ).loc Cert.MobaKernelIdeal.main_arg3) = m ((c.tc : Thread Cert.MobaKernelIdeal.nD Cert.MobaKernelIdeal.τ).loc Cert.MobaKernelIdeal.main_arg3))
      ∧ r.2.sem = fun _ => 0)

def quiescent_MobaKernelIdeal_pre_finite_qk_means [hMobaKernelIdeal : Cert.MobaKernelIdeal.Facts] [hPre_finite_qk_means : Cert.Pre_finite_qk_means.Facts] : Prop :=
  ∀ (m : (ℓ : Loc Cert.MobaKernelIdeal.nD Cert.MobaKernelIdeal.τ Cert.MobaKernelIdeal.sig) → Buf (Elt Ideal) ℓ) (g : Dev Cert.MobaKernelIdeal.nD → PrngReg), Pre_MobaKernelIdeal_finite_qk_means m →
    θ_run (Cert.MobaKernelIdeal.defs (F := Ideal)) (onTc (τ := Cert.MobaKernelIdeal.τ) (Cert.MobaKernelIdeal.main (F := Ideal))) ⟨m, fun _ => 0, g⟩ (fun r => (∀ c : Dev Cert.MobaKernelIdeal.nD,
      r.2.mem ((c.tc : Thread Cert.MobaKernelIdeal.nD Cert.MobaKernelIdeal.τ).loc Cert.MobaKernelIdeal.main_arg0) = m ((c.tc : Thread Cert.MobaKernelIdeal.nD Cert.MobaKernelIdeal.τ).loc Cert.MobaKernelIdeal.main_arg0)
      ∧ r.2.mem ((c.tc : Thread Cert.MobaKernelIdeal.nD Cert.MobaKernelIdeal.τ).loc Cert.MobaKernelIdeal.main_arg1) = m ((c.tc : Thread Cert.MobaKernelIdeal.nD Cert.MobaKernelIdeal.τ).loc Cert.MobaKernelIdeal.main_arg1)
      ∧ r.2.mem ((c.tc : Thread Cert.MobaKernelIdeal.nD Cert.MobaKernelIdeal.τ).loc Cert.MobaKernelIdeal.main_arg2) = m ((c.tc : Thread Cert.MobaKernelIdeal.nD Cert.MobaKernelIdeal.τ).loc Cert.MobaKernelIdeal.main_arg2)
      ∧ r.2.mem ((c.tc : Thread Cert.MobaKernelIdeal.nD Cert.MobaKernelIdeal.τ).loc Cert.MobaKernelIdeal.main_arg3) = m ((c.tc : Thread Cert.MobaKernelIdeal.nD Cert.MobaKernelIdeal.τ).loc Cert.MobaKernelIdeal.main_arg3))
      ∧ r.2.sem = fun _ => 0)

def quiescent_MobaReferenceIdeal [hMobaReferenceIdeal : Cert.MobaReferenceIdeal.Facts] : Prop :=
  ∀ (m : (ℓ : Loc Cert.MobaReferenceIdeal.nD Cert.MobaReferenceIdeal.τ Cert.MobaReferenceIdeal.sig) → Buf (Elt Ideal) ℓ) (g : Dev Cert.MobaReferenceIdeal.nD → PrngReg), Pre_MobaReferenceIdeal m →
    θ_run (Cert.MobaReferenceIdeal.defs (F := Ideal)) (onTc (τ := Cert.MobaReferenceIdeal.τ) (Cert.MobaReferenceIdeal.main (F := Ideal))) ⟨m, fun _ => 0, g⟩ (fun r => (∀ c : Dev Cert.MobaReferenceIdeal.nD,
      r.2.mem ((c.tc : Thread Cert.MobaReferenceIdeal.nD Cert.MobaReferenceIdeal.τ).loc Cert.MobaReferenceIdeal.main_arg0) = m ((c.tc : Thread Cert.MobaReferenceIdeal.nD Cert.MobaReferenceIdeal.τ).loc Cert.MobaReferenceIdeal.main_arg0)
      ∧ r.2.mem ((c.tc : Thread Cert.MobaReferenceIdeal.nD Cert.MobaReferenceIdeal.τ).loc Cert.MobaReferenceIdeal.main_arg1) = m ((c.tc : Thread Cert.MobaReferenceIdeal.nD Cert.MobaReferenceIdeal.τ).loc Cert.MobaReferenceIdeal.main_arg1)
      ∧ r.2.mem ((c.tc : Thread Cert.MobaReferenceIdeal.nD Cert.MobaReferenceIdeal.τ).loc Cert.MobaReferenceIdeal.main_arg2) = m ((c.tc : Thread Cert.MobaReferenceIdeal.nD Cert.MobaReferenceIdeal.τ).loc Cert.MobaReferenceIdeal.main_arg2)
      ∧ r.2.mem ((c.tc : Thread Cert.MobaReferenceIdeal.nD Cert.MobaReferenceIdeal.τ).loc Cert.MobaReferenceIdeal.main_arg3) = m ((c.tc : Thread Cert.MobaReferenceIdeal.nD Cert.MobaReferenceIdeal.τ).loc Cert.MobaReferenceIdeal.main_arg3))
      ∧ r.2.sem = fun _ => 0)

def quiescent_MobaReferenceIdeal_pre_finite_qk_means [hMobaReferenceIdeal : Cert.MobaReferenceIdeal.Facts] [hPre_finite_qk_means : Cert.Pre_finite_qk_means.Facts] : Prop :=
  ∀ (m : (ℓ : Loc Cert.MobaReferenceIdeal.nD Cert.MobaReferenceIdeal.τ Cert.MobaReferenceIdeal.sig) → Buf (Elt Ideal) ℓ) (g : Dev Cert.MobaReferenceIdeal.nD → PrngReg), Pre_MobaReferenceIdeal_finite_qk_means m →
    θ_run (Cert.MobaReferenceIdeal.defs (F := Ideal)) (onTc (τ := Cert.MobaReferenceIdeal.τ) (Cert.MobaReferenceIdeal.main (F := Ideal))) ⟨m, fun _ => 0, g⟩ (fun r => (∀ c : Dev Cert.MobaReferenceIdeal.nD,
      r.2.mem ((c.tc : Thread Cert.MobaReferenceIdeal.nD Cert.MobaReferenceIdeal.τ).loc Cert.MobaReferenceIdeal.main_arg0) = m ((c.tc : Thread Cert.MobaReferenceIdeal.nD Cert.MobaReferenceIdeal.τ).loc Cert.MobaReferenceIdeal.main_arg0)
      ∧ r.2.mem ((c.tc : Thread Cert.MobaReferenceIdeal.nD Cert.MobaReferenceIdeal.τ).loc Cert.MobaReferenceIdeal.main_arg1) = m ((c.tc : Thread Cert.MobaReferenceIdeal.nD Cert.MobaReferenceIdeal.τ).loc Cert.MobaReferenceIdeal.main_arg1)
      ∧ r.2.mem ((c.tc : Thread Cert.MobaReferenceIdeal.nD Cert.MobaReferenceIdeal.τ).loc Cert.MobaReferenceIdeal.main_arg2) = m ((c.tc : Thread Cert.MobaReferenceIdeal.nD Cert.MobaReferenceIdeal.τ).loc Cert.MobaReferenceIdeal.main_arg2)
      ∧ r.2.mem ((c.tc : Thread Cert.MobaReferenceIdeal.nD Cert.MobaReferenceIdeal.τ).loc Cert.MobaReferenceIdeal.main_arg3) = m ((c.tc : Thread Cert.MobaReferenceIdeal.nD Cert.MobaReferenceIdeal.τ).loc Cert.MobaReferenceIdeal.main_arg3))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)
      ∧ m' ((c.tc : Thread Cert.OutReferenceIdeal.nD Cert.OutReferenceIdeal.τ).loc Cert.OutReferenceIdeal.main_arg7) = m ((c.tc : Thread Cert.OutKernelIdeal.nD Cert.OutKernelIdeal.τ).loc Cert.OutKernelIdeal.main_arg7)
      ∧ m' ((c.tc : Thread Cert.OutReferenceIdeal.nD Cert.OutReferenceIdeal.τ).loc Cert.OutReferenceIdeal.main_arg8) = m ((c.tc : Thread Cert.OutKernelIdeal.nD Cert.OutKernelIdeal.τ).loc Cert.OutKernelIdeal.main_arg8)
      ∧ m' ((c.tc : Thread Cert.OutReferenceIdeal.nD Cert.OutReferenceIdeal.τ).loc Cert.OutReferenceIdeal.main_arg9) = m ((c.tc : Thread Cert.OutKernelIdeal.nD Cert.OutKernelIdeal.τ).loc Cert.OutKernelIdeal.main_arg9)
      ∧ m' ((c.tc : Thread Cert.OutReferenceIdeal.nD Cert.OutReferenceIdeal.τ).loc Cert.OutReferenceIdeal.main_arg10) = m ((c.tc : Thread Cert.OutKernelIdeal.nD Cert.OutKernelIdeal.τ).loc Cert.OutKernelIdeal.main_arg10)
      ∧ m' ((c.tc : Thread Cert.OutReferenceIdeal.nD Cert.OutReferenceIdeal.τ).loc Cert.OutReferenceIdeal.main_arg11) = m ((c.tc : Thread Cert.OutKernelIdeal.nD Cert.OutKernelIdeal.τ).loc Cert.OutKernelIdeal.main_arg11)) →
    ∃ (v0 : (c : Dev Cert.OutKernelIdeal.nD) → Buf (Elt Ideal) ((c.tc : Thread Cert.OutKernelIdeal.nD Cert.OutKernelIdeal.τ).loc Cert.OutKernelIdeal.main_v16)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v16) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
          ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
          ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8)
          ∧ r.2.mem ((c.tc : Thread Cert.OutKernelIdeal.nD Cert.OutKernelIdeal.τ).loc Cert.OutKernelIdeal.main_arg9) = m ((c.tc : Thread Cert.OutKernelIdeal.nD Cert.OutKernelIdeal.τ).loc Cert.OutKernelIdeal.main_arg9)
          ∧ r.2.mem ((c.tc : Thread Cert.OutKernelIdeal.nD Cert.OutKernelIdeal.τ).loc Cert.OutKernelIdeal.main_arg10) = m ((c.tc : Thread Cert.OutKernelIdeal.nD Cert.OutKernelIdeal.τ).loc Cert.OutKernelIdeal.main_arg10)
          ∧ r.2.mem ((c.tc : Thread Cert.OutKernelIdeal.nD Cert.OutKernelIdeal.τ).loc Cert.OutKernelIdeal.main_arg11) = m ((c.tc : Thread Cert.OutKernelIdeal.nD Cert.OutKernelIdeal.τ).loc Cert.OutKernelIdeal.main_arg11))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v63) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8)
          ∧ r.2.mem ((c.tc : Thread Cert.OutReferenceIdeal.nD Cert.OutReferenceIdeal.τ).loc Cert.OutReferenceIdeal.main_arg9) = m' ((c.tc : Thread Cert.OutReferenceIdeal.nD Cert.OutReferenceIdeal.τ).loc Cert.OutReferenceIdeal.main_arg9)
          ∧ r.2.mem ((c.tc : Thread Cert.OutReferenceIdeal.nD Cert.OutReferenceIdeal.τ).loc Cert.OutReferenceIdeal.main_arg10) = m' ((c.tc : Thread Cert.OutReferenceIdeal.nD Cert.OutReferenceIdeal.τ).loc Cert.OutReferenceIdeal.main_arg10)
          ∧ r.2.mem ((c.tc : Thread Cert.OutReferenceIdeal.nD Cert.OutReferenceIdeal.τ).loc Cert.OutReferenceIdeal.main_arg11) = m' ((c.tc : Thread Cert.OutReferenceIdeal.nD Cert.OutReferenceIdeal.τ).loc Cert.OutReferenceIdeal.main_arg11))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)) →
    ∃ (v0 : (c : Dev Cert.InKernelIdeal.nD) → Buf (Elt Ideal) ((c.tc : Thread Cert.InKernelIdeal.nD Cert.InKernelIdeal.τ).loc Cert.InKernelIdeal.main_v30_0)) (v1 : (c : Dev Cert.InKernelIdeal.nD) → Buf (Elt Ideal) ((c.tc : Thread Cert.InKernelIdeal.nD Cert.InKernelIdeal.τ).loc Cert.InKernelIdeal.main_v30_1)) (v2 : (c : Dev Cert.InKernelIdeal.nD) → Buf (Elt Ideal) ((c.tc : Thread Cert.InKernelIdeal.nD Cert.InKernelIdeal.τ).loc Cert.InKernelIdeal.main_v30_2)) (v3 : (c : Dev Cert.InKernelIdeal.nD) → Buf (Elt Ideal) ((c.tc : Thread Cert.InKernelIdeal.nD Cert.InKernelIdeal.τ).loc Cert.InKernelIdeal.main_v30_3)) (v4 : (c : Dev Cert.InKernelIdeal.nD) → Buf (Elt Ideal) ((c.tc : Thread Cert.InKernelIdeal.nD Cert.InKernelIdeal.τ).loc Cert.InKernelIdeal.main_v30_4)) (v5 : (c : Dev Cert.InKernelIdeal.nD) → Buf (Elt Ideal) ((c.tc : Thread Cert.InKernelIdeal.nD Cert.InKernelIdeal.τ).loc Cert.InKernelIdeal.main_v30_5)) (v6 : (c : Dev Cert.InKernelIdeal.nD) → Buf (Elt Ideal) ((c.tc : Thread Cert.InKernelIdeal.nD Cert.InKernelIdeal.τ).loc Cert.InKernelIdeal.main_v30_6)) (v7 : (c : Dev Cert.InKernelIdeal.nD) → Buf (Elt Ideal) ((c.tc : Thread Cert.InKernelIdeal.nD Cert.InKernelIdeal.τ).loc Cert.InKernelIdeal.main_v30_7)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v30_0) = v0 c
          ∧ r.2.mem ((c.tc : Thread Cert.InKernelIdeal.nD Cert.InKernelIdeal.τ).loc Cert.InKernelIdeal.main_v30_1) = v1 c
          ∧ r.2.mem ((c.tc : Thread Cert.InKernelIdeal.nD Cert.InKernelIdeal.τ).loc Cert.InKernelIdeal.main_v30_2) = v2 c
          ∧ r.2.mem ((c.tc : Thread Cert.InKernelIdeal.nD Cert.InKernelIdeal.τ).loc Cert.InKernelIdeal.main_v30_3) = v3 c
          ∧ r.2.mem ((c.tc : Thread Cert.InKernelIdeal.nD Cert.InKernelIdeal.τ).loc Cert.InKernelIdeal.main_v30_4) = v4 c
          ∧ r.2.mem ((c.tc : Thread Cert.InKernelIdeal.nD Cert.InKernelIdeal.τ).loc Cert.InKernelIdeal.main_v30_5) = v5 c
          ∧ r.2.mem ((c.tc : Thread Cert.InKernelIdeal.nD Cert.InKernelIdeal.τ).loc Cert.InKernelIdeal.main_v30_6) = v6 c
          ∧ r.2.mem ((c.tc : Thread Cert.InKernelIdeal.nD Cert.InKernelIdeal.τ).loc Cert.InKernelIdeal.main_v30_7) = v7 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v86) = v0 c
          ∧ r.2.mem ((c.tc : Thread Cert.InReferenceIdeal.nD Cert.InReferenceIdeal.τ).loc Cert.InReferenceIdeal.main_v89) = v1 c
          ∧ r.2.mem ((c.tc : Thread Cert.InReferenceIdeal.nD Cert.InReferenceIdeal.τ).loc Cert.InReferenceIdeal.main_v90) = v2 c
          ∧ r.2.mem ((c.tc : Thread Cert.InReferenceIdeal.nD Cert.InReferenceIdeal.τ).loc Cert.InReferenceIdeal.main_v93) = v3 c
          ∧ r.2.mem ((c.tc : Thread Cert.InReferenceIdeal.nD Cert.InReferenceIdeal.τ).loc Cert.InReferenceIdeal.main_v94) = v4 c
          ∧ r.2.mem ((c.tc : Thread Cert.InReferenceIdeal.nD Cert.InReferenceIdeal.τ).loc Cert.InReferenceIdeal.main_v95) = v5 c
          ∧ r.2.mem ((c.tc : Thread Cert.InReferenceIdeal.nD Cert.InReferenceIdeal.τ).loc Cert.InReferenceIdeal.main_v96) = v6 c
          ∧ r.2.mem ((c.tc : Thread Cert.InReferenceIdeal.nD Cert.InReferenceIdeal.τ).loc Cert.InReferenceIdeal.main_v73) = v7 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3))

def preserves_MobaKernel_MobaKernelIdeal : Prop :=
  IdealRules.named_const.Statement Cert.MobaKernelIdeal.κ "neg" .f32 0xF149F2CA#32 ⊥

def algebraic_MobaKernelIdeal_MobaReferenceIdeal_pre_finite_qk_means [hMobaKernelIdeal : Cert.MobaKernelIdeal.Facts] [hMobaReferenceIdeal : Cert.MobaReferenceIdeal.Facts] [hPre_finite_qk_means : Cert.Pre_finite_qk_means.Facts] : Prop :=
  ∀ (m : (ℓ : Loc Cert.MobaKernelIdeal.nD Cert.MobaKernelIdeal.τ Cert.MobaKernelIdeal.sig) → Buf (Elt Ideal) ℓ) (g : Dev Cert.MobaKernelIdeal.nD → PrngReg)
    (m' : (ℓ : Loc Cert.MobaReferenceIdeal.nD Cert.MobaReferenceIdeal.τ Cert.MobaReferenceIdeal.sig) → Buf (Elt Ideal) ℓ) (g' : Dev Cert.MobaReferenceIdeal.nD → PrngReg), Pre_MobaKernelIdeal_finite_qk_means m →
    (∀ c : Dev Cert.MobaKernelIdeal.nD,
      m' ((c.tc : Thread Cert.MobaReferenceIdeal.nD Cert.MobaReferenceIdeal.τ).loc Cert.MobaReferenceIdeal.main_arg0) = m ((c.tc : Thread Cert.MobaKernelIdeal.nD Cert.MobaKernelIdeal.τ).loc Cert.MobaKernelIdeal.main_arg0)
      ∧ m' ((c.tc : Thread Cert.MobaReferenceIdeal.nD Cert.MobaReferenceIdeal.τ).loc Cert.MobaReferenceIdeal.main_arg1) = m ((c.tc : Thread Cert.MobaKernelIdeal.nD Cert.MobaKernelIdeal.τ).loc Cert.MobaKernelIdeal.main_arg1)
      ∧ m' ((c.tc : Thread Cert.MobaReferenceIdeal.nD Cert.MobaReferenceIdeal.τ).loc Cert.MobaReferenceIdeal.main_arg2) = m ((c.tc : Thread Cert.MobaKernelIdeal.nD Cert.MobaKernelIdeal.τ).loc Cert.MobaKernelIdeal.main_arg2)
      ∧ m' ((c.tc : Thread Cert.MobaReferenceIdeal.nD Cert.MobaReferenceIdeal.τ).loc Cert.MobaReferenceIdeal.main_arg3) = m ((c.tc : Thread Cert.MobaKernelIdeal.nD Cert.MobaKernelIdeal.τ).loc Cert.MobaKernelIdeal.main_arg3)) →
    ∃ (v0 : (c : Dev Cert.MobaKernelIdeal.nD) → Buf (Elt Ideal) ((c.tc : Thread Cert.MobaKernelIdeal.nD Cert.MobaKernelIdeal.τ).loc Cert.MobaKernelIdeal.main_v1)),
      θ_run (Cert.MobaKernelIdeal.defs (F := Ideal)) (onTc (τ := Cert.MobaKernelIdeal.τ) (Cert.MobaKernelIdeal.main (F := Ideal))) ⟨m, fun _ => 0, g⟩ (fun r => ∀ c : Dev Cert.MobaKernelIdeal.nD,
          r.2.mem ((c.tc : Thread Cert.MobaKernelIdeal.nD Cert.MobaKernelIdeal.τ).loc Cert.MobaKernelIdeal.main_v1) = v0 c
          ∧ r.2.mem ((c.tc : Thread Cert.MobaKernelIdeal.nD Cert.MobaKernelIdeal.τ).loc Cert.MobaKernelIdeal.main_arg0) = m ((c.tc : Thread Cert.MobaKernelIdeal.nD Cert.MobaKernelIdeal.τ).loc Cert.MobaKernelIdeal.main_arg0)
          ∧ r.2.mem ((c.tc : Thread Cert.MobaKernelIdeal.nD Cert.MobaKernelIdeal.τ).loc Cert.MobaKernelIdeal.main_arg1) = m ((c.tc : Thread Cert.MobaKernelIdeal.nD Cert.MobaKernelIdeal.τ).loc Cert.MobaKernelIdeal.main_arg1)
          ∧ r.2.mem ((c.tc : Thread Cert.MobaKernelIdeal.nD Cert.MobaKernelIdeal.τ).loc Cert.MobaKernelIdeal.main_arg2) = m ((c.tc : Thread Cert.MobaKernelIdeal.nD Cert.MobaKernelIdeal.τ).loc Cert.MobaKernelIdeal.main_arg2)
          ∧ r.2.mem ((c.tc : Thread Cert.MobaKernelIdeal.nD Cert.MobaKernelIdeal.τ).loc Cert.MobaKernelIdeal.main_arg3) = m ((c.tc : Thread Cert.MobaKernelIdeal.nD Cert.MobaKernelIdeal.τ).loc Cert.MobaKernelIdeal.main_arg3))
      ∧ θ_run (Cert.MobaReferenceIdeal.defs (F := Ideal)) (onTc (τ := Cert.MobaReferenceIdeal.τ) (Cert.MobaReferenceIdeal.main (F := Ideal))) ⟨m', fun _ => 0, g'⟩ (fun r => ∀ c : Dev Cert.MobaReferenceIdeal.nD,
          r.2.mem ((c.tc : Thread Cert.MobaReferenceIdeal.nD Cert.MobaReferenceIdeal.τ).loc Cert.MobaReferenceIdeal.main_v69) = v0 c
          ∧ r.2.mem ((c.tc : Thread Cert.MobaReferenceIdeal.nD Cert.MobaReferenceIdeal.τ).loc Cert.MobaReferenceIdeal.main_arg0) = m' ((c.tc : Thread Cert.MobaReferenceIdeal.nD Cert.MobaReferenceIdeal.τ).loc Cert.MobaReferenceIdeal.main_arg0)
          ∧ r.2.mem ((c.tc : Thread Cert.MobaReferenceIdeal.nD Cert.MobaReferenceIdeal.τ).loc Cert.MobaReferenceIdeal.main_arg1) = m' ((c.tc : Thread Cert.MobaReferenceIdeal.nD Cert.MobaReferenceIdeal.τ).loc Cert.MobaReferenceIdeal.main_arg1)
          ∧ r.2.mem ((c.tc : Thread Cert.MobaReferenceIdeal.nD Cert.MobaReferenceIdeal.τ).loc Cert.MobaReferenceIdeal.main_arg2) = m' ((c.tc : Thread Cert.MobaReferenceIdeal.nD Cert.MobaReferenceIdeal.τ).loc Cert.MobaReferenceIdeal.main_arg2)
          ∧ r.2.mem ((c.tc : Thread Cert.MobaReferenceIdeal.nD Cert.MobaReferenceIdeal.τ).loc Cert.MobaReferenceIdeal.main_arg3) = m' ((c.tc : Thread Cert.MobaReferenceIdeal.nD Cert.MobaReferenceIdeal.τ).loc Cert.MobaReferenceIdeal.main_arg3))

def Claim : Prop :=
  ∃ (hKernel : Cert.Kernel.Facts) (hKernelIdeal : Cert.KernelIdeal.Facts) (hReferenceIdeal : Cert.ReferenceIdeal.Facts) (hOutKernel : Cert.OutKernel.Facts) (hOutKernelIdeal : Cert.OutKernelIdeal.Facts) (hOutReferenceIdeal : Cert.OutReferenceIdeal.Facts) (hInKernel : Cert.InKernel.Facts) (hInKernelIdeal : Cert.InKernelIdeal.Facts) (hInReferenceIdeal : Cert.InReferenceIdeal.Facts) (hMobaKernel : Cert.MobaKernel.Facts) (hMobaKernelIdeal : Cert.MobaKernelIdeal.Facts) (hMobaReferenceIdeal : Cert.MobaReferenceIdeal.Facts) (hPre_finite_qk : Cert.Pre_finite_qk.Facts) (hPre_finite_qk_means : Cert.Pre_finite_qk_means.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_MobaKernel (hMobaKernel := hMobaKernel)
    ∧ quiescent_MobaKernelIdeal (hMobaKernelIdeal := hMobaKernelIdeal)
    ∧ quiescent_MobaKernelIdeal_pre_finite_qk_means (hMobaKernelIdeal := hMobaKernelIdeal) (hPre_finite_qk_means := hPre_finite_qk_means)
    ∧ quiescent_MobaReferenceIdeal (hMobaReferenceIdeal := hMobaReferenceIdeal)
    ∧ quiescent_MobaReferenceIdeal_pre_finite_qk_means (hMobaReferenceIdeal := hMobaReferenceIdeal) (hPre_finite_qk_means := hPre_finite_qk_means)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_OutKernel_OutKernelIdeal
    ∧ algebraic_OutKernelIdeal_OutReferenceIdeal (hOutKernelIdeal := hOutKernelIdeal) (hOutReferenceIdeal := hOutReferenceIdeal)
    ∧ preserves_InKernel_InKernelIdeal
    ∧ algebraic_InKernelIdeal_InReferenceIdeal (hInKernelIdeal := hInKernelIdeal) (hInReferenceIdeal := hInReferenceIdeal)
    ∧ preserves_MobaKernel_MobaKernelIdeal
    ∧ algebraic_MobaKernelIdeal_MobaReferenceIdeal_pre_finite_qk_means (hMobaKernelIdeal := hMobaKernelIdeal) (hMobaReferenceIdeal := hMobaReferenceIdeal) (hPre_finite_qk_means := hPre_finite_qk_means)
-- ==== Pre_finite_qk.lean ====
abbrev S32x2048x512 : Shape := ⟨3, ![32, 2048, 512]⟩
abbrev S_ : Shape := ⟨0, ![]⟩

class Facts : Prop where
  bitsLt_bf16_f32 : FTy.bits .bf16 < FTy.bits .f32
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel

variable [Facts]

def fn {F : FTy → Type} [FloatOps F] (main_arg0 : FVec F S32x2048x512 .bf16) (main_arg1 : FVec F S32x2048x512 .bf16) (main_arg2 : FVec F S32x2048x512 .bf16) : IVec S_ 1 :=
  let main_v0 : FVec F S32x2048x512 .f32 := (extf .f32 · bitsLt_bf16_f32) main_arg0
  let main_v1 : FVec F S32x2048x512 .f32 := Host.absf main_v0
  let main_cst : FVec F S_ .f32 := constant S_ .f32 0x7F800000#32
  let main_v2 : FVec F S32x2048x512 .f32 := broadcastInDim S32x2048x512 ![] bcast_S_S32x2048x512 main_cst
  let main_v3 : IVec S32x2048x512 1 := cmpf .olt main_v1 main_v2
  let main_c : IVec S_ 1 := constantI S_ 1 1#1
  let main_v4 : IVec S_ 1 := (fun x v => Host.reduce IntOp.andi x v reducesTo_S32x2048x512_S_d0_1_2 h_S_) main_v3 main_c
  let main_v5 : FVec F S32x2048x512 .f32 := (extf .f32 · bitsLt_bf16_f32) main_arg1
  let main_v6 : FVec F S32x2048x512 .f32 := Host.absf main_v5
  let main_cst_0 : FVec F S_ .f32 := constant S_ .f32 0x7F800000#32
  let main_v7 : FVec F S32x2048x512 .f32 := broadcastInDim S32x2048x512 ![] bcast_S_S32x2048x512 main_cst_0
  let main_v8 : IVec S32x2048x512 1 := cmpf .olt main_v6 main_v7
  let main_c_1 : IVec S_ 1 := constantI S_ 1 1#1
  let main_v9 : IVec S_ 1 := (fun x v => Host.reduce IntOp.andi x v reducesTo_S32x2048x512_S_d0_1_2 h_S_) main_v8 main_c_1
  let main_v10 : IVec S_ 1 := andi main_v4 main_v9
  main_v10
-- ==== Pre_finite_qk_means.lean ====
abbrev S32x2048x512 : Shape := ⟨3, ![32, 2048, 512]⟩
abbrev S32x8x1x512 : Shape := ⟨4, ![32, 8, 1, 512]⟩
abbrev S_ : Shape := ⟨0, ![]⟩

class Facts : Prop where
  bitsLt_bf16_f32 : FTy.bits .bf16 < FTy.bits .f32
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S32x8x1x512 : S_.BroadcastsInDim S32x8x1x512 (![] : Fin 0 → Fin S32x8x1x512.rank)
  reducesTo_S32x8x1x512_S_d0_1_2_3 : S32x8x1x512.ReducesTo [0, 1, 2, 3] S_

variable [Facts]

def fn {F : FTy → Type} [FloatOps F] (main_arg0 : FVec F S32x2048x512 .bf16) (main_arg1 : FVec F S32x2048x512 .bf16) (main_arg2 : FVec F S32x2048x512 .bf16) (main_arg3 : FVec F S32x8x1x512 .f32) : IVec S_ 1 :=
  let main_v0 : FVec F S32x2048x512 .f32 := (extf .f32 · bitsLt_bf16_f32) main_arg0
  let main_v1 : FVec F S32x2048x512 .f32 := Host.absf main_v0
  let main_cst : FVec F S_ .f32 := constant S_ .f32 0x7F800000#32
  let main_v2 : FVec F S32x2048x512 .f32 := broadcastInDim S32x2048x512 ![] bcast_S_S32x2048x512 main_cst
  let main_v3 : IVec S32x2048x512 1 := cmpf .olt main_v1 main_v2
  let main_c : IVec S_ 1 := constantI S_ 1 1#1
  let main_v4 : IVec S_ 1 := (fun x v => Host.reduce IntOp.andi x v reducesTo_S32x2048x512_S_d0_1_2 h_S_) main_v3 main_c
  let main_v5 : FVec F S32x2048x512 .f32 := (extf .f32 · bitsLt_bf16_f32) main_arg1
  let main_v6 : FVec F S32x2048x512 .f32 := Host.absf main_v5
  let main_cst_0 : FVec F S_ .f32 := constant S_ .f32 0x7F800000#32
  let main_v7 : FVec F S32x2048x512 .f32 := broadcastInDim S32x2048x512 ![] bcast_S_S32x2048x512 main_cst_0
  let main_v8 : IVec S32x2048x512 1 := cmpf .olt main_v6 main_v7
  let main_c_1 : IVec S_ 1 := constantI S_ 1 1#1
  let main_v9 : IVec S_ 1 := (fun x v => Host.reduce IntOp.andi x v reducesTo_S32x2048x512_S_d0_1_2 h_S_) main_v8 main_c_1
  let main_v10 : IVec S_ 1 := andi main_v4 main_v9
  let main_v11 : FVec F S32x8x1x512 .f32 := Host.absf main_arg3
  let main_cst_2 : FVec F S_ .f32 := constant S_ .f32 0x7F800000#32
  let main_v12 : FVec F S32x8x1x512 .f32 := broadcastInDim S32x8x1x512 ![] bcast_S_S32x8x1x512 main_cst_2
  let main_v13 : IVec S32x8x1x512 1 := cmpf .olt main_v11 main_v12
  let main_c_3 : IVec S_ 1 := constantI S_ 1 1#1
  let main_v14 : IVec S_ 1 := (fun x v => Host.reduce IntOp.andi x v reducesTo_S32x8x1x512_S_d0_1_2_3 h_S_) main_v13 main_c_3
  let main_v15 : IVec S_ 1 := andi main_v10 main_v14
  main_v15
-- ==== Kernel.lean ====
abbrev S32x2048x512 : Shape := ⟨3, ![32, 2048, 512]⟩
abbrev S1x256x128 : Shape := ⟨3, ![1, 256, 128]⟩
abbrev S1x2048x128 : Shape := ⟨3, ![1, 2048, 128]⟩
abbrev S256x128 : Shape := ⟨2, ![256, 128]⟩
abbrev S256x256 : Shape := ⟨2, ![256, 256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x2048x512, .bf16⟩
  | .hbm, ⟨3, _⟩ => ⟨S32x2048x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | _, _ => ⟨S32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 4, 8], ![false, false, false]⟩

def k0_mult1 (i : grid0.Coords) : BitVec 32 :=
  let arg2 : BitVec 32 := BitVec.ofNat 32 (i 2).val
  let c256_i32 : BitVec 32 := 256#32
  let v18 : BitVec 32 := Scalar.muli arg2 c256_i32
  v18
def k0_off1 (i : grid0.Coords) : Fin 3 → Nat :=
  let c0_4 : Index := 0#32
  let arg2 : BitVec 32 := BitVec.ofNat 32 (i 2).val
  let c256_i32 : BitVec 32 := 256#32
  let v18 : BitVec 32 := Scalar.muli arg2 c256_i32
  let v19 : BitVec 32 := v18
  let v20 : Index := Scalar.indexCast v19
  let c0_5 : Index := 0#32
  ![0, v20.toNat, 0]
@[reducible] def k0_t1_loop (i : grid0.Coords) : Scf.Loop 32 :=
  let c0_i32_17 : BitVec 32 := 0#32
  let arg2 : BitVec 32 := BitVec.ofNat 32 (i 2).val
  let v56 : BitVec 32 := Scalar.subi arg2 c0_i32_17
  let c1_i32 : BitVec 32 := 1#32
  let v58 : BitVec 32 := Scalar.divsi v56 c1_i32
  let v59 : BitVec 32 := Scalar.muli v58 c1_i32
  let v60 : BitVec 32 := Scalar.addi c0_i32_17 v59
  let c1_i32_18 : BitVec 32 := 1#32
  ⟨c0_i32_17, v60, c1_i32_18⟩
def k0_mult2 (i : grid0.Coords) (k0_t1 : Fin (k0_t1_loop i).trips) : BitVec 32 :=
  let arg2 : BitVec 32 := BitVec.ofNat 32 (i 2).val
  let c1_i32_43 : BitVec 32 := 1#32
  let v120 : BitVec 32 := Scalar.subi arg2 c1_i32_43
  let c0_i32_17 : BitVec 32 := 0#32
  let c1_i32_18 : BitVec 32 := 1#32
  let arg7 : BitVec 32 := Scf.iv c0_i32_17 c1_i32_18 k0_t1
  let v121 : BitVec 32 := Scalar.subi v120 arg7
  let c256_i32_44 : BitVec 32 := 256#32
  let v122 : BitVec 32 := Scalar.muli v121 c256_i32_44
  v122
def k0_off2 (i : grid0.Coords) (k0_t1 : Fin (k0_t1_loop i).trips) : Fin 3 → Nat :=
  let c0_45 : Index := 0#32
  let arg2 : BitVec 32 := BitVec.ofNat 32 (i 2).val
  let c1_i32_43 : BitVec 32 := 1#32
  let v120 : BitVec 32 := Scalar.subi arg2 c1_i32_43
  let c0_i32_17 : BitVec 32 := 0#32
  let c1_i32_18 : BitVec 32 := 1#32
  let arg7 : BitVec 32 := Scf.iv c0_i32_17 c1_i32_18 k0_t1
  let v121 : BitVec 32 := Scalar.subi v120 arg7
  let c256_i32_44 : BitVec 32 := 256#32
  let v122 : BitVec 32 := Scalar.muli v121 c256_i32_44
  let v123 : BitVec 32 := v122
  let v124 : Index := Scalar.indexCast v123
  let c0_46 : Index := 0#32
  ![0, v124.toNat, 0]
@[reducible] def k0_t2_loop (i : grid0.Coords) : Scf.Loop 32 :=
  let c0_i32_17 : BitVec 32 := 0#32
  let arg2 : BitVec 32 := BitVec.ofNat 32 (i 2).val
  let v56 : BitVec 32 := Scalar.subi arg2 c0_i32_17
  let c1_i32 : BitVec 32 := 1#32
  let v58 : BitVec 32 := Scalar.divsi v56 c1_i32
  let v59 : BitVec 32 := Scalar.muli v58 c1_i32
  let v60 : BitVec 32 := Scalar.addi c0_i32_17 v59
  let v57 : BitVec 32 := Scalar.addi c0_i32_17 v56
  let c1_i32_19 : BitVec 32 := 1#32
  ⟨v60, v57, c1_i32_19⟩
def k0_mult3 (i : grid0.Coords) (k0_t2 : Fin (k0_t2_loop i).trips) : BitVec 32 :=
  let arg2 : BitVec 32 := BitVec.ofNat 32 (i 2).val
  let c1_i32_43 : BitVec 32 := 1#32
  let v120 : BitVec 32 := Scalar.subi arg2 c1_i32_43
  let c0_i32_17 : BitVec 32 := 0#32
  let v56 : BitVec 32 := Scalar.subi arg2 c0_i32_17
  let c1_i32 : BitVec 32 := 1#32
  let v58 : BitVec 32 := Scalar.divsi v56 c1_i32
  let v59 : BitVec 32 := Scalar.muli v58 c1_i32
  let v60 : BitVec 32 := Scalar.addi c0_i32_17 v59
  let c1_i32_19 : BitVec 32 := 1#32
  let arg7 : BitVec 32 := Scf.iv v60 c1_i32_19 k0_t2
  let v121 : BitVec 32 := Scalar.subi v120 arg7
  let c256_i32_44 : BitVec 32 := 256#32
  let v122 : BitVec 32 := Scalar.muli v121 c256_i32_44
  v122
def k0_off3 (i : grid0.Coords) (k0_t2 : Fin (k0_t2_loop i).trips) : Fin 3 → Nat :=
  let c0_45 : Index := 0#32
  let arg2 : BitVec 32 := BitVec.ofNat 32 (i 2).val
  let c1_i32_43 : BitVec 32 := 1#32
  let v120 : BitVec 32 := Scalar.subi arg2 c1_i32_43
  let c0_i32_17 : BitVec 32 := 0#32
  let v56 : BitVec 32 := Scalar.subi arg2 c0_i32_17
  let c1_i32 : BitVec 32 := 1#32
  let v58 : BitVec 32 := Scalar.divsi v56 c1_i32
  let v59 : BitVec 32 := Scalar.muli v58 c1_i32
  let v60 : BitVec 32 := Scalar.addi c0_i32_17 v59
  let c1_i32_19 : BitVec 32 := 1#32
  let arg7 : BitVec 32 := Scf.iv v60 c1_i32_19 k0_t2
  let v121 : BitVec 32 := Scalar.subi v120 arg7
  let c256_i32_44 : BitVec 32 := 256#32
  let v122 : BitVec 32 := Scalar.muli v121 c256_i32_44
  let v123 : BitVec 32 := v122
  let v124 : Index := Scalar.indexCast v123
  let c0_46 : Index := 0#32
  ![0, v124.toNat, 0]
def k0_mult4 (i : grid0.Coords) : BitVec 32 :=
  let arg2 : BitVec 32 := BitVec.ofNat 32 (i 2).val
  let c256_i32_22 : BitVec 32 := 256#32
  let v70 : BitVec 32 := Scalar.muli arg2 c256_i32_22
  v70
@[reducible] def k0_t3_loop (i : grid0.Coords) : Scf.Loop 32 :=
  let c0_i32_36 : BitVec 32 := 0#32
  let arg2 : BitVec 32 := BitVec.ofNat 32 (i 2).val
  let v108 : BitVec 32 := Scalar.subi arg2 c0_i32_36
  let c1_i32_37 : BitVec 32 := 1#32
  let v110 : BitVec 32 := Scalar.divsi v108 c1_i32_37
  let v111 : BitVec 32 := Scalar.muli v110 c1_i32_37
  let v112 : BitVec 32 := Scalar.addi c0_i32_36 v111
  let c1_i32_38 : BitVec 32 := 1#32
  ⟨c0_i32_36, v112, c1_i32_38⟩
def k0_mult5 (i : grid0.Coords) (k0_t3 : Fin (k0_t3_loop i).trips) : BitVec 32 :=
  let arg2 : BitVec 32 := BitVec.ofNat 32 (i 2).val
  let c1_i32_43 : BitVec 32 := 1#32
  let v120 : BitVec 32 := Scalar.subi arg2 c1_i32_43
  let c0_i32_36 : BitVec 32 := 0#32
  let c1_i32_38 : BitVec 32 := 1#32
  let arg7 : BitVec 32 := Scf.iv c0_i32_36 c1_i32_38 k0_t3
  let v121 : BitVec 32 := Scalar.subi v120 arg7
  let c256_i32_44 : BitVec 32 := 256#32
  let v122 : BitVec 32 := Scalar.muli v121 c256_i32_44
  v122
def k0_off4 (i : grid0.Coords) (k0_t3 : Fin (k0_t3_loop i).trips) : Fin 3 → Nat :=
  let c0_45 : Index := 0#32
  let arg2 : BitVec 32 := BitVec.ofNat 32 (i 2).val
  let c1_i32_43 : BitVec 32 := 1#32
  let v120 : BitVec 32 := Scalar.subi arg2 c1_i32_43
  let c0_i32_36 : BitVec 32 := 0#32
  let c1_i32_38 : BitVec 32 := 1#32
  let arg7 : BitVec 32 := Scf.iv c0_i32_36 c1_i32_38 k0_t3
  let v121 : BitVec 32 := Scalar.subi v120 arg7
  let c256_i32_44 : BitVec 32 := 256#32
  let v122 : BitVec 32 := Scalar.muli v121 c256_i32_44
  let v123 : BitVec 32 := v122
  let v124 : Index := Scalar.indexCast v123
  let c0_46 : Index := 0#32
  ![0, v124.toNat, 0]
@[reducible] def k0_t4_loop (i : grid0.Coords) : Scf.Loop 32 :=
  let c0_i32_36 : BitVec 32 := 0#32
  let arg2 : BitVec 32 := BitVec.ofNat 32 (i 2).val
  let v108 : BitVec 32 := Scalar.subi arg2 c0_i32_36
  let c1_i32_37 : BitVec 32 := 1#32
  let v110 : BitVec 32 := Scalar.divsi v108 c1_i32_37
  let v111 : BitVec 32 := Scalar.muli v110 c1_i32_37
  let v112 : BitVec 32 := Scalar.addi c0_i32_36 v111
  let v109 : BitVec 32 := Scalar.addi c0_i32_36 v108
  let c1_i32_39 : BitVec 32 := 1#32
  ⟨v112, v109, c1_i32_39⟩
def k0_mult6 (i : grid0.Coords) (k0_t4 : Fin (k0_t4_loop i).trips) : BitVec 32 :=
  let arg2 : BitVec 32 := BitVec.ofNat 32 (i 2).val
  let c1_i32_43 : BitVec 32 := 1#32
  let v120 : BitVec 32 := Scalar.subi arg2 c1_i32_43
  let c0_i32_36 : BitVec 32 := 0#32
  let v108 : BitVec 32 := Scalar.subi arg2 c0_i32_36
  let c1_i32_37 : BitVec 32 := 1#32
  let v110 : BitVec 32 := Scalar.divsi v108 c1_i32_37
  let v111 : BitVec 32 := Scalar.muli v110 c1_i32_37
  let v112 : BitVec 32 := Scalar.addi c0_i32_36 v111
  let c1_i32_39 : BitVec 32 := 1#32
  let arg7 : BitVec 32 := Scf.iv v112 c1_i32_39 k0_t4
  let v121 : BitVec 32 := Scalar.subi v120 arg7
  let c256_i32_44 : BitVec 32 := 256#32
  let v122 : BitVec 32 := Scalar.muli v121 c256_i32_44
  v122
def k0_off5 (i : grid0.Coords) (k0_t4 : Fin (k0_t4_loop i).trips) : Fin 3 → Nat :=
  let c0_45 : Index := 0#32
  let arg2 : BitVec 32 := BitVec.ofNat 32 (i 2).val
  let c1_i32_43 : BitVec 32 := 1#32
  let v120 : BitVec 32 := Scalar.subi arg2 c1_i32_43
  let c0_i32_36 : BitVec 32 := 0#32
  let v108 : BitVec 32 := Scalar.subi arg2 c0_i32_36
  let c1_i32_37 : BitVec 32 := 1#32
  let v110 : BitVec 32 := Scalar.divsi v108 c1_i32_37
  let v111 : BitVec 32 := Scalar.muli v110 c1_i32_37
  let v112 : BitVec 32 := Scalar.addi c0_i32_36 v111
  let c1_i32_39 : BitVec 32 := 1#32
  let arg7 : BitVec 32 := Scf.iv v112 c1_i32_39 k0_t4
  let v121 : BitVec 32 := Scalar.subi v120 arg7
  let c256_i32_44 : BitVec 32 := 256#32
  let v122 : BitVec 32 := Scalar.muli v121 c256_i32_44
  let v123 : BitVec 32 := v122
  let v124 : Index := Scalar.indexCast v123
  let c0_46 : Index := 0#32
  ![0, v124.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S32x2048x512 : Shape := ⟨3, ![32, 2048, 512]⟩
abbrev S32x2048x8x64 : Shape := ⟨4, ![32, 2048, 8, 64]⟩
abbrev S32x8x2048x64 : Shape := ⟨4, ![32, 8, 2048, 64]⟩
abbrev S32x8x2048x2048 : Shape := ⟨4, ![32, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩

abbrev nBuf : Space → Nat
  | .hbm => 73
  | .vmem => 0
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x2048x512, .bf16⟩
  | .hbm, ⟨3, _⟩ => ⟨S32x2048x512, .f32⟩
  | .hbm, ⟨4, _⟩ => ⟨S32x2048x8x64, .f32⟩
  | .hbm, ⟨5, _⟩ => ⟨S32x8x2048x64, .f32⟩
  | .hbm, ⟨6, _⟩ => ⟨S32x2048x512, .f32⟩
  | .hbm, ⟨7, _⟩ => ⟨S32x2048x8x64, .f32⟩
  | .hbm, ⟨8, _⟩ => ⟨S32x8x2048x64, .f32⟩
  | .hbm, ⟨9, _⟩ => ⟨S32x2048x512, .f32⟩
  | .hbm, ⟨10, _⟩ => ⟨S32x2048x8x64, .f32⟩
  | .hbm, ⟨11, _⟩ => ⟨S32x8x2048x64, .f32⟩
  | .hbm, ⟨12, _⟩ => ⟨S32x8x2048x2048, .f32⟩
  | .hbm, ⟨13, _⟩ => ⟨S2048, .i32⟩
  | .hbm, ⟨14, _⟩ => ⟨S1x2048, .i32⟩
  | .hbm, ⟨15, _⟩ => ⟨S2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S32x8x2048x2048, .f32⟩
  | .hbm, ⟨21, _⟩ => ⟨S32x8x2048x2048, .f32⟩
  | .hbm, ⟨22, _⟩ => ⟨S_, .f32⟩
  | .hbm, ⟨23, _⟩ => ⟨S32x8x2048x2048, .f32⟩
  | .hbm, ⟨24, _⟩ => ⟨S32x8x2048x2048, .f32⟩
  | .hbm, ⟨25, _⟩ => ⟨S32x8x2048x2048, .f32⟩
  | .hbm, ⟨26, _⟩ => ⟨S32x8x2048x2048, .f32⟩
  | .hbm, ⟨27, _⟩ => ⟨S32x8x2048x2048, .i1⟩
  | .hbm, ⟨28, _⟩ => ⟨S32x8x2048x2048, .f32⟩
  | .hbm, ⟨29, _⟩ => ⟨S32x8x2048x2048, .f32⟩
  | .hbm, ⟨30, _⟩ => ⟨S32x8x2048x2048, .f32⟩
  | .hbm, ⟨31, _⟩ => ⟨S32x8x2048x2048, .f32⟩
  | .hbm, ⟨32, _⟩ => ⟨S32x8x2048x2048, .f32⟩
  | .hbm, ⟨33, _⟩ => ⟨S32x8x2048x2048, .f32⟩
  | .hbm, ⟨34, _⟩ => ⟨S32x8x2048x2048, .f32⟩
  | .hbm, ⟨35, _⟩ => ⟨S32x8x2048x2048, .f32⟩
  | .hbm, ⟨36, _⟩ => ⟨S32x8x2048x2048, .f32⟩
  | .hbm, ⟨37, _⟩ => ⟨S_, .f32⟩
  | .hbm, ⟨38, _⟩ => ⟨S_, .f32⟩
  | .hbm, ⟨39, _⟩ => ⟨S32x8x2048x2048, .i1⟩
  | .hbm, ⟨40, _⟩ => ⟨S32x8x2048x2048, .f32⟩
  | .hbm, ⟨41, _⟩ => ⟨S32x8x2048x2048, .f32⟩
  | .hbm, ⟨42, _⟩ => ⟨S_, .f32⟩
  | .hbm, ⟨43, _⟩ => ⟨S_, .f32⟩
  | .hbm, ⟨44, _⟩ => ⟨S32x8x2048x2048, .f32⟩
  | .hbm, ⟨45, _⟩ => ⟨S32x8x2048x2048, .f32⟩
  | .hbm, ⟨46, _⟩ => ⟨S32x8x2048x2048, .f32⟩
  | .hbm, ⟨47, _⟩ => ⟨S_, .f32⟩
  | .hbm, ⟨48, _⟩ => ⟨S32x8x2048x2048, .f32⟩
  | .hbm, ⟨49, _⟩ => ⟨S32x8x2048x2048, .f32⟩
  | .hbm, ⟨50, _⟩ => ⟨S32x8x2048x2048, .f32⟩
  | .hbm, ⟨51, _⟩ => ⟨S32x8x2048x2048, .f32⟩
  | .hbm, ⟨52, _⟩ => ⟨S32x8x2048x2048, .i1⟩
  | .hbm, ⟨53, _⟩ => ⟨S32x8x2048x2048, .f32⟩
  | .hbm, ⟨54, _⟩ => ⟨S32x8x2048x2048, .f32⟩
  | .hbm, ⟨55, _⟩ => ⟨S32x8x2048x2048, .f32⟩
  | .hbm, ⟨56, _⟩ => ⟨S32x8x2048x2048, .f32⟩
  | .hbm, ⟨57, _⟩ => ⟨S32x8x2048x2048, .f32⟩
  | .hbm, ⟨58, _⟩ => ⟨S32x8x2048x2048, .f32⟩
  | .hbm, ⟨59, _⟩ => ⟨S32x8x2048x2048, .f32⟩
  | .hbm, ⟨60, _⟩ => ⟨S32x8x2048x2048, .f32⟩
  | .hbm, ⟨61, _⟩ => ⟨S32x8x2048x2048, .f32⟩
  | .hbm, ⟨62, _⟩ => ⟨S32x8x2048x2048, .f32⟩
  | .hbm, ⟨63, _⟩ => ⟨S32x8x2048x2048, .f32⟩
  | .hbm, ⟨64, _⟩ => ⟨S_, .f32⟩
  | .hbm, ⟨65, _⟩ => ⟨S_, .f32⟩
  | .hbm, ⟨66, _⟩ => ⟨S32x8x2048x2048, .i1⟩
  | .hbm, ⟨67, _⟩ => ⟨S32x8x2048x2048, .f32⟩
  | .hbm, ⟨68, _⟩ => ⟨S32x8x2048x2048, .f32⟩
  | .hbm, ⟨69, _⟩ => ⟨S32x8x2048x64, .f32⟩
  | .hbm, ⟨70, _⟩ => ⟨S32x2048x8x64, .f32⟩
  | .hbm, ⟨71, _⟩ => ⟨S32x2048x512, .f32⟩
  | .hbm, ⟨72, _⟩ => ⟨S32x2048x512, .bf16⟩
  | _, _ => ⟨S32x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_call2_cst : Ref sig .tc := ⟨.hbm, 42, rfl⟩
abbrev main_call2_v0 : Ref sig .tc := ⟨.hbm, 43, rfl⟩
abbrev main_v20 : Ref sig .tc := ⟨.hbm, 44, rfl⟩
abbrev main_v21 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_0 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩

abbrev nD : Nat := 1
abbrev τ : Topo := Topo.v7x

variable {F : FTy → Type} [FloatOps F]
-- ==== OutKernel.lean ====
abbrev S65536x1024 : Shape := ⟨2, ![65536, 1024]⟩
abbrev S65536x512 : Shape := ⟨2, ![65536, 512]⟩
abbrev S65536x2048 : Shape := ⟨2, ![65536, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 29
  | .vmem => 18
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S65536x2048, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S1x1024x4096, .f32⟩
  | .hbm, ⟨10, _⟩ => ⟨S1x4096x1024, .f32⟩
  | .hbm, ⟨11, _⟩ => ⟨S1x1024, .f32⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1024x1024, .f32⟩
  | .hbm, ⟨17, _⟩ => ⟨S1024x1024, .bf16⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024x4096, .f32⟩
  | .hbm, ⟨23, _⟩ => ⟨S1024x4096, .bf16⟩
  | .hbm, ⟨24, _⟩ => ⟨S4096x1024, .f32⟩
  | .hbm, ⟨25, _⟩ => ⟨S4096x1024, .bf16⟩
  | .hbm, ⟨26, _⟩ => ⟨S1024, .f32⟩
  | .hbm, ⟨27, _⟩ => ⟨S1x1024, .f32⟩
  | .hbm, ⟨28, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x4096, .bf16⟩
  | .local _ .vmem, ⟨14, _⟩ => ⟨S4096x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutReferenceIdeal.lean ====
abbrev S65536x1024 : Shape := ⟨2, ![65536, 1024]⟩
abbrev S65536x512 : Shape := ⟨2, ![65536, 512]⟩
abbrev S65536x2048 : Shape := ⟨2, ![65536, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1024x4096 : Shape := ⟨2, ![1024, 4096]⟩
abbrev S65536x4096 : Shape := ⟨2, ![65536, 4096]⟩
abbrev S4096x1024 : Shape := ⟨2, ![4096, 1024]⟩

abbrev nBuf : Space → Nat
  | .hbm => 87
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S65536x2048, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S1x1024x4096, .f32⟩
  | .hbm, ⟨10, _⟩ => ⟨S1x4096x1024, .f32⟩
  | .hbm, ⟨11, _⟩ => ⟨S1x1024, .f32⟩
  | .hbm, ⟨12, _⟩ => ⟨S65536x512, .f32⟩
  | .hbm, ⟨13, _⟩ => ⟨S512x1024, .f32⟩
  | .hbm, ⟨14, _⟩ => ⟨S65536x1024, .f32⟩
  | .hbm, ⟨15, _⟩ => ⟨S65536x512, .f32⟩
  | .hbm, ⟨16, _⟩ => ⟨S512x1024, .f32⟩
  | .hbm, ⟨17, _⟩ => ⟨S65536x1024, .f32⟩
  | .hbm, ⟨18, _⟩ => ⟨S65536x2048, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S1024x1024, .f32⟩
  | .hbm, ⟨25, _⟩ => ⟨S65536x1024, .f32⟩
  | .hbm, ⟨26, _⟩ => ⟨S1024, .f32⟩
  | .hbm, ⟨27, _⟩ => ⟨S65536x1024, .f32⟩
  | .hbm, ⟨28, _⟩ => ⟨S_, .f32⟩
  | .hbm, ⟨29, _⟩ => ⟨S65536, .f32⟩
  | .hbm, ⟨30, _⟩ => ⟨S65536x1, .f32⟩
  | .hbm, ⟨31, _⟩ => ⟨S_, .f32⟩
  | .hbm, ⟨32, _⟩ => ⟨S65536x1, .f32⟩
  | .hbm, ⟨33, _⟩ => ⟨S65536x1, .f32⟩
  | .hbm, ⟨34, _⟩ => ⟨S_, .f32⟩
  | .hbm, ⟨35, _⟩ => ⟨S65536x1, .f32⟩
  | .hbm, ⟨36, _⟩ => ⟨S65536x1, .f32⟩
  | .hbm, ⟨37, _⟩ => ⟨S65536x1, .f32⟩
  | .hbm, ⟨38, _⟩ => ⟨S65536x1024, .f32⟩
  | .hbm, ⟨39, _⟩ => ⟨S65536x1024, .f32⟩
  | .hbm, ⟨40, _⟩ => ⟨S1x1024, .f32⟩
  | .hbm, ⟨41, _⟩ => ⟨S65536x1024, .f32⟩
  | .hbm, ⟨42, _⟩ => ⟨S65536x1024, .f32⟩
  | .hbm, ⟨43, _⟩ => ⟨S65536x1024, .f32⟩
  | .hbm, ⟨44, _⟩ => ⟨S1024, .f32⟩
  | .hbm, ⟨45, _⟩ => ⟨S65536x1024, .f32⟩
  | .hbm, ⟨46, _⟩ => ⟨S_, .f32⟩
  | .hbm, ⟨47, _⟩ => ⟨S65536, .f32⟩
  | .hbm, ⟨48, _⟩ => ⟨S65536x1, .f32⟩
  | .hbm, ⟨49, _⟩ => ⟨S_, .f32⟩
  | .hbm, ⟨50, _⟩ => ⟨S65536x1, .f32⟩
  | .hbm, ⟨51, _⟩ => ⟨S65536x1, .f32⟩
  | .hbm, ⟨52, _⟩ => ⟨S_, .f32⟩
  | .hbm, ⟨53, _⟩ => ⟨S65536x1, .f32⟩
  | .hbm, ⟨54, _⟩ => ⟨S65536x1, .f32⟩
  | .hbm, ⟨55, _⟩ => ⟨S65536x1, .f32⟩
  | .hbm, ⟨56, _⟩ => ⟨S65536x1024, .f32⟩
  | .hbm, ⟨57, _⟩ => ⟨S65536x1024, .f32⟩
  | .hbm, ⟨58, _⟩ => ⟨S1x1024, .f32⟩
  | .hbm, ⟨59, _⟩ => ⟨S65536x1024, .f32⟩
  | .hbm, ⟨60, _⟩ => ⟨S65536x1024, .f32⟩
  | .hbm, ⟨61, _⟩ => ⟨S1024x4096, .f32⟩
  | .hbm, ⟨62, _⟩ => ⟨S65536x4096, .f32⟩
  | .hbm, ⟨63, _⟩ => ⟨S_, .f32⟩
  | .hbm, ⟨64, _⟩ => ⟨S65536x4096, .f32⟩
  | .hbm, ⟨65, _⟩ => ⟨S65536x4096, .f32⟩
  | .hbm, ⟨66, _⟩ => ⟨S65536x4096, .f32⟩
  | .hbm, ⟨67, _⟩ => ⟨S4096x1024, .f32⟩
  | .hbm, ⟨68, _⟩ => ⟨S65536x1024, .f32⟩
  | .hbm, ⟨69, _⟩ => ⟨S1024, .f32⟩
  | .hbm, ⟨70, _⟩ => ⟨S65536x1024, .f32⟩
  | .hbm, ⟨71, _⟩ => ⟨S_, .f32⟩
  | .hbm, ⟨72, _⟩ => ⟨S65536, .f32⟩
  | .hbm, ⟨73, _⟩ => ⟨S65536x1, .f32⟩
  | .hbm, ⟨74, _⟩ => ⟨S_, .f32⟩
  | .hbm, ⟨75, _⟩ => ⟨S65536x1, .f32⟩
  | .hbm, ⟨76, _⟩ => ⟨S65536x1, .f32⟩
  | .hbm, ⟨77, _⟩ => ⟨S_, .f32⟩
  | .hbm, ⟨78, _⟩ => ⟨S65536x1, .f32⟩
  | .hbm, ⟨79, _⟩ => ⟨S65536x1, .f32⟩
  | .hbm, ⟨80, _⟩ => ⟨S65536x1, .f32⟩
  | .hbm, ⟨81, _⟩ => ⟨S65536x1024, .f32⟩
  | .hbm, ⟨82, _⟩ => ⟨S65536x1024, .f32⟩
  | .hbm, ⟨83, _⟩ => ⟨S1x1024, .f32⟩
  | .hbm, ⟨84, _⟩ => ⟨S65536x1024, .f32⟩
  | .hbm, ⟨85, _⟩ => ⟨S65536x1024, .f32⟩
  | .hbm, ⟨86, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call0_cst : Ref sig .tc := ⟨.hbm, 63, rfl⟩
abbrev main_call0_v0 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_5 : Ref sig .tc := ⟨.hbm, 71, rfl⟩
abbrev main_v51 : Ref sig .tc := ⟨.hbm, 72, rfl⟩
abbrev main_v52 : Ref sig .tc := ⟨.hbm, 73, rfl⟩
abbrev main_cst_6 : Ref sig .tc := ⟨.hbm, 74, rfl⟩
abbrev main_v53 : Ref sig .tc := ⟨.hbm, 75, rfl⟩
abbrev main_v54 : Ref sig .tc := ⟨.hbm, 76, rfl⟩
abbrev main_cst_7 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== InKernel.lean ====
abbrev S32x2048x1024 : Shape := ⟨3, ![32, 2048, 1024]⟩
abbrev S1x1024 : Shape := ⟨2, ![1, 1024]⟩
abbrev S1x1024x5120 : Shape := ⟨3, ![1, 1024, 5120]⟩
abbrev S1x2048 : Shape := ⟨2, ![1, 2048]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S128 : Shape := ⟨1, ![128]⟩
abbrev S1024 : Shape := ⟨1, ![1024]⟩
abbrev S1024x5120 : Shape := ⟨2, ![1024, 5120]⟩
abbrev S32x2048x512 : Shape := ⟨3, ![32, 2048, 512]⟩
abbrev S32x2048x2048 : Shape := ⟨3, ![32, 2048, 2048]⟩
abbrev S32x8x1x512 : Shape := ⟨4, ![32, 8, 1, 512]⟩
abbrev S1x512x1024 : Shape := ⟨3, ![1, 512, 1024]⟩
abbrev S512x128 : Shape := ⟨2, ![512, 128]⟩
abbrev S1x512x512 : Shape := ⟨3, ![1, 512, 512]⟩
abbrev S1x512x2048 : Shape := ⟨3, ![1, 512, 2048]⟩
abbrev S1x2x1x512 : Shape := ⟨4, ![1, 2, 1, 512]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S1024x512 : Shape := ⟨2, ![1024, 512]⟩
abbrev S256x512 : Shape := ⟨2, ![256, 512]⟩
abbrev S1x512 : Shape := ⟨2, ![1, 512]⟩
abbrev S1x1x1x512 : Shape := ⟨4, ![1, 1, 1, 512]⟩
abbrev S1024x2048 : Shape := ⟨2, ![1024, 2048]⟩
abbrev S512x2048 : Shape := ⟨2, ![512, 2048]⟩

abbrev nBuf : Space → Nat
  | .hbm => 75
  | .vmem => 27
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x5120, .f32⟩
  | .hbm, ⟨3, _⟩ => ⟨S1x2048, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S2048, .f32⟩
  | .hbm, ⟨16, _⟩ => ⟨S2048x1, .f32⟩
  | .hbm, ⟨17, _⟩ => ⟨S1x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x128, .f32⟩
  | .hbm, ⟨22, _⟩ => ⟨S2048x128, .f32⟩
  | .hbm, ⟨23, _⟩ => ⟨S2048x128, .f32⟩
  | .hbm, ⟨24, _⟩ => ⟨S128, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S_, .i32⟩
  | .hbm, ⟨37, _⟩ => ⟨S128, .i32⟩
  | .hbm, ⟨38, _⟩ => ⟨S128, .i1⟩
  | .hbm, ⟨39, _⟩ => ⟨S_, .i32⟩
  | .hbm, ⟨40, _⟩ => ⟨S_, .i1⟩
  | .hbm, ⟨41, _⟩ => ⟨S128, .i1⟩
  | .hbm, ⟨42, _⟩ => ⟨S128, .i1⟩
  | .hbm, ⟨43, _⟩ => ⟨S128, .i1⟩
  | .hbm, ⟨44, _⟩ => ⟨S128, .i32⟩
  | .hbm, ⟨45, _⟩ => ⟨S128, .i32⟩
  | .hbm, ⟨46, _⟩ => ⟨S128, .i32⟩
  | .hbm, ⟨47, _⟩ => ⟨S_, .i32⟩
  | .hbm, ⟨48, _⟩ => ⟨S128, .i32⟩
  | .hbm, ⟨49, _⟩ => ⟨S128, .i1⟩
  | .hbm, ⟨50, _⟩ => ⟨S2048x128, .f32⟩
  | .hbm, ⟨51, _⟩ => ⟨S_, .f32⟩
  | .hbm, ⟨52, _⟩ => ⟨S_, .f32⟩
  | .hbm, ⟨53, _⟩ => ⟨S2048x128, .i1⟩
  | .hbm, ⟨54, _⟩ => ⟨S2048x128, .f32⟩
  | .hbm, ⟨55, _⟩ => ⟨S2048x128, .f32⟩
  | .hbm, ⟨56, _⟩ => ⟨S_, .f32⟩
  | .hbm, ⟨57, _⟩ => ⟨S_, .f32⟩
  | .hbm, ⟨58, _⟩ => ⟨S2048x128, .i1⟩
  | .hbm, ⟨59, _⟩ => ⟨S2048x128, .f32⟩
  | .hbm, ⟨60, _⟩ => ⟨S2048x128, .f32⟩
  | .hbm, ⟨61, _⟩ => ⟨S1024, .f32⟩
  | .hbm, ⟨62, _⟩ => ⟨S1x1024, .f32⟩
  | .hbm, ⟨63, _⟩ => ⟨S1024x5120, .f32⟩
  | .hbm, ⟨64, _⟩ => ⟨S1024x5120, .bf16⟩
  | .hbm, ⟨65, _⟩ => ⟨S2048, .f32⟩
  | .hbm, ⟨66, _⟩ => ⟨S1x2048, .f32⟩
  | .hbm, ⟨67, _⟩ => ⟨S32x2048x512, .bf16⟩
  | .hbm, ⟨68, _⟩ => ⟨S32x2048x512, .bf16⟩
  | .hbm, ⟨69, _⟩ => ⟨S32x2048x512, .bf16⟩
  | .hbm, ⟨70, _⟩ => ⟨S32x2048x512, .bf16⟩
  | .hbm, ⟨71, _⟩ => ⟨S32x2048x512, .bf16⟩
  | .hbm, ⟨72, _⟩ => ⟨S32x2048x512, .bf16⟩
  | .hbm, ⟨73, _⟩ => ⟨S32x2048x2048, .bf16⟩
  | .hbm, ⟨74, _⟩ => ⟨S32x8x1x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5120, .bf16⟩
  | .local _ .vmem, ⟨4, _⟩ => ⟨S1x2048, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x2048, .bf16⟩
  | .local _ .vmem, ⟨24, _⟩ => ⟨S1x512x2048, .bf16⟩
  | .local _ .vmem, ⟨25, _⟩ => ⟨S1x2x1x512, .f32⟩
  | .local _ .vmem, ⟨26, _⟩ => ⟨S1x2x1x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_1 : Ref sig .tc := ⟨.hbm, 33, rfl⟩
abbrev main_call0_v5 : Ref sig .tc := ⟨.hbm, 34, rfl⟩
abbrev main_call0_v6 : Ref sig .tc := ⟨.hbm, 35, rfl⟩
abbrev main_call0_c_2 : Ref sig .tc := ⟨.hbm, 36, rfl⟩
abbrev main_call0_v7 : Ref sig .tc := ⟨.hbm, 37, rfl⟩
abbrev main_call0_v8 : Ref sig .tc := ⟨.hbm, 38, rfl⟩
abbrev main_call0_c_3 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_v18 : Ref sig .tc := ⟨.hbm, 46, rfl⟩
abbrev main_c_2 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_3 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v22 : Ref sig .tc := ⟨.hbm, 55, rfl⟩
abbrev main_cst_4 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30_0 : Ref sig .tc := ⟨.hbm, 67, rfl⟩
abbrev main_v30_1 : Ref sig .tc := ⟨.hbm, 68, rfl⟩
abbrev main_v30_2 : Ref sig .tc := ⟨.hbm, 69, rfl⟩
abbrev main_v30_3 : Ref sig .tc := ⟨.hbm, 70, rfl⟩
abbrev main_v30_4 : Ref sig .tc := ⟨.hbm, 71, rfl⟩
abbrev main_v30_5 : Ref sig .tc := ⟨.hbm, 72, rfl⟩
abbrev main_v30_6 : Ref sig .tc := ⟨.hbm, 73, rfl⟩
abbrev main_v30_7 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== InReferenceIdeal.lean ====
abbrev S32x2048x1024 : Shape := ⟨3, ![32, 2048, 1024]⟩
abbrev S1x1024 : Shape := ⟨2, ![1, 1024]⟩
abbrev S1x1024x5120 : Shape := ⟨3, ![1, 1024, 5120]⟩
abbrev S1x2048 : Shape := ⟨2, ![1, 2048]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1024 : Shape := ⟨1, ![1024]⟩
abbrev S32x2048 : Shape := ⟨2, ![32, 2048]⟩
abbrev S32x2048x1 : Shape := ⟨3, ![32, 2048, 1]⟩
abbrev S1x1x1024 : Shape := ⟨3, ![1, 1, 1024]⟩
abbrev S1024x5120 : Shape := ⟨2, ![1024, 5120]⟩
abbrev S32x2048x5120 : Shape := ⟨3, ![32, 2048, 5120]⟩
abbrev S32x2048x512 : Shape := ⟨3, ![32, 2048, 512]⟩
abbrev S32x2048x2048 : Shape := ⟨3, ![32, 2048, 2048]⟩
abbrev S32x2048x8x64 : Shape := ⟨4, ![32, 2048, 8, 64]⟩
abbrev S32x8x2048x64 : Shape := ⟨4, ![32, 8, 2048, 64]⟩
abbrev S32x8x2048x32 : Shape := ⟨4, ![32, 8, 2048, 32]⟩
abbrev S1x1x2048x64 : Shape := ⟨4, ![1, 1, 2048, 64]⟩
abbrev S32x8x8x256x64 : Shape := ⟨5, ![32, 8, 8, 256, 64]⟩
abbrev S32x8x8x64 : Shape := ⟨4, ![32, 8, 8, 64]⟩
abbrev S32x8x1x512 : Shape := ⟨4, ![32, 8, 1, 512]⟩
abbrev S1x1x2048 : Shape := ⟨3, ![1, 1, 2048]⟩

abbrev nBuf : Space → Nat
  | .hbm => 113
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x5120, .f32⟩
  | .hbm, ⟨3, _⟩ => ⟨S1x2048, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S2048, .f32⟩
  | .hbm, ⟨16, _⟩ => ⟨S2048x1, .f32⟩
  | .hbm, ⟨17, _⟩ => ⟨S1x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x64, .f32⟩
  | .hbm, ⟨22, _⟩ => ⟨S2048x64, .f32⟩
  | .hbm, ⟨23, _⟩ => ⟨S2048x64, .f32⟩
  | .hbm, ⟨24, _⟩ => ⟨S1024, .f32⟩
  | .hbm, ⟨25, _⟩ => ⟨S32x2048x1024, .f32⟩
  | .hbm, ⟨26, _⟩ => ⟨S_, .f32⟩
  | .hbm, ⟨27, _⟩ => ⟨S32x2048, .f32⟩
  | .hbm, ⟨28, _⟩ => ⟨S32x2048x1, .f32⟩
  | .hbm, ⟨29, _⟩ => ⟨S_, .f32⟩
  | .hbm, ⟨30, _⟩ => ⟨S32x2048x1, .f32⟩
  | .hbm, ⟨31, _⟩ => ⟨S32x2048x1, .f32⟩
  | .hbm, ⟨32, _⟩ => ⟨S_, .f32⟩
  | .hbm, ⟨33, _⟩ => ⟨S32x2048x1, .f32⟩
  | .hbm, ⟨34, _⟩ => ⟨S32x2048x1, .f32⟩
  | .hbm, ⟨35, _⟩ => ⟨S32x2048x1, .f32⟩
  | .hbm, ⟨36, _⟩ => ⟨S32x2048x1024, .f32⟩
  | .hbm, ⟨37, _⟩ => ⟨S32x2048x1024, .f32⟩
  | .hbm, ⟨38, _⟩ => ⟨S1x1x1024, .f32⟩
  | .hbm, ⟨39, _⟩ => ⟨S32x2048x1024, .f32⟩
  | .hbm, ⟨40, _⟩ => ⟨S32x2048x1024, .f32⟩
  | .hbm, ⟨41, _⟩ => ⟨S1024x5120, .f32⟩
  | .hbm, ⟨42, _⟩ => ⟨S32x2048x5120, .f32⟩
  | .hbm, ⟨43, _⟩ => ⟨S32x2048x512, .f32⟩
  | .hbm, ⟨44, _⟩ => ⟨S32x2048x512, .f32⟩
  | .hbm, ⟨45, _⟩ => ⟨S32x2048x512, .f32⟩
  | .hbm, ⟨46, _⟩ => ⟨S32x2048x512, .f32⟩
  | .hbm, ⟨47, _⟩ => ⟨S32x2048x512, .f32⟩
  | .hbm, ⟨48, _⟩ => ⟨S32x2048x512, .f32⟩
  | .hbm, ⟨49, _⟩ => ⟨S32x2048x2048, .f32⟩
  | .hbm, ⟨50, _⟩ => ⟨S32x2048x8x64, .f32⟩
  | .hbm, ⟨51, _⟩ => ⟨S32x8x2048x64, .f32⟩
  | .hbm, ⟨52, _⟩ => ⟨S32x8x2048x32, .f32⟩
  | .hbm, ⟨53, _⟩ => ⟨S32x8x2048x32, .f32⟩
  | .hbm, ⟨54, _⟩ => ⟨S32x8x2048x32, .f32⟩
  | .hbm, ⟨55, _⟩ => ⟨S32x8x2048x64, .f32⟩
  | .hbm, ⟨56, _⟩ => ⟨S1x1x2048x64, .f32⟩
  | .hbm, ⟨57, _⟩ => ⟨S32x8x2048x64, .f32⟩
  | .hbm, ⟨58, _⟩ => ⟨S32x8x2048x64, .f32⟩
  | .hbm, ⟨59, _⟩ => ⟨S1x1x2048x64, .f32⟩
  | .hbm, ⟨60, _⟩ => ⟨S32x8x2048x64, .f32⟩
  | .hbm, ⟨61, _⟩ => ⟨S32x8x2048x64, .f32⟩
  | .hbm, ⟨62, _⟩ => ⟨S32x8x2048x64, .f32⟩
  | .hbm, ⟨63, _⟩ => ⟨S32x2048x8x64, .f32⟩
  | .hbm, ⟨64, _⟩ => ⟨S32x2048x512, .f32⟩
  | .hbm, ⟨65, _⟩ => ⟨S32x2048x8x64, .f32⟩
  | .hbm, ⟨66, _⟩ => ⟨S32x8x2048x64, .f32⟩
  | .hbm, ⟨67, _⟩ => ⟨S32x8x2048x32, .f32⟩
  | .hbm, ⟨68, _⟩ => ⟨S32x8x2048x32, .f32⟩
  | .hbm, ⟨69, _⟩ => ⟨S32x8x2048x32, .f32⟩
  | .hbm, ⟨70, _⟩ => ⟨S32x8x2048x64, .f32⟩
  | .hbm, ⟨71, _⟩ => ⟨S1x1x2048x64, .f32⟩
  | .hbm, ⟨72, _⟩ => ⟨S32x8x2048x64, .f32⟩
  | .hbm, ⟨73, _⟩ => ⟨S32x8x2048x64, .f32⟩
  | .hbm, ⟨74, _⟩ => ⟨S1x1x2048x64, .f32⟩
  | .hbm, ⟨75, _⟩ => ⟨S32x8x2048x64, .f32⟩
  | .hbm, ⟨76, _⟩ => ⟨S32x8x2048x64, .f32⟩
  | .hbm, ⟨77, _⟩ => ⟨S32x8x2048x64, .f32⟩
  | .hbm, ⟨78, _⟩ => ⟨S32x8x8x256x64, .f32⟩
  | .hbm, ⟨79, _⟩ => ⟨S_, .f32⟩
  | .hbm, ⟨80, _⟩ => ⟨S32x8x8x64, .f32⟩
  | .hbm, ⟨81, _⟩ => ⟨S_, .f32⟩
  | .hbm, ⟨82, _⟩ => ⟨S32x8x8x64, .f32⟩
  | .hbm, ⟨83, _⟩ => ⟨S32x8x8x64, .f32⟩
  | .hbm, ⟨84, _⟩ => ⟨S32x8x8x64, .f32⟩
  | .hbm, ⟨85, _⟩ => ⟨S32x8x1x512, .f32⟩
  | .hbm, ⟨86, _⟩ => ⟨S2048, .f32⟩
  | .hbm, ⟨87, _⟩ => ⟨S1x1x2048, .f32⟩
  | .hbm, ⟨88, _⟩ => ⟨S32x2048x2048, .f32⟩
  | .hbm, ⟨89, _⟩ => ⟨S32x2048x2048, .f32⟩
  | .hbm, ⟨90, _⟩ => ⟨S32x2048x2048, .f32⟩
  | .hbm, ⟨91, _⟩ => ⟨S32x2048x2048, .f32⟩
  | .hbm, ⟨92, _⟩ => ⟨S_, .f32⟩
  | .hbm, ⟨93, _⟩ => ⟨S32x2048x2048, .f32⟩
  | .hbm, ⟨94, _⟩ => ⟨S32x2048x2048, .f32⟩
  | .hbm, ⟨95, _⟩ => ⟨S_, .f32⟩
  | .hbm, ⟨96, _⟩ => ⟨S32x2048x2048, .f32⟩
  | .hbm, ⟨97, _⟩ => ⟨S32x2048x2048, .f32⟩
  | .hbm, ⟨98, _⟩ => ⟨S_, .f32⟩
  | .hbm, ⟨99, _⟩ => ⟨S32x2048x512, .f32⟩
  | .hbm, ⟨100, _⟩ => ⟨S32x2048x512, .f32⟩
  | .hbm, ⟨101, _⟩ => ⟨S32x2048x512, .bf16⟩
  | .hbm, ⟨102, _⟩ => ⟨S32x2048x8x64, .f32⟩
  | .hbm, ⟨103, _⟩ => ⟨S32x2048x512, .f32⟩
  | .hbm, ⟨104, _⟩ => ⟨S32x2048x512, .bf16⟩
  | .hbm, ⟨105, _⟩ => ⟨S32x2048x512, .bf16⟩
  | .hbm, ⟨106, _⟩ => ⟨S_, .f32⟩
  | .hbm, ⟨107, _⟩ => ⟨S32x2048x512, .f32⟩
  | .hbm, ⟨108, _⟩ => ⟨S32x2048x512, .f32⟩
  | .hbm, ⟨109, _⟩ => ⟨S32x2048x512, .bf16⟩
  | .hbm, ⟨110, _⟩ => ⟨S32x2048x512, .bf16⟩
  | .hbm, ⟨111, _⟩ => ⟨S32x2048x512, .bf16⟩
  | .hbm, ⟨112, _⟩ => ⟨S32x2048x2048, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_cst_5 : Ref sig .tc := ⟨.hbm, 79, rfl⟩
abbrev main_v69 : Ref sig .tc := ⟨.hbm, 80, rfl⟩
abbrev main_cst_6 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_cst_7 : Ref sig .tc := ⟨.hbm, 92, rfl⟩
abbrev main_v80 : Ref sig .tc := ⟨.hbm, 93, rfl⟩
abbrev main_v81 : Ref sig .tc := ⟨.hbm, 94, rfl⟩
abbrev main_cst_8 : Ref sig .tc := ⟨.hbm, 95, rfl⟩
abbrev main_v82 : Ref sig .tc := ⟨.hbm, 96, rfl⟩
abbrev main_v83 : Ref sig .tc := ⟨.hbm, 97, rfl⟩
abbrev main_cst_9 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_cst_10 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩

abbrev nD : Nat := 1
abbrev τ : Topo := Topo.v7x

variable {F : FTy → Type} [FloatOps F]
-- ==== MobaKernel.lean ====
abbrev S32x2048x512 : Shape := ⟨3, ![32, 2048, 512]⟩
abbrev S32x8x1x512 : Shape := ⟨4, ![32, 8, 1, 512]⟩
abbrev S32x8x512 : Shape := ⟨3, ![32, 8, 512]⟩
abbrev S1x256x128 : Shape := ⟨3, ![1, 256, 128]⟩
abbrev S1x2048x128 : Shape := ⟨3, ![1, 2048, 128]⟩
abbrev S1x8x128 : Shape := ⟨3, ![1, 8, 128]⟩
abbrev S256x128 : Shape := ⟨2, ![256, 128]⟩
abbrev S256x256 : Shape := ⟨2, ![256, 256]⟩
abbrev S8x128 : Shape := ⟨2, ![8, 128]⟩
abbrev S64x128 : Shape := ⟨2, ![64, 128]⟩
abbrev S56x128 : Shape := ⟨2, ![56, 128]⟩
abbrev S128x128 : Shape := ⟨2, ![128, 128]⟩
abbrev S256x1 : Shape := ⟨2, ![256, 1]⟩
abbrev S256 : Shape := ⟨1, ![256]⟩
abbrev S120x128 : Shape := ⟨2, ![120, 128]⟩

abbrev nBuf : Space → Nat
  | .hbm => 6
  | .vmem => 10
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x2048x512, .bf16⟩
  | .hbm, ⟨3, _⟩ => ⟨S32x8x1x512, .f32⟩
  | .hbm, ⟨4, _⟩ => ⟨S32x8x512, .f32⟩
  | .hbm, ⟨5, _⟩ => ⟨S32x2048x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x8x128, .f32⟩
  | .local _ .vmem, ⟨7, _⟩ => ⟨S1x8x128, .f32⟩
  | .local _ .vmem, ⟨8, _⟩ => ⟨S1x256x128, .bf16⟩
  | .local _ .vmem, ⟨9, _⟩ => ⟨S1x256x128, .bf16⟩
  | _, _ => ⟨S32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![32, 4, 8], ![false, false, false]⟩

def k0_mult1 (i : grid0.Coords) : BitVec 32 :=
  let arg2 : BitVec 32 := BitVec.ofNat 32 (i 2).val
  let c256_i32 : BitVec 32 := 256#32
  let v11 : BitVec 32 := Scalar.muli arg2 c256_i32
  v11
def k0_off1 (i : grid0.Coords) : Fin 3 → Nat :=
  let c0_5 : Index := 0#32
  let arg2 : BitVec 32 := BitVec.ofNat 32 (i 2).val
  let c256_i32 : BitVec 32 := 256#32
  let v11 : BitVec 32 := Scalar.muli arg2 c256_i32
  let v12 : BitVec 32 := v11
  let v13 : Index := Scalar.indexCast v12
  let c0_6 : Index := 0#32
  ![0, v13.toNat, 0]
@[reducible] def k0_t1_loop (i : grid0.Coords) : Scf.Loop 32 :=
  let c0_i32_60 : BitVec 32 := 0#32
  let arg2 : BitVec 32 := BitVec.ofNat 32 (i 2).val
  let v190 : BitVec 32 := Scalar.subi arg2 c0_i32_60
  let c1_i32_61 : BitVec 32 := 1#32
  let v192 : BitVec 32 := Scalar.divsi v190 c1_i32_61
  let v193 : BitVec 32 := Scalar.muli v192 c1_i32_61
  let v194 : BitVec 32 := Scalar.addi c0_i32_60 v193
  let c1_i32_62 : BitVec 32 := 1#32
  ⟨c0_i32_60, v194, c1_i32_62⟩
def k0_mult2 (i : grid0.Coords) (k0_t1 : Fin (k0_t1_loop i).trips) : BitVec 32 :=
  let c0_i32_60 : BitVec 32 := 0#32
  let c1_i32_62 : BitVec 32 := 1#32
  let arg8 : BitVec 32 := Scf.iv c0_i32_60 c1_i32_62 k0_t1
  let c256_i32_130 : BitVec 32 := 256#32
  let v382 : BitVec 32 := Scalar.muli arg8 c256_i32_130
  v382
def k0_off2 (i : grid0.Coords) (k0_t1 : Fin (k0_t1_loop i).trips) : Fin 3 → Nat :=
  let c0_131 : Index := 0#32
  let c0_i32_60 : BitVec 32 := 0#32
  let c1_i32_62 : BitVec 32 := 1#32
  let arg8 : BitVec 32 := Scf.iv c0_i32_60 c1_i32_62 k0_t1
  let c256_i32_130 : BitVec 32 := 256#32
  let v382 : BitVec 32 := Scalar.muli arg8 c256_i32_130
  let v383 : BitVec 32 := v382
  let v384 : Index := Scalar.indexCast v383
  let c0_132 : Index := 0#32
  ![0, v384.toNat, 0]
@[reducible] def k0_t2_loop (i : grid0.Coords) : Scf.Loop 32 :=
  let c0_i32_60 : BitVec 32 := 0#32
  let arg2 : BitVec 32 := BitVec.ofNat 32 (i 2).val
  let v190 : BitVec 32 := Scalar.subi arg2 c0_i32_60
  let c1_i32_61 : BitVec 32 := 1#32
  let v192 : BitVec 32 := Scalar.divsi v190 c1_i32_61
  let v193 : BitVec 32 := Scalar.muli v192 c1_i32_61
  let v194 : BitVec 32 := Scalar.addi c0_i32_60 v193
  let v191 : BitVec 32 := Scalar.addi c0_i32_60 v190
  let c1_i32_63 : BitVec 32 := 1#32
  ⟨v194, v191, c1_i32_63⟩
def k0_mult3 (i : grid0.Coords) (k0_t2 : Fin (k0_t2_loop i).trips) : BitVec 32 :=
  let c0_i32_60 : BitVec 32 := 0#32
  let arg2 : BitVec 32 := BitVec.ofNat 32 (i 2).val
  let v190 : BitVec 32 := Scalar.subi arg2 c0_i32_60
  let c1_i32_61 : BitVec 32 := 1#32
  let v192 : BitVec 32 := Scalar.divsi v190 c1_i32_61
  let v193 : BitVec 32 := Scalar.muli v192 c1_i32_61
  let v194 : BitVec 32 := Scalar.addi c0_i32_60 v193
  let c1_i32_63 : BitVec 32 := 1#32
  let arg8 : BitVec 32 := Scf.iv v194 c1_i32_63 k0_t2
  let c256_i32_130 : BitVec 32 := 256#32
  let v382 : BitVec 32 := Scalar.muli arg8 c256_i32_130
  v382
def k0_off3 (i : grid0.Coords) (k0_t2 : Fin (k0_t2_loop i).trips) : Fin 3 → Nat :=
  let c0_131 : Index := 0#32
  let c0_i32_60 : BitVec 32 := 0#32
  let arg2 : BitVec 32 := BitVec.ofNat 32 (i 2).val
  let v190 : BitVec 32 := Scalar.subi arg2 c0_i32_60
  let c1_i32_61 : BitVec 32 := 1#32
  let v192 : BitVec 32 := Scalar.divsi v190 c1_i32_61
  let v193 : BitVec 32 := Scalar.muli v192 c1_i32_61
  let v194 : BitVec 32 := Scalar.addi c0_i32_60 v193
  let c1_i32_63 : BitVec 32 := 1#32
  let arg8 : BitVec 32 := Scf.iv v194 c1_i32_63 k0_t2
  let c256_i32_130 : BitVec 32 := 256#32
  let v382 : BitVec 32 := Scalar.muli arg8 c256_i32_130
  let v383 : BitVec 32 := v382
  let v384 : Index := Scalar.indexCast v383
  let c0_132 : Index := 0#32
  ![0, v384.toNat, 0]
@[reducible] def k0_t3_loop (i : grid0.Coords) : Scf.Loop 32 :=
  let c0_i32_123 : BitVec 32 := 0#32
  let arg2 : BitVec 32 := BitVec.ofNat 32 (i 2).val
  let v368 : BitVec 32 := Scalar.subi arg2 c0_i32_123
  let c1_i32_124 : BitVec 32 := 1#32
  let v370 : BitVec 32 := Scalar.divsi v368 c1_i32_124
  let v371 : BitVec 32 := Scalar.muli v370 c1_i32_124
  let v372 : BitVec 32 := Scalar.addi c0_i32_123 v371
  let c1_i32_125 : BitVec 32 := 1#32
  ⟨c0_i32_123, v372, c1_i32_125⟩
def k0_mult4 (i : grid0.Coords) (k0_t3 : Fin (k0_t3_loop i).trips) : BitVec 32 :=
  let c0_i32_123 : BitVec 32 := 0#32
  let c1_i32_125 : BitVec 32 := 1#32
  let arg8 : BitVec 32 := Scf.iv c0_i32_123 c1_i32_125 k0_t3
  let c256_i32_130 : BitVec 32 := 256#32
  let v382 : BitVec 32 := Scalar.muli arg8 c256_i32_130
  v382
def k0_off4 (i : grid0.Coords) (k0_t3 : Fin (k0_t3_loop i).trips) : Fin 3 → Nat :=
  let c0_131 : Index := 0#32
  let c0_i32_123 : BitVec 32 := 0#32
  let c1_i32_125 : BitVec 32 := 1#32
  let arg8 : BitVec 32 := Scf.iv c0_i32_123 c1_i32_125 k0_t3
  let c256_i32_130 : BitVec 32 := 256#32
  let v382 : BitVec 32 := Scalar.muli arg8 c256_i32_130
  let v383 : BitVec 32 := v382
  let v384 : Index := Scalar.indexCast v383
  let c0_132 : Index := 0#32
  ![0, v384.toNat, 0]
@[reducible] def k0_t4_loop (i : grid0.Coords) : Scf.Loop 32 :=
  let c0_i32_123 : BitVec 32 := 0#32
  let arg2 : BitVec 32 := BitVec.ofNat 32 (i 2).val
  let v368 : BitVec 32 := Scalar.subi arg2 c0_i32_123
  let c1_i32_124 : BitVec 32 := 1#32
  let v370 : BitVec 32 := Scalar.divsi v368 c1_i32_124
  let v371 : BitVec 32 := Scalar.muli v370 c1_i32_124
  let v372 : BitVec 32 := Scalar.addi c0_i32_123 v371
  let v369 : BitVec 32 := Scalar.addi c0_i32_123 v368
  let c1_i32_126 : BitVec 32 := 1#32
  ⟨v372, v369, c1_i32_126⟩
def k0_mult5 (i : grid0.Coords) (k0_t4 : Fin (k0_t4_loop i).trips) : BitVec 32 :=
  let c0_i32_123 : BitVec 32 := 0#32
  let arg2 : BitVec 32 := BitVec.ofNat 32 (i 2).val
  let v368 : BitVec 32 := Scalar.subi arg2 c0_i32_123
  let c1_i32_124 : BitVec 32 := 1#32
  let v370 : BitVec 32 := Scalar.divsi v368 c1_i32_124
  let v371 : BitVec 32 := Scalar.muli v370 c1_i32_124
  let v372 : BitVec 32 := Scalar.addi c0_i32_123 v371
  let c1_i32_126 : BitVec 32 := 1#32
  let arg8 : BitVec 32 := Scf.iv v372 c1_i32_126 k0_t4
  let c256_i32_130 : BitVec 32 := 256#32
  let v382 : BitVec 32 := Scalar.muli arg8 c256_i32_130
  v382
def k0_off5 (i : grid0.Coords) (k0_t4 : Fin (k0_t4_loop i).trips) : Fin 3 → Nat :=
  let c0_131 : Index := 0#32
  let c0_i32_123 : BitVec 32 := 0#32
  let arg2 : BitVec 32 := BitVec.ofNat 32 (i 2).val
  let v368 : BitVec 32 := Scalar.subi arg2 c0_i32_123
  let c1_i32_124 : BitVec 32 := 1#32
  let v370 : BitVec 32 := Scalar.divsi v368 c1_i32_124
  let v371 : BitVec 32 := Scalar.muli v370 c1_i32_124
  let v372 : BitVec 32 := Scalar.addi c0_i32_123 v371
  let c1_i32_126 : BitVec 32 := 1#32
  let arg8 : BitVec 32 := Scf.iv v372 c1_i32_126 k0_t4
  let c256_i32_130 : BitVec 32 := 256#32
  let v382 : BitVec 32 := Scalar.muli arg8 c256_i32_130
  let v383 : BitVec 32 := v382
  let v384 : Index := Scalar.indexCast v383
  let c0_132 : Index := 0#32
  ![0, v384.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== MobaKernelIdeal.lean ====
variable {F : FTy → Type} [FloatOps F] [Named F]
def κ : String → Option EReal := fun
  | "neg" => some ⊥
  | _ => none
-- ==== MobaReferenceIdeal.lean ====
abbrev S32x2048x512 : Shape := ⟨3, ![32, 2048, 512]⟩
abbrev S32x8x1x512 : Shape := ⟨4, ![32, 8, 1, 512]⟩
abbrev S32x2048x8x64 : Shape := ⟨4, ![32, 2048, 8, 64]⟩
abbrev S32x8x2048x64 : Shape := ⟨4, ![32, 8, 2048, 64]⟩
abbrev S32x8x8x64 : Shape := ⟨4, ![32, 8, 8, 64]⟩
abbrev S8x256 : Shape := ⟨2, ![8, 256]⟩
abbrev S2048 : Shape := ⟨1, ![2048]⟩
abbrev S32x8x2048x8 : Shape := ⟨4, ![32, 8, 2048, 8]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S_ : Shape := ⟨0, ![]⟩
abbrev S32x8x2048x3 : Shape := ⟨4, ![32, 8, 2048, 3]⟩
abbrev S1x1x2048x1 : Shape := ⟨4, ![1, 1, 2048, 1]⟩
abbrev S32x8x2048x3x1 : Shape := ⟨5, ![32, 8, 2048, 3, 1]⟩
abbrev S1x1x1x1x8 : Shape := ⟨5, ![1, 1, 1, 1, 8]⟩
abbrev S32x8x2048x3x8 : Shape := ⟨5, ![32, 8, 2048, 3, 8]⟩
abbrev S32x8x2048x8x1 : Shape := ⟨5, ![32, 8, 2048, 8, 1]⟩
abbrev S32x8x2048x8x256 : Shape := ⟨5, ![32, 8, 2048, 8, 256]⟩
abbrev S32x8x2048x2048 : Shape := ⟨4, ![32, 8, 2048, 2048]⟩
abbrev S1x2048 : Shape := ⟨2, ![1, 2048]⟩
abbrev S2048x2048 : Shape := ⟨2, ![2048, 2048]⟩
abbrev S1x1x2048x2048 : Shape := ⟨4, ![1, 1, 2048, 2048]⟩
abbrev S32x8x2048 : Shape := ⟨3, ![32, 8, 2048]⟩
abbrev S32x8x2048x1 : Shape := ⟨4, ![32, 8, 2048, 1]⟩

abbrev nBuf : Space → Nat
  | .hbm => 87
  | .vmem => 0
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x2048x512, .bf16⟩
  | .hbm, ⟨3, _⟩ => ⟨S32x8x1x512, .f32⟩
  | .hbm, ⟨4, _⟩ => ⟨S32x2048x512, .f32⟩
  | .hbm, ⟨5, _⟩ => ⟨S32x2048x8x64, .f32⟩
  | .hbm, ⟨6, _⟩ => ⟨S32x8x2048x64, .f32⟩
  | .hbm, ⟨7, _⟩ => ⟨S32x2048x512, .f32⟩
  | .hbm, ⟨8, _⟩ => ⟨S32x2048x8x64, .f32⟩
  | .hbm, ⟨9, _⟩ => ⟨S32x8x2048x64, .f32⟩
  | .hbm, ⟨10, _⟩ => ⟨S32x2048x512, .f32⟩
  | .hbm, ⟨11, _⟩ => ⟨S32x2048x8x64, .f32⟩
  | .hbm, ⟨12, _⟩ => ⟨S32x8x2048x64, .f32⟩
  | .hbm, ⟨13, _⟩ => ⟨S32x8x8x64, .f32⟩
  | .hbm, ⟨14, _⟩ => ⟨S32x8x8x64, .f32⟩
  | .hbm, ⟨15, _⟩ => ⟨S8x256, .i32⟩
  | .hbm, ⟨16, _⟩ => ⟨S2048, .i32⟩
  | .hbm, ⟨17, _⟩ => ⟨S32x8x2048x8, .f32⟩
  | .hbm, ⟨18, _⟩ => ⟨S8, .i32⟩
  | .hbm, ⟨19, _⟩ => ⟨S1x8, .i32⟩
  | .hbm, ⟨20, _⟩ => ⟨S2048x1, .i32⟩
  | .hbm, ⟨21, _⟩ => ⟨S2048x8, .i32⟩
  | .hbm, ⟨22, _⟩ => ⟨S2048x8, .i32⟩
  | .hbm, ⟨23, _⟩ => ⟨S2048x8, .i1⟩
  | .hbm, ⟨24, _⟩ => ⟨S_, .f32⟩
  | .hbm, ⟨25, _⟩ => ⟨S_, .f32⟩
  | .hbm, ⟨26, _⟩ => ⟨S32x8x2048x8, .i1⟩
  | .hbm, ⟨27, _⟩ => ⟨S32x8x2048x8, .f32⟩
  | .hbm, ⟨28, _⟩ => ⟨S32x8x2048x8, .f32⟩
  | .hbm, ⟨29, _⟩ => ⟨S32x8x2048x3, .f32⟩
  | .hbm, ⟨30, _⟩ => ⟨S32x8x2048x3, .i32⟩
  | .hbm, ⟨31, _⟩ => ⟨S2048x1, .i32⟩
  | .hbm, ⟨32, _⟩ => ⟨S1x1x2048x1, .i32⟩
  | .hbm, ⟨33, _⟩ => ⟨S32x8x2048x3, .i32⟩
  | .hbm, ⟨34, _⟩ => ⟨S32x8x2048x3, .i1⟩
  | .hbm, ⟨35, _⟩ => ⟨S32x8x2048x3x1, .i32⟩
  | .hbm, ⟨36, _⟩ => ⟨S8, .i32⟩
  | .hbm, ⟨37, _⟩ => ⟨S1x1x1x1x8, .i32⟩
  | .hbm, ⟨38, _⟩ => ⟨S32x8x2048x3x8, .i32⟩
  | .hbm, ⟨39, _⟩ => ⟨S32x8x2048x3x8, .i32⟩
  | .hbm, ⟨40, _⟩ => ⟨S32x8x2048x3x8, .i1⟩
  | .hbm, ⟨41, _⟩ => ⟨S32x8x2048x3x1, .i1⟩
  | .hbm, ⟨42, _⟩ => ⟨S32x8x2048x3x8, .i1⟩
  | .hbm, ⟨43, _⟩ => ⟨S32x8x2048x3x8, .i1⟩
  | .hbm, ⟨44, _⟩ => ⟨S_, .i1⟩
  | .hbm, ⟨45, _⟩ => ⟨S32x8x2048x8, .i1⟩
  | .hbm, ⟨46, _⟩ => ⟨S32x8x2048x8x1, .i1⟩
  | .hbm, ⟨47, _⟩ => ⟨S32x8x2048x8x256, .i1⟩
  | .hbm, ⟨48, _⟩ => ⟨S32x8x2048x2048, .i1⟩
  | .hbm, ⟨49, _⟩ => ⟨S2048, .i32⟩
  | .hbm, ⟨50, _⟩ => ⟨S1x2048, .i32⟩
  | .hbm, ⟨51, _⟩ => ⟨S2048x1, .i32⟩
  | .hbm, ⟨52, _⟩ => ⟨S2048x2048, .i32⟩
  | .hbm, ⟨53, _⟩ => ⟨S2048x2048, .i32⟩
  | .hbm, ⟨54, _⟩ => ⟨S2048x2048, .i1⟩
  | .hbm, ⟨55, _⟩ => ⟨S1x2048, .i32⟩
  | .hbm, ⟨56, _⟩ => ⟨S2048x1, .i32⟩
  | .hbm, ⟨57, _⟩ => ⟨S2048x2048, .i32⟩
  | .hbm, ⟨58, _⟩ => ⟨S2048x2048, .i32⟩
  | .hbm, ⟨59, _⟩ => ⟨S2048x2048, .i1⟩
  | .hbm, ⟨60, _⟩ => ⟨S2048x2048, .i1⟩
  | .hbm, ⟨61, _⟩ => ⟨S1x1x2048x2048, .i1⟩
  | .hbm, ⟨62, _⟩ => ⟨S32x8x2048x2048, .i1⟩
  | .hbm, ⟨63, _⟩ => ⟨S32x8x2048x2048, .i1⟩
  | .hbm, ⟨64, _⟩ => ⟨S32x8x2048x2048, .f32⟩
  | .hbm, ⟨65, _⟩ => ⟨S_, .f32⟩
  | .hbm, ⟨66, _⟩ => ⟨S_, .f32⟩
  | .hbm, ⟨67, _⟩ => ⟨S32x8x2048x2048, .f32⟩
  | .hbm, ⟨68, _⟩ => ⟨S32x8x2048x2048, .f32⟩
  | .hbm, ⟨69, _⟩ => ⟨S_, .f32⟩
  | .hbm, ⟨70, _⟩ => ⟨S32x8x2048, .f32⟩
  | .hbm, ⟨71, _⟩ => ⟨S_, .f32⟩
  | .hbm, ⟨72, _⟩ => ⟨S32x8x2048, .f32⟩
  | .hbm, ⟨73, _⟩ => ⟨S32x8x2048, .f32⟩
  | .hbm, ⟨74, _⟩ => ⟨S32x8x2048x1, .f32⟩
  | .hbm, ⟨75, _⟩ => ⟨S32x8x2048x2048, .f32⟩
  | .hbm, ⟨76, _⟩ => ⟨S32x8x2048x2048, .f32⟩
  | .hbm, ⟨77, _⟩ => ⟨S32x8x2048x2048, .f32⟩
  | .hbm, ⟨78, _⟩ => ⟨S_, .f32⟩
  | .hbm, ⟨79, _⟩ => ⟨S32x8x2048, .f32⟩
  | .hbm, ⟨80, _⟩ => ⟨S32x8x2048x1, .f32⟩
  | .hbm, ⟨81, _⟩ => ⟨S32x8x2048x2048, .f32⟩
  | .hbm, ⟨82, _⟩ => ⟨S32x8x2048x2048, .f32⟩
  | .hbm, ⟨83, _⟩ => ⟨S32x8x2048x64, .f32⟩
  | .hbm, ⟨84, _⟩ => ⟨S32x2048x8x64, .f32⟩
  | .hbm, ⟨85, _⟩ => ⟨S32x2048x512, .f32⟩
  | .hbm, ⟨86, _⟩ => ⟨S32x2048x512, .bf16⟩
  | _, _ => ⟨S32x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v20 : Ref sig .tc := ⟨.hbm, 28, rfl⟩
abbrev main_values : Ref sig .tc := ⟨.hbm, 29, rfl⟩
abbrev main_indices : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_0 : Ref sig .tc := ⟨.hbm, 65, rfl⟩
abbrev main_call1_v0 : Ref sig .tc := ⟨.hbm, 66, rfl⟩
abbrev main_call1_v1 : Ref sig .tc := ⟨.hbm, 67, rfl⟩
abbrev main_v54 : Ref sig .tc := ⟨.hbm, 68, rfl⟩
abbrev main_cst_1 : Ref sig .tc := ⟨.hbm, 69, rfl⟩
abbrev main_v55 : Ref sig .tc := ⟨.hbm, 70, rfl⟩
abbrev main_cst_2 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_3 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== Proof.SbFin.lean ====
module

public import proofs.«01_k».proof.Pre_finite_qk
public import Idealize.ShloMosaic.Lib.ReduceAll
public import Idealize.ShloMosaic.Lib.KernelVsHost
public import Idealize.ShloMosaic.Lib.Pointwise

/-! What the two preconditions say of an element of the arrays they name. -/

@[expose] public section
set_option maxRecDepth 16384
noncomputable section
open Idealize.ShloMosaic
namespace Cert.SbFin

instance facts1 : Cert.Pre_finite_qk.Facts where
  bitsLt_bf16_f32 := by decide
  bcast_S_S32x2048x512 := by decide
  reducesTo_S32x2048x512_S_d0_1_2 := by decide
  h_S_ := by decide

/-- An extended real whose absolute value compares below plus infinity is a real. -/
theorem real_of_olt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- The first precondition: every element of the queries and of the keys is a real. -/
theorem fin_qk (q k v : FVec Ideal Cert.Pre_finite_qk.S32x2048x512 .bf16) (h : Cert.Pre_finite_qk.fn (F := Ideal) q k v = fun _ => 1#1) :
    (∀ i, ∃ r : ℝ, q i = (r : EReal)) ∧ ∀ i, ∃ r : ℝ, k i = (r : EReal) := by
  have h0 := congrFun h ix0
  haveI : Subsingleton Cert.Pre_finite_qk.S_.Idx := ⟨fun a b => funext fun x => x.elim0⟩
  obtain ⟨h1, h2⟩ := IntOp.andi_eq_one.1 h0
  exact ⟨fun i => real_of_olt _ (Host.reduce_andi_all _ _ _ _ _ h1 i), fun i => real_of_olt _ (Host.reduce_andi_all _ _ _ _ _ h2 i)⟩

end Cert.SbFin
end
-- ==== Proof.Frames.lean ====
module

public import proofs.«01_k».proof.Defs
public import proofs.«01_k».proof.Proof.Gen.Kernel.Frame
public import proofs.«01_k».proof.Proof.Gen.KernelIdeal.Frame
public import proofs.«01_k».proof.Proof.Gen.OutKernel.Frame
public import proofs.«01_k».proof.Proof.Gen.OutKernelIdeal.Frame
public import proofs.«01_k».proof.Proof.Gen.InKernel.Frame
public import proofs.«01_k».proof.Proof.Gen.InKernelIdeal.Frame
public import proofs.«01_k».proof.Proof.Gen.MobaKernel.Frame
public import proofs.«01_k».proof.Proof.Gen.MobaKernelIdeal.Frame
public import proofs.«01_k».proof.Proof.Gen.ReferenceIdeal.Run
public import proofs.«01_k».proof.Proof.Gen.OutReferenceIdeal.Run
public import proofs.«01_k».proof.Proof.Gen.InReferenceIdeal.Run
public import proofs.«01_k».proof.Proof.Gen.MobaReferenceIdeal.Run
public import Idealize.ShloMosaic.Lib.Quiescent
public import proofs.«01_k».proof.Proof.SbFin

/-! The frames: each program runs without a fault, leaves its arguments as they were and every counter at zero. -/

@[expose] public section
noncomputable section
open Idealize.ShloMosaic Idealize.SL.Sem
namespace Cert.Frames

/-- The reference of the attention runs, keeps its arguments and has no counter. -/
theorem ofReferenceIdeal : Cert.quiescent_ReferenceIdeal (hReferenceIdeal := Cert.ReferenceIdeal.Gen.facts) := fun m g _ => (θ_run Cert.ReferenceIdeal.defs _ _).mono
  (fun r h => ⟨fun c => (h c).2, sem_eq_zero_of_no_sems (by decide) r.2⟩) (Cert.ReferenceIdeal.Value.run m g)

/-- The reference of the output block runs, keeps its arguments and has no counter. -/
theorem ofOutReferenceIdeal : Cert.quiescent_OutReferenceIdeal (hOutReferenceIdeal := Cert.OutReferenceIdeal.Gen.facts) := fun m g _ => (θ_run Cert.OutReferenceIdeal.defs _ _).mono
  (fun r h => ⟨fun c => (h c).2, sem_eq_zero_of_no_sems (by decide) r.2⟩) (Cert.OutReferenceIdeal.Value.run m g)

/-- The reference of the input projection runs, keeps its arguments and has no counter. -/
theorem ofInReferenceIdeal : Cert.quiescent_InReferenceIdeal (hInReferenceIdeal := Cert.InReferenceIdeal.Gen.facts) := fun m g _ => (θ_run Cert.InReferenceIdeal.defs _ _).mono
  (fun r h => ⟨fun c => (h c).2.2.2.2.2.2.2.2, sem_eq_zero_of_no_sems (by decide) r.2⟩) (Cert.InReferenceIdeal.Value.run m g)

/-- The reference of the block attention runs, keeps its arguments and has no counter. -/
theorem ofMobaReferenceIdeal : Cert.quiescent_MobaReferenceIdeal (hMobaReferenceIdeal := Cert.MobaReferenceIdeal.Gen.facts) := fun m g _ => (θ_run Cert.MobaReferenceIdeal.defs _ _).mono
  (fun r h => ⟨fun c => (h c).2, sem_eq_zero_of_no_sems (by decide) r.2⟩) (Cert.MobaReferenceIdeal.Value.run m g)

end Cert.Frames
end
-- ==== Proof.SbMath.lean ====
/-
  The arithmetic of stick-breaking attention over the extended reals, apart from any program: the weights are real, the
  values any extended reals.
-/
module

public import Idealize.ShloMosaic.PureOps.Ideal
public import Mathlib.Data.EReal.Operations
public import Mathlib.Algebra.BigOperators.Intervals

@[expose] public section

noncomputable section

namespace Cert.SbMath

open Idealize.ShloMosaic Finset

/-- A nonnegative real factor distributes over a sum of extended reals. -/
theorem coe_mul_sum {ι : Type*} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [sum_insert ha, sum_insert ha, ← ih]
    exact EReal.left_distrib_of_nonneg_of_ne_top (by exact_mod_cast hc) (EReal.coe_ne_top c) _ _

/-- A finite sum of reals is the same sum of extended reals. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [sum_insert ha, sum_insert ha, EReal.coe_add, ih]

/-- The logarithm of the sigmoid, as the kernel writes it. -/
def lsig (z : ℝ) : ℝ := min z 0 - Real.log (1 + Real.exp (-|z|))

/-- The logarithm of one minus the sigmoid. -/
def lneg (z : ℝ) : ℝ := lsig z - z

/-- The weight of key `j` for a query at position `t`: its own sigmoid and the complements of the keys between. -/
def wt (z : ℕ → ℝ) (t j : ℕ) : ℝ := Real.exp (lsig (z j) + ∑ k ∈ Ico (j + 1) t, lneg (z k))

/-- The weighted values of the keys from `a` up to the query's position `t`. -/
def att (z : ℕ → ℝ) (v : ℕ → EReal) (a t : ℕ) : EReal := ∑ j ∈ Ico a t, (wt z t j : EReal) * v j

/-- The sum of the complements' logarithms of the keys from `a` to `t`. -/
def carry (z : ℕ → ℝ) (a t : ℕ) : ℝ := ∑ k ∈ Ico a t, lneg (z k)

theorem carry_self (z : ℕ → ℝ) (t : ℕ) : carry z t t = 0 := by simp [carry]

/-- A sum over a block's lanes is a sum over an interval. -/
theorem sum_lanes {M : Type*} [AddCommMonoid M] (n a : ℕ) (f : ℕ → M) :
    ∑ c : Fin n, f (a + c.val) = ∑ j ∈ Ico a (a + n), f j := by
  rw [Fin.sum_univ_eq_sum_range (fun c => f (a + c)) n, Finset.sum_Ico_eq_sum_range]
  simp

/-- The lanes after lane `c`. -/
theorem sum_lanes_after {M : Type*} [AddCommMonoid M] (n a : ℕ) (c : Fin n) (f : ℕ → M) :
    (∑ k : Fin n, if c.val < k.val then f (a + k.val) else 0) = ∑ j ∈ Ico (a + c.val + 1) (a + n), f j := by
  have e := sum_lanes n a (fun j => if a + c.val < j then f j else 0)
  simp only [add_lt_add_iff_left] at e
  rw [e, ← Finset.sum_filter]
  congr 1
  ext j
  simp only [mem_filter, mem_Ico]
  omega

/-- One block of 256 keys added before those from `a + 256` on. -/
theorem att_step (z : ℕ → ℝ) (v : ℕ → EReal) (a t : ℕ) (h : a + 256 ≤ t) :
    att z v a t = att z v (a + 256) t + (Real.exp (carry z (a + 256) t) : EReal)
      * ∑ c : Fin 256, (Real.exp (lsig (z (a + c.val)) + ∑ k : Fin 256, if c.val < k.val then lneg (z (a + k.val)) else 0) : EReal)
          * v (a + c.val) := by
  unfold att
  rw [← Finset.sum_Ico_consecutive _ (show a ≤ a + 256 by omega) h, add_comm,
    coe_mul_sum _ (Real.exp_pos _).le]
  congr 1
  rw [← sum_lanes 256 a fun j => (wt z t j : EReal) * v j]
  refine Finset.sum_congr rfl fun c _ => ?_
  rw [← mul_assoc, ← EReal.coe_mul, ← Real.exp_add]
  congr 2
  unfold wt carry
  rw [sum_lanes_after 256 a c fun j => lneg (z j),
    ← Finset.sum_Ico_consecutive _ (show a + c.val + 1 ≤ a + 256 by omega) h]
  congr 1
  ring

theorem carry_step (z : ℕ → ℝ) (a t : ℕ) (h : a + 256 ≤ t) :
    carry z a t = carry z (a + 256) t + ((∑ k : Fin 256, if (0 : ℕ) < k.val then lneg (z (a + k.val)) else 0) + lneg (z a)) := by
  unfold carry
  rw [← Finset.sum_Ico_consecutive _ (show a ≤ a + 256 by omega) h, add_comm]
  congr 1
  have := sum_lanes_after 256 a (0 : Fin 256) fun j => lneg (z j)
  simp only [Fin.val_zero, add_zero] at this
  rw [this, Finset.sum_eq_sum_Ico_succ_bot (show a < a + 256 by omega), add_comm]

/-- The block that holds the query: the keys before it, the others masked. -/
theorem att_diag (z : ℕ → ℝ) (v : ℕ → EReal) (a r : ℕ) (h : r < 256) :
    att z v a (a + r) = ∑ c : Fin 256, (if c.val < r then
        (Real.exp (lsig (z (a + c.val)) + ∑ k : Fin 256, if c.val < k.val then (if k.val < r then lneg (z (a + k.val)) else 0) else 0) : EReal)
        else 0) * v (a + c.val) := by
  have e : ∀ c : Fin 256, (if c.val < r then
        (Real.exp (lsig (z (a + c.val)) + ∑ k : Fin 256, if c.val < k.val then (if k.val < r then lneg (z (a + k.val)) else 0) else 0) : EReal)
        else 0) * v (a + c.val) = (fun j => if j < a + r then (wt z (a + r) j : EReal) * v j else 0) (a + c.val) := by
    intro c
    simp only [add_lt_add_iff_left]
    split
    · unfold wt
      congr 3
      have h2 := sum_lanes_after 256 a c fun j => if j < a + r then lneg (z j) else 0
      simp only [add_lt_add_iff_left] at h2
      rw [h2, ← Finset.sum_filter]
      congr 2
      ext j
      simp only [mem_filter, mem_Ico]
      omega
    · rw [zero_mul]
  rw [Finset.sum_congr rfl fun c _ => e c,
    sum_lanes 256 a (fun j => if j < a + r then (wt z (a + r) j : EReal) * v j else 0), ← Finset.sum_filter]
  unfold att
  congr 1
  ext j
  simp only [mem_filter, mem_Ico]
  omega

theorem carry_diag (z : ℕ → ℝ) (a r : ℕ) (h : r < 256) :
    carry z a (a + r) = (∑ k : Fin 256, if (0 : ℕ) < k.val then (if k.val < r then lneg (z (a + k.val)) else 0) else 0)
      + (if 0 < r then lneg (z a) else 0) := by
  have h2 := sum_lanes_after 256 a (0 : Fin 256) fun j => if j < a + r then lneg (z j) else 0
  simp only [add_lt_add_iff_left, Fin.val_zero, add_zero] at h2
  rw [h2]
  have h3 : (if 0 < r then lneg (z a) else 0) = if a < a + r then lneg (z a) else 0 := by simp
  rw [h3, add_comm (∑ x ∈ _, _), ← Finset.sum_eq_sum_Ico_succ_bot (f := fun j => if j < a + r then lneg (z j) else 0)
    (show a < a + 256 by omega), ← Finset.sum_filter]
  unfold carry
  congr 1
  ext j
  simp only [mem_filter, mem_Ico]
  omega

/-- The whole row of the reference: masked weights over every key, the suffix a running sum from the right less its own term. -/
theorem att_row (z : ℕ → ℝ) (v : ℕ → EReal) (n t : ℕ) (h : t ≤ n) :
    ∑ j : Fin n, (if j.val < t then
        (Real.exp (lsig (z j.val) + ((∑ k : Fin n, if j.val ≤ k.val then (if k.val < t then lneg (z k.val) else 0) else 0)
          - lneg (z j.val))) : EReal) else 0) * v j.val = att z v 0 t := by
  have e : ∀ j : Fin n, (if j.val < t then
        (Real.exp (lsig (z j.val) + ((∑ k : Fin n, if j.val ≤ k.val then (if k.val < t then lneg (z k.val) else 0) else 0)
          - lneg (z j.val))) : EReal) else 0) * v j.val
        = (fun j => if j < t then (wt z t j : EReal) * v j else 0) (0 + j.val) := by
    intro j
    simp only [zero_add]
    split
    · rename_i hj
      congr 3
      rw [Fin.sum_univ_eq_sum_range (fun k => if j.val ≤ k then (if k < t then lneg (z k) else 0) else 0) n,
        ← Finset.sum_filter, ← Finset.sum_filter, Finset.filter_filter]
      have : {k ∈ range n | j.val ≤ k ∧ k < t} = Ico j.val t := by
        ext k
        simp only [mem_filter, mem_Ico, mem_range]
        omega
      rw [this, Finset.sum_eq_sum_Ico_succ_bot hj]
      congr 1
      ring
    · rw [zero_mul]
  rw [Finset.sum_congr rfl fun c _ => e c,
    sum_lanes n 0 (fun j => if j < t then (wt z t j : EReal) * v j else 0), ← Finset.sum_filter]
  unfold att
  congr 1
  ext j
  simp only [mem_filter, mem_Ico]
  omega

/-! ## The programs' scalar operations at reals -/

theorem one_add_exp_pos (x : ℝ) : ¬ (1 + Real.exp x ≤ 0) := by have := Real.exp_pos x; linarith

theorem coe_min (a b : ℝ) : min (a : EReal) (b : EReal) = ((min a b : ℝ) : EReal) :=
  (EReal.coe_strictMono.monotone.map_min).symm

theorem coe_max (a b : ℝ) : max (a : EReal) (b : EReal) = ((max a b : ℝ) : EReal) :=
  (EReal.coe_strictMono.monotone.map_max).symm

/-- `log (1 + exp x)` at a real. -/
theorem log_one_add_exp (x : ℝ) : Ideal.log (1 + Ideal.exp (x : EReal)) = ((Real.log (1 + Real.exp x) : ℝ) : EReal) := by
  rw [Ideal.exp_coe, ← EReal.coe_one, ← EReal.coe_add]
  show (if 1 + Real.exp x ≤ 0 then (⊥ : EReal) else _) = _
  rw [if_neg (one_add_exp_pos x)]

theorem lneg_eq (z : ℝ) : lneg z = - (max z 0 + Real.log (1 + Real.exp (-|z|))) := by
  unfold lneg lsig
  rcases le_total z 0 with h | h
  · rw [min_eq_left h, max_eq_right h]; ring
  · rw [min_eq_right h, max_eq_left h]; ring

theorem lsig_eq (z : ℝ) : lsig z = - (max (-z) 0 + Real.log (1 + Real.exp (-|z|))) := by
  unfold lsig
  rcases le_total z 0 with h | h
  · rw [min_eq_left h, max_eq_left (by linarith)]; ring
  · rw [min_eq_right h, max_eq_right (by linarith)]; ring

end Cert.SbMath

end
-- ==== Proof.SbBody.lean ====
module

public import proofs.«01_k».proof.Proof.Gen.KernelIdeal.Skeleton
public import proofs.«01_k».proof.Proof.SbMath
public import Idealize.ShloMosaic.Lib.Pointwise
public import Idealize.ShloMosaic.Lib.WordCmp

/-! The values of one block of keys of the stick-breaking attention, at a query row. -/

@[expose] public section
set_option maxRecDepth 16384
noncomputable section
open Idealize.ShloMosaic Idealize.ShloMosaic.TcCoe Idealize.SL.Sem
namespace Cert.SbBody
open Cert.KernelIdeal Cert.KernelIdeal.Gen Cert.SbMath

/-- Selecting by a decided word is the conditional. -/
theorem sel {α : Type} (p : Prop) [Decidable p] (a b : α) : Scalar.select (BitVec.ofBool (decide p)) a b = if p then a else b := by
  by_cases h : p <;> simp [h, Scalar.select]

theorem sgt (a b : ℕ) (ha : a < 256) (hb : b < 256) :
    IntOp.cmpi CmpIPredicate.sgt (BitVec.ofNat 32 a) (BitVec.ofNat 32 b) = BitVec.ofBool (decide (b < a)) :=
  WordCmp.cmpi_sgt_ofNat (by omega) (by omega)

theorem slt (a b : ℕ) (ha : a < 256) (hb : b < 256) :
    IntOp.cmpi CmpIPredicate.slt (BitVec.ofNat 32 a) (BitVec.ofNat 32 b) = BitVec.ofBool (decide (a < b)) :=
  WordCmp.cmpi_slt_ofNat (by omega) (by omega)

theorem absf_coe (z : ℝ) : FloatOps.absf (F := Ideal) (φ := FTy.f32) (z : EReal) = ((|z| : ℝ) : EReal) := by
  show max (z : EReal) (-(z : EReal)) = _
  rw [← EReal.coe_neg, coe_max]; rfl

/-- The logarithm of the sigmoid as the body computes it. -/
theorem lsig_coe (z : ℝ) : min (z : EReal) 0 - Ideal.log (1 + Ideal.exp (0 - FloatOps.absf (F := Ideal) (φ := FTy.f32) (z : EReal))) = (lsig z : EReal) := by
  rw [absf_coe, ← EReal.coe_zero, ← EReal.coe_sub, log_one_add_exp, coe_min, ← EReal.coe_sub, zero_sub]
  rfl

theorem coe_ite (p : Prop) [Decidable p] (a : ℝ) : (if p then (a : EReal) else 0) = ((if p then a else 0 : ℝ) : EReal) := by
  split <;> simp

/-- The head and its rounding's remainder: over the reals the remainder is nothing. -/
theorem suffix_coe (f : Fin 256 → ℝ) (c : Fin 256) :
    (∑ x : Fin 256, (if c.val < x.val then (f x : EReal) else 0)) + (∑ x : Fin 256, if c.val < x.val then (f x : EReal) - (f x : EReal) else 0)
      = ((∑ x : Fin 256, if c.val < x.val then f x else 0 : ℝ) : EReal) := by
  have : ∀ x : Fin 256, (if c.val < x.val then (f x : EReal) - (f x : EReal) else 0) = 0 := fun x => by
    rw [← EReal.coe_sub, sub_self]; simp
  simp only [this, Finset.sum_const_zero, add_zero]
  rw [coe_sum]
  exact Finset.sum_congr rfl fun x _ => coe_ite _ _

theorem diag_lneg (z : ℝ) (p : Prop) [Decidable p] :
    (if p then min (z : EReal) 0 - Ideal.log (1 + Ideal.exp (0 - FloatOps.absf (F := Ideal) (φ := FTy.f32) (z : EReal))) - (z : EReal) else 0)
      = ((if p then lneg z else 0 : ℝ) : EReal) := by
  rw [lsig_coe, ← EReal.coe_sub, coe_ite]; rfl

section step
variable (qh : FVec Ideal S256x128 .bf16) (kb vb : Vec Ideal S1x256x128 .bf16) (r : Fin 256) (z : ℕ → ℝ) (a : ℕ)
  (hz : ∀ c : Fin 256, k0_pay6 qh kb (ix2 r c) = (z (a + c.val) : EReal))
include hz

theorem pay7_val (c : Fin 256) : k0_pay7 qh kb (ix2 r c) = (lsig (z (a + c.val)) : EReal) := by
  pointwise [k0_pay7]
  rw [hz, lsig_coe]

theorem pay8_val (c : Fin 256) : k0_pay8 qh kb (ix2 r c) = (lneg (z (a + c.val)) : EReal) := by
  pointwise [k0_pay8]
  rw [hz, pay7_val qh kb r z a hz, ← EReal.coe_sub]; rfl

theorem pay9_val (c : Fin 256) : k0_pay9 k0_pay21 qh kb (ix2 r c)
    = ((∑ k : Fin 256, if c.val < k.val then lneg (z (a + k.val)) else 0 : ℝ) : EReal) := by
  pointwise [k0_pay9, k0_pay21]
  simp only [sgt _ _ (Fin.isLt _) (Fin.isLt _), sel, pay8_val qh kb r z a hz]
  exact suffix_coe (fun x => lneg (z (a + x.val))) c

/-- One more block of keys: the accumulator. -/
theorem acc_step (v : ℕ → EReal) (t : ℕ) (h : a + 256 ≤ t) (acc : FVec Ideal S256x128 .f32) (ca : FVec Ideal S256x1 .f32) (l : Fin 128)
    (hv : ∀ c : Fin 256, vb (ix3 0 c l) = v (a + c.val))
    (ha : acc (ix2 r l) = att z v (a + 256) t) (hc : ca (ix2 r 0) = (carry z (a + 256) t : EReal)) :
    k0_pay10 k0_pay21 qh acc ca kb vb (ix2 r l) = att z v a t := by
  pointwise [k0_pay10]
  rw [att_step z v a t h, ha, hc, Ideal.exp_coe]
  congr 2
  refine Finset.sum_congr rfl fun c _ => ?_
  rw [pay7_val qh kb r z a hz, pay9_val qh kb r z a hz, ← EReal.coe_add, Ideal.exp_coe, hv]

/-- One more block of keys: the carried sum. -/
theorem car_step (t : ℕ) (h : a + 256 ≤ t) (ca : FVec Ideal S256x1 .f32)
    (hc : ca (ix2 r 0) = (carry z (a + 256) t : EReal)) :
    k0_pay11 k0_pay21 qh ca kb (ix2 r 0) = (carry z a t : EReal) := by
  pointwise [k0_pay11]
  rw [carry_step z a t h, hc, pay9_val qh kb r z a hz, pay8_val qh kb r z a hz, ← EReal.coe_add, ← EReal.coe_add]
  rfl
end step

section diag
variable (Z Y : FVec Ideal S256x256 .f32) (r : Fin 256) (z : ℕ → ℝ) (a : ℕ)
  (hz : ∀ c : Fin 256, Z (ix2 r c) = (z (a + c.val) : EReal)) (hy : ∀ c : Fin 256, Y (ix2 r c) = min (z (a + c.val) : EReal) 0)
include hz hy

theorem pay1_val (c : Fin 256) : k0_pay1 Z Y (ix2 r c) = (lsig (z (a + c.val)) : EReal) := by
  pointwise [k0_pay1]
  rw [hz, hy, lsig_coe]

theorem pay2_val (c : Fin 256) : k0_pay2 k0_pay20 Z Y (ix2 r c) = ((if c.val < r.val then lneg (z (a + c.val)) else 0 : ℝ) : EReal) := by
  pointwise [k0_pay2, k0_pay1, k0_pay20]
  rw [hz, hy, slt _ _ (Fin.isLt _) (Fin.isLt _), sel, diag_lneg]

theorem pay3_val (c : Fin 256) : k0_pay3 k0_pay20 k0_pay21 Z Y (ix2 r c)
    = ((∑ k : Fin 256, if c.val < k.val then (if k.val < r.val then lneg (z (a + k.val)) else 0) else 0 : ℝ) : EReal) := by
  pointwise [k0_pay3, k0_pay21]
  simp only [sgt _ _ (Fin.isLt _) (Fin.isLt _), sel, pay2_val Z Y r z a hz hy]
  exact suffix_coe (fun x => if x.val < r.val then lneg (z (a + x.val)) else 0) c

/-- The query's own block of keys: the accumulator. -/
theorem acc_diag (vb : FVec Ideal S256x128 .bf16) (v : ℕ → EReal) (l : Fin 128) (hv : ∀ c : Fin 256, vb (ix2 c l) = v (a + c.val)) :
    k0_pay5 k0_pay20 k0_pay21 vb Z Y (ix2 r l) = att z v a (a + r.val) := by
  have e : ∀ c : Fin 256, k0_pay20 (ix2 r c) = BitVec.ofBool (decide (c.val < r.val)) := fun c => by
    pointwise [k0_pay20]; exact slt _ _ (Fin.isLt _) (Fin.isLt _)
  pointwise [k0_pay5]
  rw [att_diag z v a r.val r.isLt]
  refine Finset.sum_congr rfl fun c _ => ?_
  rw [pay1_val Z Y r z a hz hy, pay3_val Z Y r z a hz hy, ← EReal.coe_add, Ideal.exp_coe, hv, e, sel]
  split <;> simp

/-- The query's own block of keys: the carried sum. -/
theorem car_diag : k0_pay4 k0_pay20 k0_pay21 Z Y (ix2 r 0) = (carry z a (a + r.val) : EReal) := by
  pointwise [k0_pay4]
  rw [carry_diag z a r.val r.isLt, pay3_val Z Y r z a hz hy, pay2_val Z Y r z a hz hy, ← EReal.coe_add]
  rfl
end diag

theorem pay36_eq : @k0_pay36 Ideal _ = k0_pay10 := rfl
theorem pay37_eq : @k0_pay37 Ideal _ = k0_pay11 := rfl
theorem pay5_eq (a : IVec S256x256 1) (b : FVec Ideal S256x256 .bf16) (v : FVec Ideal S256x128 .bf16) (Z Y : FVec Ideal S256x256 .f32) :
    k0_pay31 a b v (k0_pay1 Z Y) (subf (k0_pay1 Z Y) Z) k0_pay27 = k0_pay5 a b v Z Y := rfl
theorem pay4_eq (a : IVec S256x256 1) (b : FVec Ideal S256x256 .bf16) (Z Y : FVec Ideal S256x256 .f32) :
    k0_pay30 a b (subf (k0_pay1 Z Y) Z) k0_pay27 = k0_pay4 a b Z Y := rfl
theorem pay25_eq (x y : Vec Ideal S1x256x128 .bf16) : k0_pay25 x y = k0_pay1 (k0_pay6 (k0_pay22 x) y) (minimumf (k0_pay6 (k0_pay22 x) y) k0_pay27) := rfl
theorem pay26_eq (x y : Vec Ideal S1x256x128 .bf16) : k0_pay26 x y = subf (k0_pay1 (k0_pay6 (k0_pay22 x) y) (minimumf (k0_pay6 (k0_pay22 x) y) k0_pay27)) (k0_pay6 (k0_pay22 x) y) := rfl
theorem pay47_eq (q : FVec Ideal S256x128 .bf16) (i : IVec S256x128 32) (y : Vec Ideal S1x256x128 .bf16) : k0_pay47 q i y = k0_pay6 (k0_pay45 q i) y := rfl
theorem pay48_eq (q : FVec Ideal S256x128 .bf16) (i : IVec S256x128 32) (y : Vec Ideal S1x256x128 .bf16) : k0_pay48 q i y = minimumf (k0_pay6 (k0_pay45 q i) y) k0_pay27 := rfl
theorem pay46_eq (x : Vec Ideal S1x256x128 .bf16) : k0_pay46 x = k0_pay23 x := rfl
end Cert.SbBody
end
-- ==== Proof.SbLoop.lean ====
module

public import proofs.«01_k».proof.Proof.Gen.KernelIdeal.Value
public import proofs.«01_k».proof.Proof.SbBody
public import Idealize.ShloMosaic.Lib.Pipeline.ValueKit
public import Idealize.ShloMosaic.Lib.Pointwise

/-! The loop over the earlier blocks of keys, and one window of results. -/

@[expose] public section
set_option maxRecDepth 16384
noncomputable section
open Idealize.ShloMosaic Idealize.ShloMosaic.TcCoe Idealize.SL.Sem
open Idealize.ShloMosaic.Pipeline (Dat)
namespace Cert.SbBody
open Cert.KernelIdeal Cert.KernelIdeal.Gen Cert.SbMath

theorem trips1 : ∀ i : grid0.Coords, (k0_t1_loop i).trips = (i 2).val := by decide +kernel
theorem trips2 : ∀ i : grid0.Coords, (k0_t2_loop i).trips = 0 := by decide +kernel
theorem trips3 : ∀ i : grid0.Coords, (k0_t3_loop i).trips = (i 2).val := by decide +kernel
theorem trips4 : ∀ i : grid0.Coords, (k0_t4_loop i).trips = 0 := by decide +kernel
theorem off1 : ∀ i : grid0.Coords, k0_off1 i = ![0, 256 * (i 2).val, 0] := by decide +kernel
theorem off2 : ∀ i : grid0.Coords, ∀ k : Fin (k0_t1_loop i).trips, k0_off2 i k = ![0, 256 * ((i 2).val - 1 - k.val), 0] := by decide +kernel
theorem off4 : ∀ i : grid0.Coords, ∀ k : Fin (k0_t3_loop i).trips, k0_off4 i k = ![0, 256 * ((i 2).val - 1 - k.val), 0] := by decide +kernel

/-- A load of a block of rows. -/
theorem ld_rows (x : Vec Ideal S1x2048x128 .bf16) (off : Fin 3 → ℕ) (inb : ∀ a, off a + (![1, 256, 128] : Fin 3 → ℕ) a ≤ S1x2048x128.size a) (a : ℕ) (ha : a + 256 ≤ 2048)
    (h : off = ![0, a, 0]) (c : Fin 256) (l : Fin 128) :
    (View.ld x (Rect.unit off ![1, 256, 128] inb) : Vec Ideal S1x256x128 .bf16) (ix3 0 c l) = x (ix3 0 ⟨a + c.val, by omega⟩ l) := by
  subst h
  refine View.ld_unit_apply_of _ _ _ _ _ _ fun k => ?_
  fin_cases k <;> simp <;> rfl

theorem pay6_at (qh : FVec Ideal S256x128 .bf16) (kb : Vec Ideal S1x256x128 .bf16) (r k : Fin 256) :
    k0_pay6 qh kb (ix2 r k) = ∑ x : Fin 128, qh (ix2 r x) * kb (ix3 0 k x) := by
  pointwise [k0_pay6]

theorem pay23_at (vb : Vec Ideal S1x256x128 .bf16) (r : Fin 256) (l : Fin 128) : k0_pay23 vb (ix2 r l) = vb (ix3 0 r l) := by
  pointwise [k0_pay23]

theorem min27 (Z : FVec Ideal S256x256 .f32) (r k : Fin 256) : minimumf Z k0_pay27 (ix2 r k) = min (Z (ix2 r k)) 0 := by
  pointwise [k0_pay27]

variable (c : Dev nD) (i : grid0.Coords) (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x256x128 .bf16) (harg6 : arg6.IsWhole)

theorem trip1 (a2 : BitVec 32) (w1 : FVec Ideal S256x128 .bf16) (w2 : IVec S256x128 32) (w5 : IVec S256x256 1) (w25 : FVec Ideal S256x128 .bf16) (w36 w37 w38 : FVec Ideal S256x256 .f32) (𝒱 : Variants) (bd : Option 𝒱.V) (v10 : FVec Ideal S256x256 .bf16) (v69 : FVec Ideal S256x128 .bf16) (x1 x2 : Vec Ideal S1x2048x128 .bf16) (k acc) :
   tripR_k0_t1 (F := Ideal) 𝒱 c bd i arg3 harg3 arg4 harg4 arg5 harg5 arg6 harg6 a2 w1 w2 w5 v10 v69 w25 w36 w37 w38 (harg4.unread x1) (harg5.unread x2) k acc =
    (k0_pay10 v10 v69 acc.1 acc.2 (View.ld x1 (Rect.unit (k0_off2 i k) ![1, 256, 128] (k0_off2_inb i k)))
        (View.ld x2 (Rect.unit (k0_off2 i k) ![1, 256, 128] (k0_off2_inb i k))),
      k0_pay11 v10 v69 acc.2 (View.ld x1 (Rect.unit (k0_off2 i k) ![1, 256, 128] (k0_off2_inb i k)))) := by
  unfold tripR_k0_t1
  unfold trip_k0_t1
  dsimp only
  simp only [View.readAt_eq_ld, harg4.read_unread, harg5.read_unread]
  rfl

theorem trip3 (𝒱 : Variants) (bd : Option 𝒱.V) (v10 : FVec Ideal S256x256 .bf16) (v69 : FVec Ideal S256x128 .bf16) (x1 x2 : Vec Ideal S1x2048x128 .bf16) (k acc) :
   tripR_k0_t3 (F := Ideal) 𝒱 c bd i arg3 harg3 arg4 harg4 arg5 harg5 arg6 harg6 v10 v69 (harg4.unread x1) (harg5.unread x2) k acc =
    (k0_pay10 v10 v69 acc.1 acc.2 (View.ld x1 (Rect.unit (k0_off4 i k) ![1, 256, 128] (k0_off4_inb i k)))
        (View.ld x2 (Rect.unit (k0_off4 i k) ![1, 256, 128] (k0_off4_inb i k))),
      k0_pay11 v10 v69 acc.2 (View.ld x1 (Rect.unit (k0_off4 i k) ![1, 256, 128] (k0_off4_inb i k)))) := by
  unfold tripR_k0_t3
  unfold trip_k0_t3
  dsimp only
  simp only [View.readAt_eq_ld, harg4.read_unread, harg5.read_unread]

section row
variable (qh : FVec Ideal S256x128 .bf16) (x1 x2 : Vec Ideal S1x2048x128 .bf16) (r : Fin 256) (l : Fin 128) (z : ℕ → ℝ) (v : ℕ → EReal)
  (hz : ∀ j : Fin 2048, ∑ x : Fin 128, qh (ix2 r x) * x1 (ix3 0 j x) = (z j.val : EReal))
  (hv : ∀ j : Fin 2048, x2 (ix3 0 j l) = v j.val)
include hz

theorem pay6_val (off : Fin 3 → ℕ) (inb) (a : ℕ) (ha : a + 256 ≤ 2048) (h : off = ![0, a, 0]) (k : Fin 256) :
    k0_pay6 qh (View.ld x1 (Rect.unit off ![1, 256, 128] inb)) (ix2 r k) = (z (a + k.val) : EReal) := by
  rw [pay6_at, ← hz ⟨a + k.val, by omega⟩]
  exact Finset.sum_congr rfl fun x _ => by rw [ld_rows x1 off inb a ha h]

include hv

theorem loop1 (a2 : BitVec 32) (w1 : FVec Ideal S256x128 .bf16) (w2 : IVec S256x128 32) (w5 : IVec S256x256 1) (w25 : FVec Ideal S256x128 .bf16) (w36 w37 w38 : FVec Ideal S256x256 .f32) (𝒱 : Variants) (bd : Option 𝒱.V) (init : FVec Ideal S256x128 .f32 × FVec Ideal S256x1 .f32) (t : ℕ) (ht : 256 * (i 2).val ≤ t)
    (h1 : init.1 (ix2 r l) = att z v (256 * (i 2).val) t) (h2 : init.2 (ix2 r 0) = (carry z (256 * (i 2).val) t : EReal)) :
    ∀ n ≤ (i 2).val, (st_k0_t1 (F := Ideal) 𝒱 c bd i arg3 harg3 arg4 harg4 arg5 harg5 arg6 harg6 a2 w1 w2 w5 k0_pay21 qh w25 w36 w37 w38 (harg4.unread x1) (harg5.unread x2) init n).1 (ix2 r l) = att z v (256 * ((i 2).val - n)) t
      ∧ (st_k0_t1 (F := Ideal) 𝒱 c bd i arg3 harg3 arg4 harg4 arg5 harg5 arg6 harg6 a2 w1 w2 w5 k0_pay21 qh w25 w36 w37 w38 (harg4.unread x1) (harg5.unread x2) init n).2 (ix2 r 0) = (carry z (256 * ((i 2).val - n)) t : EReal) := by
  intro n
  induction n with
  | zero => intro _; exact ⟨h1, h2⟩
  | succ n ih =>
    intro hn
    obtain ⟨e1, e2⟩ := ih (by omega)
    have hi : (i 2).val < 8 := (i 2).isLt
    have e := st_k0_t1_succ (F := Ideal) 𝒱 c bd i arg3 harg3 arg4 harg4 arg5 harg5 arg6 harg6 a2 w1 w2 w5 k0_pay21 qh w25 w36 w37 w38 (harg4.unread x1) (harg5.unread x2) init ⟨n, by rw [trips1]; omega⟩
    rw [trip1] at e
    dsimp only at e
    rw [e]
    have ea : 256 * ((i 2).val - (n + 1)) + 256 = 256 * ((i 2).val - n) := by omega
    have eo := (off2 i ⟨n, by rw [trips1]; omega⟩).trans (show _ = ![0, 256 * ((i 2).val - (n + 1)), 0] by rw [show (i 2).val - 1 - n = (i 2).val - (n + 1) by omega])
    refine ⟨acc_step _ _ _ r z _ (pay6_val qh x1 r z hz _ _ _ (by omega) eo) v t (by omega) _ _ l (fun k => ?_) (by rw [ea]; exact e1) (by rw [ea]; exact e2),
      car_step _ _ r z _ (pay6_val qh x1 r z hz _ _ _ (by omega) eo) t (by omega) _ (by rw [ea]; exact e2)⟩
    rw [ld_rows x2 _ _ _ (by omega) eo, hv]

theorem loop3 (𝒱 : Variants) (bd : Option 𝒱.V) (init : FVec Ideal S256x128 .f32 × FVec Ideal S256x1 .f32) (t : ℕ) (ht : 256 * (i 2).val ≤ t)
    (h1 : init.1 (ix2 r l) = att z v (256 * (i 2).val) t) (h2 : init.2 (ix2 r 0) = (carry z (256 * (i 2).val) t : EReal)) :
    ∀ n ≤ (i 2).val, (st_k0_t3 (F := Ideal) 𝒱 c bd i arg3 harg3 arg4 harg4 arg5 harg5 arg6 harg6 k0_pay21 qh (harg4.unread x1) (harg5.unread x2) init n).1 (ix2 r l) = att z v (256 * ((i 2).val - n)) t
      ∧ (st_k0_t3 (F := Ideal) 𝒱 c bd i arg3 harg3 arg4 harg4 arg5 harg5 arg6 harg6 k0_pay21 qh (harg4.unread x1) (harg5.unread x2) init n).2 (ix2 r 0) = (carry z (256 * ((i 2).val - n)) t : EReal) := by
  intro n
  induction n with
  | zero => intro _; exact ⟨h1, h2⟩
  | succ n ih =>
    intro hn
    obtain ⟨e1, e2⟩ := ih (by omega)
    have hi : (i 2).val < 8 := (i 2).isLt
    have e := st_k0_t3_succ (F := Ideal) 𝒱 c bd i arg3 harg3 arg4 harg4 arg5 harg5 arg6 harg6 k0_pay21 qh (harg4.unread x1) (harg5.unread x2) init ⟨n, by rw [trips3]; omega⟩
    rw [trip3] at e
    dsimp only at e
    rw [e]
    have ea : 256 * ((i 2).val - (n + 1)) + 256 = 256 * ((i 2).val - n) := by omega
    have eo := (off4 i ⟨n, by rw [trips3]; omega⟩).trans (show _ = ![0, 256 * ((i 2).val - (n + 1)), 0] by rw [show (i 2).val - 1 - n = (i 2).val - (n + 1) by omega])
    refine ⟨acc_step _ _ _ r z _ (pay6_val qh x1 r z hz _ _ _ (by omega) eo) v t (by omega) _ _ l (fun k => ?_) (by rw [ea]; exact e1) (by rw [ea]; exact e2),
      car_step _ _ r z _ (pay6_val qh x1 r z hz _ _ _ (by omega) eo) t (by omega) _ (by rw [ea]; exact e2)⟩
    rw [ld_rows x2 _ _ _ (by omega) eo, hv]

/-- The start of a head's loop at the query's own block: the weighted values. -/
theorem own_acc (off : Fin 3 → ℕ) (inb inb') (a : ℕ) (ha : a + 256 ≤ 2048) (h : off = ![0, a, 0]) :
    k0_pay5 k0_pay20 k0_pay21 (k0_pay23 (View.ld x2 (Rect.unit off ![1, 256, 128] inb'))) (k0_pay6 qh (View.ld x1 (Rect.unit off ![1, 256, 128] inb)))
      (minimumf (k0_pay6 qh (View.ld x1 (Rect.unit off ![1, 256, 128] inb))) k0_pay27) (ix2 r l) = att z v a (a + r.val) := by
  refine acc_diag _ _ r z a (pay6_val qh x1 r z hz _ _ _ ha h) (fun k => ?_) _ v l fun k => ?_
  · rw [min27, pay6_val qh x1 r z hz _ _ _ ha h]
  · rw [pay23_at, ld_rows x2 _ _ _ ha h, hv]
omit hv
/-- The start of a head's loop at the query's own block: the carried sum. -/
theorem own_car (off : Fin 3 → ℕ) (inb) (a : ℕ) (ha : a + 256 ≤ 2048) (h : off = ![0, a, 0]) :
    k0_pay4 k0_pay20 k0_pay21 (k0_pay6 qh (View.ld x1 (Rect.unit off ![1, 256, 128] inb)))
      (minimumf (k0_pay6 qh (View.ld x1 (Rect.unit off ![1, 256, 128] inb))) k0_pay27) (ix2 r 0) = (carry z a (a + r.val) : EReal) := by
  refine car_diag _ _ r z a (pay6_val qh x1 r z hz _ _ _ ha h) (fun k => ?_)
  rw [min27, pay6_val qh x1 r z hz _ _ _ ha h]
end row

/-- The lanes of one half. -/
theorem half (a b x : ℕ) (ha : a < 256) (hb : b < 256) (hx : x < 128) :
    IntOp.andi (IntOp.cmpi CmpIPredicate.sge (BitVec.ofNat 32 x) (BitVec.ofNat 32 a)) (IntOp.cmpi CmpIPredicate.slt (BitVec.ofNat 32 x) (BitVec.ofNat 32 b))
      = BitVec.ofBool (decide (a ≤ x ∧ x < b)) := by
  rw [WordCmp.cmpi_sge_ofNat (by omega) (by omega), WordCmp.cmpi_slt_ofNat (by omega) (by omega), WordCmp.andi_ofBool, ← Bool.decide_and]

theorem pay18_val (A B : FVec Ideal S256x128 .f32) (r : Fin 256) (l : Fin 128) :
    k0_pay18 A (k0_pay44 (iota Kind.tc S256x128 32 [1] iota_S256x128_d1_w32)) B (ix3 0 r l) = if 64 ≤ l.val then B (ix2 r l) else A (ix2 r l) := by
  pointwise [k0_pay18, k0_pay44]
  rw [half 64 128 l.val (by omega) (by omega) l.isLt, sel]
  simp

/-- The window's results: each lane half holds its head's weighted values. -/
theorem out_val (x0 : Vec Ideal S1x256x128 .bf16) (x1 x2 : Vec Ideal S1x2048x128 .bf16) (r : Fin 256) (l : Fin 128) (z0 z1 : ℕ → ℝ) (v : ℕ → EReal)
    (hz0 : ∀ j : Fin 2048, ∑ x : Fin 128, (if x.val < 64 then x0 (ix3 0 r x) else 0) * x1 (ix3 0 j x) = (z0 j.val : EReal))
    (hz1 : ∀ j : Fin 2048, ∑ x : Fin 128, (if 64 ≤ x.val then x0 (ix3 0 r x) else 0) * x1 (ix3 0 j x) = (z1 j.val : EReal))
    (hv : ∀ j : Fin 2048, x2 (ix3 0 j l) = v j.val) :
    out0_A_3 c i arg3 harg3 arg4 harg4 arg5 harg5 arg6 harg6 x0 x1 x2 (ix3 0 r l)
      = if 64 ≤ l.val then att z1 v 0 (256 * (i 2).val + r.val) else att z0 v 0 (256 * (i 2).val + r.val) := by
  have q0 : ∀ x : Fin 128, k0_pay22 x0 (ix2 r x) = if x.val < 64 then x0 (ix3 0 r x) else 0 := fun x => by
    pointwise [k0_pay22, k0_pay19]
    rw [half 0 64 x.val (by omega) (by omega) x.isLt, sel]
    simp
  have q1 : ∀ x : Fin 128, k0_pay45 (k0_pay19 x0) (iota Kind.tc S256x128 32 [1] iota_S256x128_d1_w32) (ix2 r x) = if 64 ≤ x.val then x0 (ix3 0 r x) else 0 := fun x => by
    pointwise [k0_pay45, k0_pay44, k0_pay19]
    rw [half 64 128 x.val (by omega) (by omega) x.isLt, sel]
    simp
  have hi : (i 2).val < 8 := (i 2).isLt
  simp only [← q0] at hz0
  simp only [← q1] at hz1
  have A0 := fun inb inb' => own_acc _ x1 x2 r l z0 v hz0 hv _ inb inb' (256 * (i 2).val) (by omega) (off1 i)
  have C0 := fun inb  => own_car _ x1  r z0 hz0 _ inb (256 * (i 2).val) (by omega) (off1 i)
  have A1 := fun inb inb' => own_acc _ x1 x2 r l z1 v hz1 hv _ inb inb' (256 * (i 2).val) (by omega) (off1 i)
  have C1 := fun inb  => own_car _ x1  r z1 hz1 _ inb (256 * (i 2).val) (by omega) (off1 i)
  have e1 := trips1 i
  have e2 := trips2 i
  have e3 := trips3 i
  have e4 := trips4 i
  dsimp only [Scf.Loop.trips] at e1 e2 e3 e4
  frame_out
  rw [pay18_val, e2, e1, st_k0_t2_zero, st_k0_t4_zero]
  split
  · rw [(loop3 c i arg3 harg3 arg4 harg4 arg5 harg5 arg6 harg6 _ x1 x2 r l z1 v hz1 hv Variants.none none _ (256 * (i 2).val + r.val) (by omega) ?_ ?_ _ le_rfl).1]
    · rw [Nat.sub_self]
    · exact A1 _ _
    · exact C1 _
  · rw [(loop1 c i arg3 harg3 arg4 harg4 arg5 harg5 arg6 harg6 _ x1 x2 r l z0 v hz0 hv _ _ _ _ _ _ _ _ Variants.none none _ (256 * (i 2).val + r.val) (by omega) ?_ ?_ _ le_rfl).1]
    · rw [Nat.sub_self]
    · exact A0 _ _
    · exact C0 _
end Cert.SbBody
end
-- ==== Proof.SbRef.lean ====
module

public import proofs.«01_k».proof.Proof.Gen.ReferenceIdeal.Run
public import proofs.«01_k».proof.Proof.SbBody
public import Idealize.ShloMosaic.Lib.Pointwise

/-! The reference's stick-breaking attention at an index. -/

@[expose] public section
set_option maxRecDepth 16384
noncomputable section
open Idealize.ShloMosaic Idealize.ShloMosaic.TcCoe Idealize.SL.Sem
namespace Cert.SbRef
open Cert.ReferenceIdeal Cert.ReferenceIdeal.Gen Cert.SbMath Cert.SbBody

/-! ### The running sum from the right -/

theorem foldl_add {n : ℕ} (g : Fin n → EReal) (v : EReal) : (List.finRange n).foldl (fun r k => r + g k) v = v + ∑ k, g k := by
  have key : ∀ (l : List (Fin n)) (v : EReal), l.foldl (fun r k => r + g k) v = v + (l.map g).sum := by
    intro l
    induction l with
    | nil => intro v; simp
    | cons a l ih => intro v; rw [List.foldl_cons, ih, List.map_cons, List.sum_cons, add_assoc]
  rw [key, Fin.sum_univ_def]

/-- A sum over the positions of a window of one row. -/
theorem sum_window (f : (⟨4, ![1, 1, 1, 2048]⟩ : Shape).Idx → EReal) : ∑ i, f i = ∑ w : Fin 2048, f (ix4 (0 : Fin 1) (0 : Fin 1) (0 : Fin 1) w) := by
  refine (Fintype.sum_equiv (⟨fun w => ix4 (0 : Fin 1) (0 : Fin 1) (0 : Fin 1) w, fun i => i 3, fun w => rfl, fun i => ?_⟩ : Fin 2048 ≃ (⟨4, ![1, 1, 1, 2048]⟩ : Shape).Idx) _ _ fun w => rfl).symm
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl

/-- A window's sum at an index: over the window's positions, those inside the operand. -/
theorem window_sum {s t u : Shape} (window strides lo hi : Fin s.rank → ℕ) (x : FVec Ideal s .f32) (init : u.Idx → EReal) (h : s.ReduceWindows window strides lo hi t)
    (hu : 0 < u.numel) (j : t.Idx) :
    Host.reduceWindowAdd (F := Ideal) (φ := .f32) window strides lo hi x init h hu j = init (Shape.Idx.first hu)
      + ∑ w : (⟨s.rank, window⟩ : Shape).Idx, (if hin : ∀ a : Fin s.rank, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else init (Shape.Idx.first hu)) := by
  refine Eq.trans (b := init (Shape.Idx.first hu) + _) (foldl_add _ _) (congrArg _ (Fintype.sum_equiv ((⟨s.rank, window⟩ : Shape).rowMajor.symm) _ _ fun n => ?_))
  dsimp only
  split <;> rfl

/-- The running sum from the right along a row. -/
theorem run_sum (x : FVec Ideal S32x8x2048x2048 .f32) (init : S_.Idx → EReal) (h0 : ∀ i, init i = 0) (h hu) (b : Fin 32) (hd : Fin 8) (t s : Fin 2048) :
    Host.reduceWindowAdd (F := Ideal) (φ := .f32) (s := S32x8x2048x2048) (t := S32x8x2048x2048) (u := S_) ![1, 1, 1, 2048] ![1, 1, 1, 1] ![0, 0, 0, 0] ![0, 0, 0, 2047] x init h hu (ix4 b hd t s)
      = ∑ k : Fin 2048, if s.val ≤ k.val then x (ix4 b hd t k) else 0 := by
  rw [window_sum, h0, zero_add]
  refine (sum_window _).trans ?_
  have hb := b.isLt
  have hhd := hd.isLt
  have ht := t.isLt
  have hs := s.isLt
  have e : ∀ w : Fin 2048, (∀ a : Fin 4, (![0, 0, 0, 0] : Fin 4 → ℕ) a ≤ ((ix4 b hd t s : S32x8x2048x2048.Idx) a).val * (![1, 1, 1, 1] : Fin 4 → ℕ) a + ((ix4 (0 : Fin 1) (0 : Fin 1) (0 : Fin 1) w : (⟨4, ![1, 1, 1, 2048]⟩ : Shape).Idx) a).val ∧ ((ix4 b hd t s : S32x8x2048x2048.Idx) a).val * (![1, 1, 1, 1] : Fin 4 → ℕ) a + ((ix4 (0 : Fin 1) (0 : Fin 1) (0 : Fin 1) w : (⟨4, ![1, 1, 1, 2048]⟩ : Shape).Idx) a).val - (![0, 0, 0, 0] : Fin 4 → ℕ) a < S32x8x2048x2048.size a)
      ↔ s.val + w.val < 2048 := by
    intro w
    constructor
    · intro h
      have h3 : s.val * 1 + w.val - 0 < 2048 := (h 3).2
      omega
    · intro h a
      match a with
      | ⟨0, _⟩ => exact ⟨Nat.zero_le _, show b.val * 1 + 0 - 0 < 32 by omega⟩
      | ⟨1, _⟩ => exact ⟨Nat.zero_le _, show hd.val * 1 + 0 - 0 < 8 by omega⟩
      | ⟨2, _⟩ => exact ⟨Nat.zero_le _, show t.val * 1 + 0 - 0 < 2048 by omega⟩
      | ⟨3, _⟩ => exact ⟨Nat.zero_le _, show s.val * 1 + w.val - 0 < 2048 by omega⟩
  rw [← Finset.sum_filter]
  refine (Finset.sum_congr rfl (g := fun w : Fin 2048 => if hw : s.val + w.val < 2048 then x (ix4 b hd t ⟨s.val + w.val, hw⟩) else 0) fun w _ => ?_).trans ?_
  · by_cases hw : s.val + w.val < 2048
    · rw [dif_pos hw]
      refine Eq.trans (dif_pos ((e w).2 hw)) ?_
      refine congrArg x (funext fun a => Fin.ext ?_)
      match a with
      | ⟨0, _⟩ => show b.val * 1 + 0 - 0 = b.val; omega
      | ⟨1, _⟩ => show hd.val * 1 + 0 - 0 = hd.val; omega
      | ⟨2, _⟩ => show t.val * 1 + 0 - 0 = t.val; omega
      | ⟨3, _⟩ => show s.val * 1 + w.val - 0 = s.val + w.val; omega
    · rw [dif_neg hw]
      exact dif_neg (fun h => hw ((e w).1 h))
  · rw [← Finset.sum_filter_add_sum_filter_not Finset.univ (fun w : Fin 2048 => s.val + w.val < 2048)]
    rw [Finset.sum_eq_zero (s := Finset.filter (fun w : Fin 2048 => ¬ s.val + w.val < 2048) _) (fun w hw => dif_neg (Finset.mem_filter.1 hw).2), add_zero]
    refine Finset.sum_bij (fun w hw => ⟨s.val + w.val, (Finset.mem_filter.1 hw).2⟩) (fun w hw => Finset.mem_filter.2 ⟨Finset.mem_univ _, by show s.val ≤ s.val + w.val; omega⟩)
      (fun w hw w' hw' h => Fin.ext (by have := congrArg Fin.val h; dsimp only at this; omega))
      (fun k hk => ⟨⟨k.val - s.val, by omega⟩, Finset.mem_filter.2 ⟨Finset.mem_univ _, by have := (Finset.mem_filter.1 hk).2; have := k.isLt; show s.val + (k.val - s.val) < 2048; omega⟩, Fin.ext (by have := (Finset.mem_filter.1 hk).2; show s.val + (k.val - s.val) = k.val; omega)⟩)
      (fun w hw => dif_pos (Finset.mem_filter.1 hw).2)

def ozero : FVec Ideal S32x8x2048x2048 .f32 := broadcastInDim S32x8x2048x2048 ![] bcast_S_S32x8x2048x2048 (constant S_ .f32 0x00000000#32)

/-- The softplus as the reference prints it. -/
def softp (x : FVec Ideal S32x8x2048x2048 .f32) : FVec Ideal S32x8x2048x2048 .f32 :=
  select (cmpf .une (subf x ozero) (subf x ozero)) (addf x ozero) (addf (maximumf x ozero) (Host.log1p (Host.exp (Host.negf (Host.absf (subf x ozero))))))

theorem softp_at (x : FVec Ideal S32x8x2048x2048 .f32) (b : Fin 32) (hd : Fin 8) (t s : Fin 2048) (z : ℝ) (hx : x (ix4 b hd t s) = (z : EReal)) :
    softp x (ix4 b hd t s) = ((max z 0 + Real.log (1 + Real.exp (-|z|)) : ℝ) : EReal) := by
  pointwise [softp, ozero]
  rw [hx, if_neg (fun h => h rfl), absf_coe, ← EReal.coe_neg]
  show max (z : EReal) 0 + Ideal.log (1 + Ideal.exp ((-|z| : ℝ) : EReal)) = _
  rw [log_one_add_exp, ← EReal.coe_zero, coe_max, ← EReal.coe_add]

def omask : IVec S32x8x2048x2048 1 := broadcastInDim S32x8x2048x2048 ![2, 3] bcast_S2048x2048_S32x8x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

theorem omask_at (b : Fin 32) (hd : Fin 8) (t s : Fin 2048) : omask (ix4 b hd t s) = BitVec.ofBool (decide (s.val < t.val)) := by
  pointwise [omask]
  exact WordCmp.cmpi_slt_ofNat (by omega) (by omega)

def lnegs (Z : FVec Ideal S32x8x2048x2048 .f32) : FVec Ideal S32x8x2048x2048 .f32 :=
  select omask (Host.negf (softp (Host.negf (Host.negf Z)))) (broadcastInDim S32x8x2048x2048 ![] bcast_S_S32x8x2048x2048 (id (constant S_ .f32 0x00000000#32)))

def wts (Z : FVec Ideal S32x8x2048x2048 .f32) : FVec Ideal S32x8x2048x2048 .f32 :=
  select omask (Host.exp (addf (Host.negf (softp (Host.negf Z))) (subf (Host.reduceWindowAdd ![1, 1, 1, 2048] ![1, 1, 1, 1] ![0, 0, 0, 0] ![0, 0, 0, 2047] (lnegs Z) (broadcastInDim S_ ![] bcast_S_S_ (constant S_ .f32 0x00000000#32)) reduceWindows_S32x8x2048x2048_S32x8x2048x2048_w1s1p0_0_w1s1p0_0_w1s1p0_0_w2048s1p0_2047 h_S_) (lnegs Z))))
    (broadcastInDim S32x8x2048x2048 ![] bcast_S_S32x8x2048x2048 (id (constant S_ .f32 0x00000000#32)))

def heads (x : (⟨S32x2048x512, .bf16⟩ : BufTy).Contents (Elt Ideal)) : FVec Ideal S32x8x2048x64 .f32 :=
  transpose S32x8x2048x64 [0, 2, 1, 3] (shapeCast S32x2048x8x64 (extf (F := Ideal) (s := S32x2048x512) .f32 x bitsLt_bf16_f32) shapeCasts_S32x2048x512_S32x2048x8x64) transposes_S32x2048x8x64_S32x8x2048x64_0_2_1_3

def zs (q k : (⟨S32x2048x512, .bf16⟩ : BufTy).Contents (Elt Ideal)) : FVec Ideal S32x8x2048x2048 .f32 :=
  Host.dotGeneral dot_S32x8x2048x64_S32x8x2048x64_S32x8x2048x2048_3_3_2_2_01_01 none (heads q) (heads k)

/-- The reference's result of the three arguments. -/
def refv (q k v : (⟨S32x2048x512, .bf16⟩ : BufTy).Contents (Elt Ideal)) : FVec Ideal S32x2048x512 .bf16 :=
  truncf .bf16 (shapeCast S32x2048x512 (transpose S32x2048x8x64 [0, 2, 1, 3] (Host.dotGeneral dot_S32x8x2048x2048_S32x8x2048x64_S32x8x2048x64_3_2_2_3_01_01 none (wts (zs q k)) (heads v))
    transposes_S32x8x2048x64_S32x2048x8x64_0_2_1_3) shapeCasts_S32x2048x8x64_S32x2048x512) bitsLt_bf16_f32

theorem res_eq (m : (ℓ : Loc nD τ sig) → Buf (Elt Ideal) ℓ) (c : Dev nD) :
    Value.res_main_v29 m c = refv (m ((c.tc : Thread nD τ).loc main_arg0)) (m ((c.tc : Thread nD τ).loc main_arg1)) (m ((c.tc : Thread nD τ).loc main_arg2)) := rfl

theorem heads_at (x : (⟨S32x2048x512, .bf16⟩ : BufTy).Contents (Elt Ideal)) (b : Fin 32) (hd : Fin 8) (t : Fin 2048) (d : Fin 64) :
    heads x (ix4 b hd t d) = x (ix3 b t ⟨hd.val * 64 + d.val, by omega⟩) := by
  pointwise [heads]

theorem zs_at (q k : (⟨S32x2048x512, .bf16⟩ : BufTy).Contents (Elt Ideal)) (b : Fin 32) (hd : Fin 8) (t s : Fin 2048) :
    zs q k (ix4 b hd t s) = ∑ d : Fin 64, heads q (ix4 b hd t d) * heads k (ix4 b hd s d) := by
  pointwise [zs]

theorem refv_at (q k v : (⟨S32x2048x512, .bf16⟩ : BufTy).Contents (Elt Ideal)) (b : Fin 32) (hd : Fin 8) (t : Fin 2048) (d : Fin 64) :
    refv q k v (ix3 b t ⟨hd.val * 64 + d.val, by omega⟩) = ∑ s : Fin 2048, wts (zs q k) (ix4 b hd t s) * heads v (ix4 b hd s d) := by
  pointwise [refv]

theorem negf_at (X : FVec Ideal S32x8x2048x2048 .f32) (i : S32x8x2048x2048.Idx) : Host.negf X i = - X i := rfl

section row
variable (Z : FVec Ideal S32x8x2048x2048 .f32) (b : Fin 32) (hd : Fin 8) (t : Fin 2048) (z : ℕ → ℝ)
  (hz : ∀ s : Fin 2048, Z (ix4 b hd t s) = (z s.val : EReal))
include hz

theorem lnegs_at (s : Fin 2048) : lnegs Z (ix4 b hd t s) = ((if s.val < t.val then lneg (z s.val) else 0 : ℝ) : EReal) := by
  have e : softp (Host.negf (Host.negf Z)) (ix4 b hd t s) = _ := softp_at _ b hd t s (z s.val) (by rw [negf_at, negf_at, neg_neg, hz])
  have : lnegs Z (ix4 b hd t s) = Scalar.select (omask (ix4 b hd t s)) (-(softp (Host.negf (Host.negf Z)) (ix4 b hd t s))) 0 := by
    pointwise [lnegs, id]
  rw [this, omask_at, sel, e, ← EReal.coe_neg, ← lneg_eq, coe_ite]

theorem wts_at (s : Fin 2048) : wts Z (ix4 b hd t s) = (if s.val < t.val then
        (Real.exp (lsig (z s.val) + ((∑ k : Fin 2048, if s.val ≤ k.val then (if k.val < t.val then lneg (z k.val) else 0) else 0)
          - (if s.val < t.val then lneg (z s.val) else 0))) : EReal) else 0) := by
  have e : softp (Host.negf Z) (ix4 b hd t s) = _ := softp_at _ b hd t s (-z s.val) (by rw [negf_at, hz, EReal.coe_neg])
  have h : wts Z (ix4 b hd t s) = Scalar.select (omask (ix4 b hd t s)) (Ideal.exp (-(softp (Host.negf Z) (ix4 b hd t s)) + (Host.reduceWindowAdd (F := Ideal) (φ := .f32) (s := S32x8x2048x2048) (t := S32x8x2048x2048) (u := S_) ![1, 1, 1, 2048] ![1, 1, 1, 1] ![0, 0, 0, 0] ![0, 0, 0, 2047] (lnegs Z) (broadcastInDim S_ ![] bcast_S_S_ (constant S_ .f32 0x00000000#32)) reduceWindows_S32x8x2048x2048_S32x8x2048x2048_w1s1p0_0_w1s1p0_0_w1s1p0_0_w2048s1p0_2047 h_S_ (ix4 b hd t s) - lnegs Z (ix4 b hd t s)))) 0 := by
    pointwise [wts, id]
  rw [h, run_sum, omask_at, sel, e, lnegs_at Z b hd t z hz]
  · have e2 : ∀ k : Fin 2048, (if s.val ≤ k.val then lnegs Z (ix4 b hd t k) else 0) = ((if s.val ≤ k.val then (if k.val < t.val then lneg (z k.val) else 0) else 0 : ℝ) : EReal) := fun k => by
      rw [lnegs_at Z b hd t z hz, coe_ite]
    rw [Finset.sum_congr rfl fun k _ => e2 k, ← coe_sum, ← EReal.coe_neg, abs_neg, ← lsig_eq, ← EReal.coe_sub, ← EReal.coe_add, Ideal.exp_coe]
  · intro i
    pointwise []

end row

/-- The reference's row: the weighted values of the keys before the query. -/
theorem refv_row (q k v : (⟨S32x2048x512, .bf16⟩ : BufTy).Contents (Elt Ideal)) (b : Fin 32) (hd : Fin 8) (t : Fin 2048) (d : Fin 64) (z : ℕ → ℝ) (w : ℕ → EReal)
    (hz : ∀ s : Fin 2048, ∑ d : Fin 64, q (ix3 b t ⟨hd.val * 64 + d.val, by omega⟩) * k (ix3 b s ⟨hd.val * 64 + d.val, by omega⟩) = (z s.val : EReal))
    (hw : ∀ s : Fin 2048, v (ix3 b s ⟨hd.val * 64 + d.val, by omega⟩) = w s.val) :
    refv q k v (ix3 b t ⟨hd.val * 64 + d.val, by omega⟩) = att z w 0 t.val := by
  rw [refv_at, ← att_row z w 2048 t.val t.isLt.le]
  refine Finset.sum_congr rfl fun s _ => ?_
  rw [heads_at, hw, wts_at _ b hd t z (fun s => by rw [zs_at, ← hz]; exact Finset.sum_congr rfl fun d _ => by rw [heads_at, heads_at])]
  split
  · rfl
  · rfl

end Cert.SbRef
end
-- ==== Proof.SbVal.lean ====
module

public import proofs.«01_k».proof.Proof.SbLoop
public import proofs.«01_k».proof.Proof.SbRef
public import Idealize.ShloMosaic.Lib.Pipeline.Covers

/-! The array of results of the kernel is the reference's term. -/

@[expose] public section
set_option maxRecDepth 16384
noncomputable section
open Idealize.ShloMosaic Idealize.ShloMosaic.TcCoe Idealize.SL.Sem
open Idealize.ShloMosaic.Pipeline (Dat)
namespace Cert.SbVal
open Cert.KernelIdeal Cert.KernelIdeal.Gen Cert.SbMath
variable (m : (ℓ : Loc nD τ sig) → Buf (Elt Ideal) ℓ)

theorem idx : ∀ t : Fin cfg0.N, win0_0.index t = ![(grid0.coords t 0).val, (grid0.coords t 2).val, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, (grid0.coords t 2).val, (grid0.coords t 1).val] :=
  (by decide +kernel : ∀ t : Fin grid0.N, _)

abbrev Arr := (⟨S32x2048x512, .bf16⟩ : BufTy).Contents (Elt Ideal)

/-- A sum over 128 lanes that reads the lower half only. -/
theorem sum_lo (f : Fin 128 → EReal) : ∑ x : Fin 128, (if x.val < 64 then f x else 0) = ∑ d : Fin 64, f ⟨d.val, by omega⟩ := by
  refine (Fin.sum_univ_add (a := 64) (b := 64) (f := fun x : Fin (64+64) => if x.val < 64 then f x else 0)).trans ?_
  rw [Finset.sum_eq_zero (s := Finset.univ) (f := fun i : Fin 64 => if (Fin.natAdd 64 i).val < 64 then f (Fin.natAdd 64 i) else 0), add_zero]
  · refine Finset.sum_congr rfl fun d _ => ?_
    rw [if_pos (by simp)]
    rfl
  · intro d _
    rw [if_neg (by simp)]

/-- A sum over 128 lanes that reads the upper half only. -/
theorem sum_hi (f : Fin 128 → EReal) : ∑ x : Fin 128, (if 64 ≤ x.val then f x else 0) = ∑ d : Fin 64, f ⟨64 + d.val, by omega⟩ := by
  refine (Fin.sum_univ_add (a := 64) (b := 64) (f := fun x : Fin (64+64) => if 64 ≤ x.val then f x else 0)).trans ?_
  rw [Finset.sum_eq_zero (s := Finset.univ) (f := fun i : Fin 64 => if 64 ≤ (Fin.castAdd 64 i).val then f (Fin.castAdd 64 i) else 0), zero_add]
  · refine Finset.sum_congr rfl fun d _ => ?_
    rw [if_pos (by simp)]
    rfl
  · intro d _
    rw [if_neg (by simp)]

section core
variable (q k v : Arr) (hq : ∀ i, ∃ r : ℝ, q i = (r : EReal)) (hk : ∀ i, ∃ r : ℝ, k i = (r : EReal))

/-- The score of a query with a key, in one head: a real. -/
def score (b : Fin 32) (hd : Fin 8) (t : Fin 2048) (j : ℕ) : ℝ :=
  if hj : j < 2048 then ∑ d : Fin 64, (q (ix3 b t ⟨hd.val * 64 + d.val, by omega⟩)).toReal * (k (ix3 b ⟨j, hj⟩ ⟨hd.val * 64 + d.val, by omega⟩)).toReal else 0

include hq hk in
theorem score_eq (b : Fin 32) (hd : Fin 8) (t s : Fin 2048) :
    ∑ d : Fin 64, q (ix3 b t ⟨hd.val * 64 + d.val, by omega⟩) * k (ix3 b s ⟨hd.val * 64 + d.val, by omega⟩) = (score q k b hd t s.val : EReal) := by
  unfold score
  rw [dif_pos s.isLt, coe_sum]
  refine Finset.sum_congr rfl fun d _ => ?_
  obtain ⟨a, ha⟩ := hq (ix3 b t ⟨hd.val * 64 + d.val, by omega⟩)
  obtain ⟨a', ha'⟩ := hk (ix3 b s ⟨hd.val * 64 + d.val, by omega⟩)
  rw [ha, ha', EReal.coe_mul]
  rfl

/-- The values of one column, by key. -/
def col (b : Fin 32) (l : Fin 512) (j : ℕ) : EReal := if hj : j < 2048 then v (ix3 b ⟨j, hj⟩ l) else 0

theorem col_eq (b : Fin 32) (l : Fin 512) (s : Fin 2048) : v (ix3 b s l) = col v b l s.val := by
  unfold col
  rw [dif_pos s.isLt]

include hq hk in
/-- One window of results, from its three blocks, is the reference's. -/
theorem core (c : Dev nD) (i : grid0.Coords) (arg3 : Memref sig .tc .vmem S1x256x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x256x128 .bf16) (harg6 : arg6.IsWhole)
    (x0 : Vec Ideal S1x256x128 .bf16) (x1 x2 : Vec Ideal S1x2048x128 .bf16) (b : Fin 32) (hp : Fin 4)
    (h0 : ∀ (r : Fin 256) (x : Fin 128), x0 (ix3 0 r x) = q (ix3 b ⟨(i 2).val * 256 + r.val, by have : (i 2).val < 8 := (i 2).isLt; omega⟩ ⟨hp.val * 128 + x.val, by omega⟩))
    (h1 : ∀ (r : Fin 2048) (x : Fin 128), x1 (ix3 0 r x) = k (ix3 b r ⟨hp.val * 128 + x.val, by omega⟩))
    (h2 : ∀ (r : Fin 2048) (x : Fin 128), x2 (ix3 0 r x) = v (ix3 b r ⟨hp.val * 128 + x.val, by omega⟩))
    (r : Fin 256) (l : Fin 128) :
    out0_A_3 c i arg3 harg3 arg4 harg4 arg5 harg5 arg6 harg6 x0 x1 x2 (ix3 0 r l)
      = SbRef.refv q k v (ix3 b ⟨(i 2).val * 256 + r.val, by have : (i 2).val < 8 := (i 2).isLt; omega⟩ ⟨hp.val * 128 + l.val, by omega⟩) := by
  have hi : (i 2).val < 8 := (i 2).isLt
  have er : (i 2).val * 256 + r.val = 256 * (i 2).val + r.val := by omega
  refine (SbBody.out_val c i arg3 harg3 arg4 harg4 arg5 harg5 arg6 harg6 x0 x1 x2 r l
    (score q k b ⟨2 * hp.val, by omega⟩ ⟨(i 2).val * 256 + r.val, by omega⟩) (score q k b ⟨2 * hp.val + 1, by omega⟩ ⟨(i 2).val * 256 + r.val, by omega⟩)
    (col v b ⟨hp.val * 128 + l.val, by omega⟩) (fun j => ?_) (fun j => ?_) fun j => ?_).trans ?_
  · simp only [ite_mul, zero_mul]
    rw [sum_lo fun x => x0 (ix3 0 r x) * x1 (ix3 0 j x), ← score_eq q k hq hk]
    refine Finset.sum_congr rfl fun d _ => ?_
    rw [h0, h1]
    congr 4 <;> (dsimp only; omega)
  · simp only [ite_mul, zero_mul]
    rw [sum_hi fun x => x0 (ix3 0 r x) * x1 (ix3 0 j x), ← score_eq q k hq hk]
    refine Finset.sum_congr rfl fun d _ => ?_
    rw [h0, h1]
    congr 4 <;> (dsimp only; omega)
  · rw [h2, ← col_eq]
  · split
    · rename_i hl
      have e : (⟨hp.val * 128 + l.val, by omega⟩ : Fin 512) = ⟨(2 * hp.val + 1) * 64 + (l.val - 64), by omega⟩ := Fin.ext (by dsimp only; omega)
      rw [e, ← er]
      exact (SbRef.refv_row q k v b ⟨2 * hp.val + 1, by omega⟩ ⟨(i 2).val * 256 + r.val, by omega⟩ ⟨l.val - 64, by omega⟩ _ _ (score_eq q k hq hk b _ _) (col_eq v b _)).symm
    · rename_i hl
      have e : (⟨hp.val * 128 + l.val, by omega⟩ : Fin 512) = ⟨(2 * hp.val) * 64 + l.val, by omega⟩ := Fin.ext (by dsimp only; omega)
      rw [e, ← er]
      exact (SbRef.refv_row q k v b ⟨2 * hp.val, by omega⟩ ⟨(i 2).val * 256 + r.val, by omega⟩ ⟨l.val, by omega⟩ _ _ (score_eq q k hq hk b _ _) (col_eq v b _)).symm
end core

/-- The output window's block index. -/
theorem map3 : ∀ i : grid0.Coords, cc0_transform_3 i = ![(i 0).val, (i 2).val, (i 1).val] := by decide +kernel

/-- The grid point of given coordinates. -/
def pt (a : Fin 32) (b : Fin 4) (d : Fin 8) : grid0.Coords := fun x => match x with | 0 => a | 1 => b | 2 => d

/-- The output window's block index at a point of given coordinates. -/
theorem map3_at (a : Fin 32) (b : Fin 4) (d : Fin 8) :
    win0_3.indexMap (pt a b d) = ![a.val, d.val, b.val] := map3 (pt a b d)

/-- The output window's blocks reach every element of the array. -/
theorem covers : win0_3.Covers :=
  win0_3.covers_of_indexMap_surj rfl (by decide) fun β =>
    ⟨pt ⟨(β 0).val, (β 0).isLt⟩ ⟨(β 2).val, (β 2).isLt⟩ ⟨(β 1).val, (β 1).isLt⟩, fun a => by
      rw [map3_at]
      match a with
      | 0 => rfl
      | 1 => rfl
      | 2 => rfl⟩

/-- The whole array of results. -/
theorem final (c : Dev nD) (hq : ∀ i, ∃ r : ℝ, m ((c : Thread nD τ).loc main_arg0) i = (r : EReal)) (hk : ∀ i, ∃ r : ℝ, m ((c : Thread nD τ).loc main_arg1) i = (r : EReal)) :
    (dats m 0 c).arrAt 3 cfg0.N
      = SbRef.refv (m ((c : Thread nD τ).loc main_arg0)) (m ((c : Thread nD τ).loc main_arg1)) (m ((c : Thread nD τ).loc main_arg2)) := by
  refine (dats m 0 c).arrAt_eq_of_covers 3 _ covers fun t _ y => ?_
  blk_simp
  rw [after0_3]
  idx_vars y
  have h0 : (grid0.coords t 0).val < 32 := (grid0.coords t 0).isLt
  have h1 : (grid0.coords t 1).val < 4 := (grid0.coords t 1).isLt
  have h2 : (grid0.coords t 2).val < 8 := (grid0.coords t 2).isLt
  have y0e : y0 = 0 := Subsingleton.elim _ _
  subst y0e
  unfold outsAt0
  refine (core _ _ (m ((c : Thread nD τ).loc main_arg2)) hq hk c (grid0.coords t) _ _ _ _ _ _ _ _ (iblk m c 0 t) (iblk m c 1 t) (iblk m c 2 t) ⟨(grid0.coords t 0).val, h0⟩ ⟨(grid0.coords t 1).val, h1⟩
    (fun r x => ?_) (fun r x => ?_) (fun r x => ?_) y1 y2).trans ?_
  · blk_ext [iblk, V, idx t]
  · blk_ext [iblk, V, idx t]
  · blk_ext [iblk, V, idx t]
  · blk_ext [iblk, V, idx t]

end Cert.SbVal
end
-- ==== Proof.SbClaim.lean ====
module

public import proofs.«01_k».proof.Defs
public import proofs.«01_k».proof.Proof.SbFin
public import proofs.«01_k».proof.Proof.SbVal

/-! The value claim of the attention call. -/

@[expose] public section
set_option maxRecDepth 16384
noncomputable section
open Idealize.ShloMosaic Idealize.ShloMosaic.TcCoe Idealize.SL.Sem
namespace Cert.SbClaim

/-- On finite queries and keys the attention kernel and its reference return the same array. -/
theorem algebraic : Cert.algebraic_KernelIdeal_ReferenceIdeal_pre_finite_qk
    (hKernelIdeal := Cert.KernelIdeal.Gen.facts) (hReferenceIdeal := Cert.ReferenceIdeal.Gen.facts) (hPre_finite_qk := Cert.SbFin.facts1) := by
  intro m g m' g' hpre hm
  refine ⟨fun c => SbRef.refv (m ((c.tc : Thread _ _).loc Cert.KernelIdeal.main_arg0)) (m ((c.tc : Thread _ _).loc Cert.KernelIdeal.main_arg1)) (m ((c.tc : Thread _ _).loc Cert.KernelIdeal.main_arg2)), ?_, ?_⟩
  · refine (θ_run _ _ _).mono (fun r h c => ?_) (Cert.KernelIdeal.Value.run_blocks m g)
    obtain ⟨h0, h1⟩ := h c
    have hf := SbFin.fin_qk _ _ _ (hpre c)
    exact ⟨h0.trans (SbVal.final m c hf.1 hf.2), h1⟩
  · refine (θ_run _ _ _).mono (fun r h c => ?_) (Cert.ReferenceIdeal.Value.run m' g')
    obtain ⟨h0, h1⟩ := h c
    refine ⟨h0.trans ?_, h1⟩
    rw [SbRef.res_eq]
    obtain ⟨e0, e1, e2⟩ := hm c
    rw [e0, e1, e2]

end Cert.SbClaim
end
-- ==== Proof.OutBody.lean ====
module

public import proofs.«01_k».proof.Proof.Gen.OutKernelIdeal.Frame
public import Idealize.ShloMosaic.Lib.Pointwise
public import Idealize.ShloMosaic.Lib.ValueIdx

/-! One token's row through the output block, and the kernel's body in its terms. -/

@[expose] public section
set_option maxRecDepth 16384
noncomputable section
open Idealize.ShloMosaic Idealize.ShloMosaic.TcCoe Idealize.SL.Sem
namespace Cert.OutBody
open Cert.OutKernelIdeal Cert.OutKernelIdeal.Gen

/-- A row divided by its root mean square, times the weights. -/
def rms (x g : Fin 1024 → EReal) (e : Fin 1024) : EReal :=
  x e * Ideal.rsqrt (Ideal.div (∑ j : Fin 1024, x j * x j) (Ideal.ofBits .f32 0x44800000#32) + Ideal.ofBits .f32 0x358637BD#32) * g e

/-- The two gated branches, projected. -/
def mix (ym ys : Fin 512 → EReal) (gm gs : Fin 1024 → EReal) (wm ws : Fin 512 → Fin 1024 → EReal) (wo : Fin 1024 → Fin 1024 → EReal) (e : Fin 1024) : EReal :=
  ∑ d : Fin 1024, (gm d * (∑ a : Fin 512, ym a * wm a d) + gs d * ∑ a : Fin 512, ys a * ws a d) * wo d e

/-- One hidden unit: the squared positive part of its input. -/
def unit (h : Fin 1024 → EReal) (wi : Fin 1024 → EReal) : EReal := max (∑ d : Fin 1024, h d * wi d) 0 * max (∑ d : Fin 1024, h d * wi d) 0

/-- The feed-forward part over some of the hidden units. -/
def ffn {n : ℕ} (h : Fin 1024 → EReal) (wi : Fin 1024 → Fin n → EReal) (wo : Fin n → Fin 1024 → EReal) (e : Fin 1024) : EReal :=
  ∑ f : Fin n, unit h (fun d => wi d f) * wo f e

/-- The four quarters of the hidden units together. -/
theorem ffn_split (h : Fin 1024 → EReal) (wi : Fin 1024 → Fin 4096 → EReal) (wo : Fin 4096 → Fin 1024 → EReal) (e : Fin 1024) :
    ffn h wi wo e = ffn h (fun d (f : Fin 1024) => wi d ⟨0 + f.val, by omega⟩) (fun f => wo ⟨0 + f.val, by omega⟩) e
      + ffn h (fun d (f : Fin 1024) => wi d ⟨1024 + f.val, by omega⟩) (fun f => wo ⟨1024 + f.val, by omega⟩) e
      + ffn h (fun d (f : Fin 1024) => wi d ⟨2048 + f.val, by omega⟩) (fun f => wo ⟨2048 + f.val, by omega⟩) e
      + ffn h (fun d (f : Fin 1024) => wi d ⟨3072 + f.val, by omega⟩) (fun f => wo ⟨3072 + f.val, by omega⟩) e := by
  unfold ffn
  rw [show (∑ f : Fin 4096, unit h (fun d => wi d f) * wo f e) = ∑ f : Fin (((1024 + 1024) + 1024) + 1024), unit h (fun d => wi d f) * wo f e from rfl,
    Fin.sum_univ_add, Fin.sum_univ_add, Fin.sum_univ_add]
  simp only [Nat.zero_add]
  rfl

theorem pay1_val (v0 : Vec Ideal S512x512 .bf16) (v1 : Vec Ideal S512x1024 .bf16) (v4 : Vec Ideal S512x512 .bf16) (v5 : Vec Ideal S512x1024 .bf16)
    (v8 v11 : Vec Ideal S512x1024 .bf16) (v16 : Vec Ideal S1024x1024 .bf16) (v19 : Vec Ideal S512x1024 .f32) (v20 : Vec Ideal S1x1024 .f32) (r : Fin 512) (e : Fin 1024) :
    k0_pay1 v0 v1 v4 v5 v8 v11 v16 v19 v20 (ix2 r e)
      = v19 (ix2 r e) + rms (mix (fun a => v0 (ix2 r a)) (fun a => v4 (ix2 r a)) (fun d => v8 (ix2 r d)) (fun d => v11 (ix2 r d)) (fun a d => v1 (ix2 a d)) (fun a d => v5 (ix2 a d)) fun d e => v16 (ix2 d e)) (fun e => v20 (ix2 0 e)) e := by
  pointwise [k0_pay1, rms, mix]

theorem pay2_val (x : FVec Ideal S512x1024 .f32) (g : Vec Ideal S1x1024 .f32) (r : Fin 512) (e : Fin 1024) :
    k0_pay2 x g (ix2 r e) = rms (fun e => x (ix2 r e)) (fun e => g (ix2 0 e)) e := by
  pointwise [k0_pay2, rms]

theorem pay3_val (x : FVec Ideal S512x1024 .f32) (g : Vec Ideal S1x1024 .f32) (w1 w2 w3 w4 : Vec Ideal S1024x1024 .bf16) (r : Fin 512) (e : Fin 1024) :
    k0_pay3 x g w1 w2 w3 w4 (ix2 r e) = ffn (rms (fun e => x (ix2 r e)) (fun e => g (ix2 0 e))) (fun d f => w1 (ix2 d f)) (fun f e => w2 (ix2 f e)) e
      + ffn (rms (fun e => x (ix2 r e)) (fun e => g (ix2 0 e))) (fun d f => w3 (ix2 d f)) (fun f e => w4 (ix2 f e)) e := by
  have h : rms (fun e => x (ix2 r e)) (fun e => g (ix2 0 e)) = fun e => k0_pay2 x g (ix2 r e) := funext fun e => (pay2_val x g r e).symm
  rw [h]
  pointwise [k0_pay3, ffn, unit]

theorem pay4_val (x : FVec Ideal S512x1024 .f32) (y : FVec Ideal S512x1024 .bf16) (a : FVec Ideal S512x1024 .f32) (w1 w2 w3 w4 : Vec Ideal S1024x1024 .bf16) (g : Vec Ideal S1x1024 .f32) (r : Fin 512) (e : Fin 1024) :
    k0_pay4 x y a w1 w2 w3 w4 g (ix2 r e) = x (ix2 r e) + rms (fun e => a (ix2 r e) + ffn (fun e => y (ix2 r e)) (fun d f => w1 (ix2 d f)) (fun f e => w2 (ix2 f e)) e
      + ffn (fun e => y (ix2 r e)) (fun d f => w3 (ix2 d f)) (fun f e => w4 (ix2 f e)) e) (fun e => g (ix2 0 e)) e := by
  pointwise [k0_pay4, rms, ffn, unit]

end Cert.OutBody
end
-- ==== Proof.OutRef.lean ====
module

public import proofs.«01_k».proof.Proof.Gen.OutReferenceIdeal.Run
public import proofs.«01_k».proof.Proof.OutBody
public import Idealize.ShloMosaic.Lib.Pointwise

/-! The output block's reference, read one token's row at a time. -/

@[expose] public section
set_option maxRecDepth 16384
noncomputable section
open Idealize.ShloMosaic Idealize.ShloMosaic.TcCoe Idealize.SL.Sem
namespace Cert.OutRef
open Cert.OutReferenceIdeal Cert.OutReferenceIdeal.Gen Cert.OutBody

/-- The mixed branches after the output projection. -/
def mixed (ym ys : FVec Ideal S65536x512 .bf16) (g : FVec Ideal S65536x2048 .bf16) (wm ws : FVec Ideal S1x512x1024 .f32) (wo : FVec Ideal S1x1024x1024 .f32) : FVec Ideal S65536x1024 .f32 :=
  Host.dotGeneral dot_S65536x1024_S1024x1024_S65536x1024_1_0_0_1_n_n none (addf (mulf (extractStridedSlice S65536x1024 ![0, 0] (extf .f32 g bitsLt_bf16_f32) slices_S65536x2048_S65536x1024_0_0) (Host.dotGeneral dot_S65536x512_S512x1024_S65536x1024_1_0_0_1_n_n none (extf .f32 ym bitsLt_bf16_f32) (shapeCast S512x1024 wm shapeCasts_S1x512x1024_S512x1024))) (mulf (extractStridedSlice S65536x1024 ![0, 1024] (extf .f32 g bitsLt_bf16_f32) slices_S65536x2048_S65536x1024_0_1024) (Host.dotGeneral dot_S65536x512_S512x1024_S65536x1024_1_0_0_1_n_n none (extf .f32 ys bitsLt_bf16_f32) (shapeCast S512x1024 ws shapeCasts_S1x512x1024_S512x1024)))) (shapeCast S1024x1024 wo shapeCasts_S1x1024x1024_S1024x1024)

/-- The norm of an array's rows. -/
def norm (x : FVec Ideal S65536x1024 .f32) (g : FVec Ideal S1x1024 .f32) : FVec Ideal S65536x1024 .f32 :=
  mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (shapeCast S1024 g shapeCasts_S1x1024_S1024)))

/-- The feed-forward part. -/
def ff (h : FVec Ideal S65536x1024 .f32) (wi : FVec Ideal S1x1024x4096 .f32) (wo : FVec Ideal S1x4096x1024 .f32) : FVec Ideal S65536x1024 .f32 :=
  Host.dotGeneral dot_S65536x4096_S4096x1024_S65536x1024_1_0_0_1_n_n none (mulf (maximumf (Host.dotGeneral dot_S65536x1024_S1024x4096_S65536x4096_1_0_0_1_n_n none h (shapeCast S1024x4096 wi shapeCasts_S1x1024x4096_S1024x4096)) (broadcastInDim S65536x4096 ![] bcast_S_S65536x4096 (constant S_ .f32 0x00000000#32))) (maximumf (Host.dotGeneral dot_S65536x1024_S1024x4096_S65536x4096_1_0_0_1_n_n none h (shapeCast S1024x4096 wi shapeCasts_S1x1024x4096_S1024x4096)) (broadcastInDim S65536x4096 ![] bcast_S_S65536x4096 (constant S_ .f32 0x00000000#32)))) (shapeCast S4096x1024 wo shapeCasts_S1x4096x1024_S4096x1024)

/-- The residual after the mix. -/
def res1 (x : FVec Ideal S65536x1024 .f32) (ym ys : FVec Ideal S65536x512 .bf16) (g : FVec Ideal S65536x2048 .bf16) (wm ws : FVec Ideal S1x512x1024 .f32) (wo : FVec Ideal S1x1024x1024 .f32) (gpm : FVec Ideal S1x1024 .f32) : FVec Ideal S65536x1024 .f32 :=
  addf x (norm (mixed ym ys g wm ws wo) gpm)

/-- The whole reference. -/
def refv (x : FVec Ideal S65536x1024 .f32) (ym ys : FVec Ideal S65536x512 .bf16) (g : FVec Ideal S65536x2048 .bf16) (wm ws : FVec Ideal S1x512x1024 .f32) (wo : FVec Ideal S1x1024x1024 .f32) (gpm gpre : FVec Ideal S1x1024 .f32)
    (wi : FVec Ideal S1x1024x4096 .f32) (wmo : FVec Ideal S1x4096x1024 .f32) (gpost : FVec Ideal S1x1024 .f32) : FVec Ideal S65536x1024 .f32 :=
  addf (res1 x ym ys g wm ws wo gpm) (norm (ff (norm (res1 x ym ys g wm ws wo gpm) gpre) wi wmo) gpost)

theorem res_eq (m : (ℓ : Loc nD τ sig) → Buf (Elt Ideal) ℓ) (c : Dev nD) :
    Value.res_main_v63 m c = refv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := rfl

theorem mixed_at (ym ys : FVec Ideal S65536x512 .bf16) (g : FVec Ideal S65536x2048 .bf16) (wm ws : FVec Ideal S1x512x1024 .f32) (wo : FVec Ideal S1x1024x1024 .f32) (t : Fin 65536) (e : Fin 1024) :
    mixed ym ys g wm ws wo (ix2 t e) = mix (fun a => ym (ix2 t a)) (fun a => ys (ix2 t a)) (fun d => g (ix2 t ⟨d.val, by omega⟩)) (fun d => g (ix2 t ⟨1024 + d.val, by omega⟩))
      (fun a d => wm (ix3 0 a d)) (fun a d => ws (ix3 0 a d)) (fun d e => wo (ix3 0 d e)) e := by
  pointwise [mixed, mix]

theorem norm_at (x : FVec Ideal S65536x1024 .f32) (g : FVec Ideal S1x1024 .f32) (t : Fin 65536) (e : Fin 1024) :
    norm x g (ix2 t e) = rms (fun e => x (ix2 t e)) (fun e => g (ix2 0 e)) e := by
  pointwise [norm, rms]

theorem ff_at (h : FVec Ideal S65536x1024 .f32) (wi : FVec Ideal S1x1024x4096 .f32) (wo : FVec Ideal S1x4096x1024 .f32) (t : Fin 65536) (e : Fin 1024) :
    ff h wi wo (ix2 t e) = ffn (fun e => h (ix2 t e)) (fun d f => wi (ix3 0 d f)) (fun f e => wo (ix3 0 f e)) e := by
  pointwise [ff, ffn, unit]

/-- One token's row after the mix. -/
def row1 (x : Fin 1024 → EReal) (ym ys : Fin 512 → EReal) (gm gs : Fin 1024 → EReal) (wm ws : Fin 512 → Fin 1024 → EReal) (wo : Fin 1024 → Fin 1024 → EReal) (gpm : Fin 1024 → EReal) (e : Fin 1024) : EReal :=
  x e + rms (mix ym ys gm gs wm ws wo) gpm e

/-- One token's row of the reference. -/
theorem refv_at (x : FVec Ideal S65536x1024 .f32) (ym ys : FVec Ideal S65536x512 .bf16) (g : FVec Ideal S65536x2048 .bf16) (wm ws : FVec Ideal S1x512x1024 .f32) (wo : FVec Ideal S1x1024x1024 .f32) (gpm gpre : FVec Ideal S1x1024 .f32)
    (wi : FVec Ideal S1x1024x4096 .f32) (wmo : FVec Ideal S1x4096x1024 .f32) (gpost : FVec Ideal S1x1024 .f32) (t : Fin 65536) (e : Fin 1024) (y : Fin 1024 → EReal)
    (hy : y = row1 (fun e => x (ix2 t e)) (fun a => ym (ix2 t a)) (fun a => ys (ix2 t a)) (fun d => g (ix2 t ⟨d.val, by omega⟩)) (fun d => g (ix2 t ⟨1024 + d.val, by omega⟩))
      (fun a d => wm (ix3 0 a d)) (fun a d => ws (ix3 0 a d)) (fun d e => wo (ix3 0 d e)) (fun e => gpm (ix2 0 e))) :
    refv x ym ys g wm ws wo gpm gpre wi wmo gpost (ix2 t e)
      = y e + rms (ffn (rms y fun e => gpre (ix2 0 e)) (fun d f => wi (ix3 0 d f)) (fun f e => wmo (ix3 0 f e))) (fun e => gpost (ix2 0 e)) e := by
  have h1 : (fun e => res1 x ym ys g wm ws wo gpm (ix2 t e)) = y := by
    subst hy
    funext e
    show x (ix2 t e) + norm (mixed ym ys g wm ws wo) gpm (ix2 t e) = _
    rw [norm_at]
    unfold row1
    congr 2
    funext e
    exact mixed_at ym ys g wm ws wo t e
  show res1 x ym ys g wm ws wo gpm (ix2 t e) + norm (ff (norm (res1 x ym ys g wm ws wo gpm) gpre) wi wmo) gpost (ix2 t e) = _
  rw [norm_at, congrFun h1 e]
  congr 2
  funext e
  rw [ff_at]
  congr 1
  funext e
  rw [norm_at, h1]

end Cert.OutRef
end
-- ==== Proof.OutVal.lean ====
module

public import proofs.«01_k».proof.Proof.Gen.OutKernelIdeal.Value
public import proofs.«01_k».proof.Proof.OutRef
public import Idealize.ShloMosaic.Lib.Pipeline.ValueKit

/-! The array of results of the output block is the reference's term. -/

@[expose] public section
set_option maxRecDepth 16384
noncomputable section
open Idealize.ShloMosaic Idealize.ShloMosaic.TcCoe Idealize.SL.Sem
open Idealize.ShloMosaic.Pipeline (Dat)
namespace Cert.OutVal
open Cert.OutKernelIdeal Cert.OutKernelIdeal.Gen Cert.OutBody Cert.OutRef
variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![t.val, 0] :=
  (by decide +kernel : ∀ t : Fin grid0.N, _)

/-- One block's row of results, from its blocks. -/
theorem core (x0 : Vec Ideal S512x1024 .f32) (x1 x2 : Vec Ideal S512x512 .bf16) (x3 : Vec Ideal S512x2048 .bf16) (x4 x5 : Vec Ideal S512x1024 .bf16) (x6 : Vec Ideal S1024x1024 .bf16)
    (x7 x8 : Vec Ideal S1x1024 .f32) (x9 : Vec Ideal S1024x4096 .bf16) (x10 : Vec Ideal S4096x1024 .bf16) (x11 : Vec Ideal S1x1024 .f32) (r : Fin 512) (e : Fin 1024) (y : Fin 1024 → EReal)
    (hy : y = row1 (fun e => x0 (ix2 r e)) (fun a => x1 (ix2 r a)) (fun a => x2 (ix2 r a)) (fun d => x3 (ix2 r ⟨d.val, by omega⟩)) (fun d => x3 (ix2 r ⟨1024 + d.val, by omega⟩))
      (fun a d => x4 (ix2 a d)) (fun a d => x5 (ix2 a d)) (fun d e => x6 (ix2 d e)) (fun e => x7 (ix2 0 e))) :
    out0_12 x0 x1 x2 x3 x4 x5 x6 x7 x8 x9 x10 x11 (ix2 r e)
      = y e + rms (ffn (rms y fun e => x8 (ix2 0 e)) (fun d f => x9 (ix2 d f)) (fun f e => x10 (ix2 f e))) (fun e => x11 (ix2 0 e)) e := by
  have h5 : (fun e => k0_pay5 x0 x1 x2 x3 x4 x5 x6 x7 x8 x9 x10 x11 (ix2 r e)) = y := by
    subst hy
    funext e
    unfold k0_pay5
    rw [pay1_val]
    unfold row1
    rw [View.ld_unit_lit _ x0 (by decide), View.ld_unit_lit _ x1 (by decide), View.ld_unit_lit _ x2 (by decide), View.ld_unit_lit _ x4 (by decide), View.ld_unit_lit _ x5 (by decide), View.ld_unit_lit _ x6 (by decide), View.ld_unit_lit _ x7 (by decide)]
    congr 3
    · funext d
      exact View.ld_unit_apply_of x3 _ _ _ _ _ fun a => by match a with | 0 => simp | 1 => simp
    · funext d
      exact View.ld_unit_apply_of x3 _ _ _ _ _ fun a => by match a with | 0 => simp | 1 => simp
  have hA : ∀ (o : ℕ) (ho : o + 1024 ≤ 4096) (inb) (d f : Fin 1024), View.ld x9 (Rect.unit (s := S1024x4096) ![0, o] S1024x1024.size inb) (ix2 d f) = x9 (ix2 d ⟨o + f.val, by omega⟩) := fun o ho inb d f =>
    View.ld_unit_apply_of x9 _ _ _ _ _ fun a => by match a with | 0 => simp | 1 => simp
  have hB : ∀ (o : ℕ) (ho : o + 1024 ≤ 4096) (inb) (f e : Fin 1024), View.ld x10 (Rect.unit (s := S4096x1024) ![o, 0] S1024x1024.size inb) (ix2 f e) = x10 (ix2 ⟨o + f.val, by omega⟩ e) := fun o ho inb f e =>
    View.ld_unit_apply_of x10 _ _ _ _ _ fun a => by match a with | 0 => simp | 1 => simp
  unfold out0_12
  rw [View.canon_cons_unit_lit _ _ _ (by decide), pay4_val, congrFun h5 e, View.ld_unit_lit _ x8 (by decide), View.ld_unit_lit _ x11 (by decide)]
  congr 2
  funext e
  rw [pay3_val, h5, ffn_split]
  have h2 : (fun e => k0_pay2 (k0_pay5 x0 x1 x2 x3 x4 x5 x6 x7 x8 x9 x10 x11) x8 (ix2 r e)) = rms y fun e => x8 (ix2 0 e) := by
    funext e
    rw [pay2_val, h5]
  rw [h2]
  simp only [hA 0 (by omega), hA 1024 (by omega), hA 2048 (by omega), hA 3072 (by omega), hB 0 (by omega), hB 1024 (by omega), hB 2048 (by omega), hB 3072 (by omega)]

/-- The output window's blocks reach every element of the array. -/
theorem covers : win0_12.Covers := by decide +kernel

/-- The whole array of results. -/
theorem final (c : Dev nD) :
    (dats m 0 c).arrAt 12 cfg0.N
      = OutRef.refv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 12 _ covers fun t _ y => ?_
  blk_simp
  rw [after0_12]
  idx_vars y
  have ht : t.val < 128 := t.isLt
  refine (core (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y0 y1 _ rfl).trans ?_
  refine Eq.trans ?_ ((refv_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) ⟨t.val * 512 + y0.val, by omega⟩ y1 _ rfl).symm.trans ?_)
  · blk_point [iblk, V, idx t]
  · blk_ext [iblk, V, idx t]

end Cert.OutVal
end
-- ==== Proof.OutClaim.lean ====
module

public import proofs.«01_k».proof.Defs
public import proofs.«01_k».proof.Proof.OutVal

/-! The value claim of the output block. -/

@[expose] public section
set_option maxRecDepth 16384
noncomputable section
open Idealize.ShloMosaic Idealize.ShloMosaic.TcCoe Idealize.SL.Sem
namespace Cert.OutClaim

/-- The output block's kernel and its reference return the same array. -/
theorem algebraic : Cert.algebraic_OutKernelIdeal_OutReferenceIdeal
    (hOutKernelIdeal := Cert.OutKernelIdeal.Gen.facts) (hOutReferenceIdeal := Cert.OutReferenceIdeal.Gen.facts) := by
  intro m g m' g' _ hm
  refine ⟨fun c => OutRef.refv (m ((c.tc : Thread _ _).loc Cert.OutKernelIdeal.main_arg0)) (m ((c.tc : Thread _ _).loc Cert.OutKernelIdeal.main_arg1)) (m ((c.tc : Thread _ _).loc Cert.OutKernelIdeal.main_arg2))
    (m ((c.tc : Thread _ _).loc Cert.OutKernelIdeal.main_arg3)) (m ((c.tc : Thread _ _).loc Cert.OutKernelIdeal.main_arg4)) (m ((c.tc : Thread _ _).loc Cert.OutKernelIdeal.main_arg5))
    (m ((c.tc : Thread _ _).loc Cert.OutKernelIdeal.main_arg6)) (m ((c.tc : Thread _ _).loc Cert.OutKernelIdeal.main_arg7)) (m ((c.tc : Thread _ _).loc Cert.OutKernelIdeal.main_arg8))
    (m ((c.tc : Thread _ _).loc Cert.OutKernelIdeal.main_arg9)) (m ((c.tc : Thread _ _).loc Cert.OutKernelIdeal.main_arg10)) (m ((c.tc : Thread _ _).loc Cert.OutKernelIdeal.main_arg11)), ?_, ?_⟩
  · refine (θ_run _ _ _).mono (fun r h c => ?_) (Cert.OutKernelIdeal.Value.run_blocks m g)
    obtain ⟨h0, h1⟩ := h c
    exact ⟨h0.trans (OutVal.final m c), h1⟩
  · refine (θ_run _ _ _).mono (fun r h c => ?_) (Cert.OutReferenceIdeal.Value.run m' g')
    obtain ⟨h0, h1⟩ := h c
    refine ⟨h0.trans ?_, h1⟩
    rw [OutRef.res_eq]
    obtain ⟨e0, e1, e2, e3, e4, e5, e6, e7, e8, e9, e10, e11⟩ := hm c
    rw [e0, e1, e2, e3, e4, e5, e6, e7, e8, e9, e10, e11]

end Cert.OutClaim
end
-- ==== Proof.InMath.lean ====
module

public import proofs.«01_k».proof.Proof.OutBody

/-! One token's row in the input projection: the products, and the rotation of positions in its two forms. -/

@[expose] public section
noncomputable section
open Idealize.ShloMosaic Idealize.SL.Sem
namespace Cert.InMath

/-- One entry of a projection: a row against a column. -/
def pj (h w : Fin 1024 → EReal) : EReal := ∑ d, h d * w d

/-- The rotation by tables over a tile of two heads, whose sines carry the sign and the half of the head. -/
def ropek (p : Fin 512 → EReal) (c sa sb : Fin 128 → EReal) (e : Fin 512) : EReal :=
  p e * c ⟨e.val % 128, by omega⟩ + p ⟨(e.val + 32) % 512, by omega⟩ * sa ⟨e.val % 128, by omega⟩ + p ⟨(e.val + 480) % 512, by omega⟩ * sb ⟨e.val % 128, by omega⟩

/-- The rotation of one head's halves. -/
def roper (p : Fin 512 → EReal) (c s : Fin 32 → EReal) (e : Fin 512) : EReal :=
  p e * c ⟨e.val % 32, by omega⟩ + (if e.val % 64 < 32 then -p ⟨(e.val + 32) % 512, by omega⟩ else p ⟨(e.val + 480) % 512, by omega⟩) * s ⟨e.val % 32, by omega⟩

/-- The two forms agree when the tables are the cosines and the signed sines. -/
theorem rope_eq (p : Fin 512 → EReal) (c sa sb : Fin 128 → EReal) (c' s' : Fin 32 → EReal) (hc : ∀ l : Fin 128, c l = c' ⟨l.val % 32, by omega⟩)
    (ha : ∀ l : Fin 128, sa l = if l.val % 64 < 32 then -s' ⟨l.val % 32, by omega⟩ else 0) (hb : ∀ l : Fin 128, sb l = if l.val % 64 < 32 then 0 else s' ⟨l.val % 32, by omega⟩)
    (e : Fin 512) : ropek p c sa sb e = roper p c' s' e := by
  have e1 : (⟨e.val % 128 % 32, by omega⟩ : Fin 32) = ⟨e.val % 32, by omega⟩ := Fin.ext (by dsimp only; omega)
  have e2 : e.val % 128 % 64 = e.val % 64 := by omega
  unfold ropek roper
  rw [hc, ha, hb]
  simp only [e1, e2]
  split
  · rw [mul_zero, add_zero, mul_neg, neg_mul]
  · rw [mul_zero, add_zero]

end Cert.InMath
end
-- ==== Proof.InBody.lean ====
module

public import proofs.«01_k».proof.Proof.Gen.InKernelIdeal.Frame
public import proofs.«01_k».proof.Proof.InMath
public import Idealize.ShloMosaic.Lib.Pointwise
public import Idealize.ShloMosaic.Lib.ValueIdx

/-! What the input projection's body stores, read at an index. -/

@[expose] public section
set_option maxRecDepth 16384
noncomputable section
open Idealize.ShloMosaic Idealize.ShloMosaic.TcCoe Idealize.SL.Sem
namespace Cert.InBody
open Cert.InKernelIdeal Cert.InKernelIdeal.Gen Cert.InMath Cert.OutBody

theorem pay2_val (x : Vec Ideal S1x512x1024 .f32) (g : Vec Ideal S1x1024 .f32) (r : Fin 512) (e : Fin 1024) :
    k0_pay2 x g (ix2 r e) = rms (fun e => x (ix3 0 r e)) (fun e => g (ix2 0 e)) e := by
  pointwise [k0_pay2, rms]

theorem pay3_val (c : Vec Ideal S512x128 .f32) (r e : Fin 512) : k0_pay3 c (ix2 r e) = c (ix2 r ⟨e.val % 128, by omega⟩) := by
  pointwise [k0_pay3]
  split_ifs <;> (congr 1; refine (ix2_inj ..).2 ⟨rfl, ?_⟩; apply Fin.ext; dsimp only; omega)

theorem pay4_val (c : Vec Ideal S512x128 .f32) (r e : Fin 512) : k0_pay4 c (ix2 r e) = c (ix2 r ⟨e.val % 128, by omega⟩) := pay3_val c r e

theorem pay5_val (c : Vec Ideal S512x128 .f32) (r e : Fin 512) : k0_pay5 c (ix2 r e) = c (ix2 r ⟨e.val % 128, by omega⟩) := pay3_val c r e

theorem pay8_val (h : FVec Ideal S512x1024 .bf16) (c a b : Vec Ideal S512x128 .f32) (w : Vec Ideal S1024x512 .bf16) (r e : Fin 512) :
    k0_pay8 h (k0_pay3 c) (k0_pay4 a) (k0_pay5 b) w (ix2 r e)
      = ropek (fun e => pj (fun d => h (ix2 r d)) fun d => w (ix2 d e)) (fun l => c (ix2 r l)) (fun l => a (ix2 r l)) (fun l => b (ix2 r l)) e := by
  have h1 : (⟨(e.val + 512 - 480) % 512, by omega⟩ : Fin 512) = ⟨(e.val + 32) % 512, by omega⟩ := Fin.ext (by dsimp only; omega)
  have h2 : (⟨(e.val + 512 - 32) % 512, by omega⟩ : Fin 512) = ⟨(e.val + 480) % 512, by omega⟩ := Fin.ext (by dsimp only; omega)
  pointwise [k0_pay8, pay3_val, pay4_val, pay5_val, ropek, pj]
  rw [h1, h2]

theorem pay7_val (x : Vec Ideal S1x512x1024 .f32) (g : Vec Ideal S1x1024 .f32) (c a b : Vec Ideal S512x128 .f32) (w : Vec Ideal S1024x512 .bf16) (r e : Fin 512) :
    k0_pay7 (k0_pay6 x g c a b w) (ix3 0 r e)
      = ropek (fun e => pj (fun d => k0_pay2 x g (ix2 r d)) fun d => w (ix2 d e)) (fun l => c (ix2 r l)) (fun l => a (ix2 r l)) (fun l => b (ix2 r l)) e * Ideal.ofBits .f32 0x3E000000#32 := by
  rw [← pay8_val]
  pointwise [k0_pay7, k0_pay6, k0_pay8]

theorem pay9_val (h : FVec Ideal S512x1024 .bf16) (v19 v22 v25 : FVec Ideal S512x512 .f32) (w : Vec Ideal S1024x512 .bf16) (r e : Fin 512) :
    k0_pay9 h v19 v22 v25 w (ix3 0 r e) = k0_pay8 h v19 v22 v25 w (ix2 r e) := by
  pointwise [k0_pay9]

theorem pay10_val (h : FVec Ideal S512x1024 .bf16) (v19 v22 v25 : FVec Ideal S512x512 .f32) (w : Vec Ideal S1024x512 .bf16) (e : Fin 512) :
    k0_pay10 h v19 v22 v25 w (ix4 0 0 0 e) = (∑ k : Fin 256, k0_pay8 h v19 v22 v25 w (ix2 ⟨0 + k.val, by omega⟩ e)) * Ideal.ofBits .f32 0x3B800000#32 := by
  pointwise [k0_pay10]

theorem pay11_val (h : FVec Ideal S512x1024 .bf16) (v19 v22 v25 : FVec Ideal S512x512 .f32) (w : Vec Ideal S1024x512 .bf16) (e : Fin 512) :
    k0_pay11 h v19 v22 v25 w (ix4 0 0 0 e) = (∑ k : Fin 256, k0_pay8 h v19 v22 v25 w (ix2 ⟨256 + k.val, by omega⟩ e)) * Ideal.ofBits .f32 0x3B800000#32 := by
  pointwise [k0_pay11]

theorem pay12_val (h : FVec Ideal S512x1024 .bf16) (w : Vec Ideal S1024x512 .bf16) (r e : Fin 512) :
    k0_pay12 h w (ix3 0 r e) = pj (fun d => h (ix2 r d)) fun d => w (ix2 d e) := by
  pointwise [k0_pay12, pj]

theorem pay13_val (h : FVec Ideal S512x1024 .bf16) (w : Vec Ideal S1024x512 .bf16) (r e : Fin 512) :
    k0_pay13 h w (ix3 0 r e) = (pj (fun d => h (ix2 r d)) fun d => w (ix2 d e)) * Ideal.ofBits .f32 0x3E000000#32 := by
  pointwise [k0_pay13, pj]

theorem pay14_val (h : FVec Ideal S512x1024 .bf16) (w : Vec Ideal S1024x512 .bf16) (r e : Fin 512) :
    k0_pay14 h w (ix3 0 r e) = pj (fun d => h (ix2 r d)) fun d => w (ix2 d e) := by
  pointwise [k0_pay14, pj]

theorem pay15_val (h : FVec Ideal S512x1024 .bf16) (w : Vec Ideal S1024x512 .bf16) (r e : Fin 512) :
    k0_pay15 h w (ix3 0 r e) = pj (fun d => h (ix2 r d)) fun d => w (ix2 d e) := by
  pointwise [k0_pay15, pj]

/-- The logistic function as a quotient. -/
def lgs (x : EReal) : EReal := Ideal.div 1 (1 + Ideal.exp (-x))

theorem pay1_val (h : FVec Ideal S512x1024 .bf16) (w : Vec Ideal S1024x2048 .bf16) (b : Vec Ideal S1x2048 .f32) (r : Fin 512) (e : Fin 2048) :
    k0_pay1 h w b (ix3 0 r e) = lgs ((pj (fun d => h (ix2 r d)) fun d => w (ix2 d e)) + b (ix2 0 e)) := by
  pointwise [k0_pay1, pj, lgs]
  rfl

end Cert.InBody
end
-- ==== Proof.InTab.lean ====
module

public import proofs.«01_k».proof.Proof.Gen.InKernelIdeal.Frame
public import Idealize.ShloMosaic.Lib.Pipeline.ValueKit
public import Idealize.ShloMosaic.Lib.Pointwise

/-! The tables of the rotation, as the host line leaves them when the call starts. -/

@[expose] public section
set_option maxRecDepth 16384
noncomputable section
open Idealize.ShloMosaic Idealize.ShloMosaic.TcCoe Idealize.SL.Sem
namespace Cert.InTab
open Cert.InKernelIdeal Cert.InKernelIdeal.Gen
variable (m : (ℓ : Loc nD τ sig) → Buf (Elt Ideal) ℓ)

/-- The angles: a position times a frequency. -/
def ang32 : FVec Ideal S2048x32 .f32 :=
  mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (mulf (Host.negf (sitofp .f32 (iotaInDim S32 32 0))) (broadcastInDim S32 ![] bcast_S_S32 (constant S_ .f32 0x40000000#32))) (broadcastInDim S32 ![] bcast_S_S32 (constant S_ .f32 0x42800000#32))))))

/-- The angles of one tile of two heads. -/
def ang : FVec Ideal S2048x128 .f32 :=
  concatenate S2048x128 1 [⟨S2048x32, ang32⟩, ⟨S2048x32, ang32⟩, ⟨S2048x32, ang32⟩, ⟨S2048x32, ang32⟩] concatenates_S2048x32_S2048x32_S2048x32_S2048x32_S2048x128_d1

/-- The divisor of the remainder of a lane. -/
def dvs : IVec S_ 32 := select (cmpi .eq (constantI S_ 32 64#32) (constantI S_ 32 0#32)) (constantI S_ 32 1#32) (constantI S_ 32 64#32)

/-- A lane's truncated remainder. -/
def rem0 : IVec S128 32 := Host.remsi (iotaInDim S128 32 0) (broadcastInDim S128 ![] bcast_S_S128 dvs)

/-- A lane's position in its head. -/
def rem : IVec S128 32 :=
  select (andi (cmpi .ne (cmpi .slt rem0 (broadcastInDim S128 ![] bcast_S_S128 (constantI S_ 32 0#32))) (broadcastInDim S128 ![] bcast_S_S128 (cmpi .slt dvs (constantI S_ 32 0#32))))
    (cmpi .ne rem0 (broadcastInDim S128 ![] bcast_S_S128 (constantI S_ 32 0#32)))) (addi rem0 (broadcastInDim S128 ![] bcast_S_S128 dvs)) rem0

/-- The lanes of the first half of a head. -/
def half : IVec S128 1 := cmpi .slt rem (broadcastInDim S128 ![] bcast_S_S128 (constantI S_ 32 32#32))

/-- The zeros that the sines are masked with. -/
def zeros : FVec Ideal S2048x128 .f32 := broadcastInDim S2048x128 ![] bcast_S_S2048x128 (constant S_ .f32 0x00000000#32)

/-- The sines of the first halves. -/
def sa : FVec Ideal S2048x128 .f32 := select (broadcastInDim S2048x128 ![1] bcast_S128_S2048x128_1 half) (Host.negf (Host.sin ang)) zeros

/-- The sines of the second halves. -/
def sb : FVec Ideal S2048x128 .f32 := select (broadcastInDim S2048x128 ![1] bcast_S128_S2048x128_1 half) zeros (Host.sin ang)

theorem V15 (c : Dev nD) : (V m c main_v15 : FVec Ideal S2048x128 .f32) = Host.cos ang := rfl
set_option maxHeartbeats 2000000 in
theorem V22 (c : Dev nD) : (V m c main_v22 : FVec Ideal S2048x128 .f32) = sa := by
  unfold V
  simp only [List.flatten_cons, List.flatten_nil, List.append_nil, List.cons_append, List.nil_append]
  after_results_simp <;> rfl
set_option maxHeartbeats 2000000 in
theorem V23 (c : Dev nD) : (V m c main_v23 : FVec Ideal S2048x128 .f32) = sb := by
  unfold V
  simp only [List.flatten_cons, List.flatten_nil, List.append_nil, List.cons_append, List.nil_append]
  after_results_simp <;> rfl

set_option maxHeartbeats 2000000 in
theorem V25 (c : Dev nD) : (V m c main_v25 : FVec Ideal S1x1024 .f32) = broadcastInDim S1x1024 ![1] bcast_S1024_S1x1024_1 (shapeCast S1024 (m ((c : Thread nD τ).loc main_arg1)) shapeCasts_S1x1024_S1024) := by
  unfold V
  simp only [List.flatten_cons, List.flatten_nil, List.append_nil, List.cons_append, List.nil_append]
  after_results_simp <;> rfl
set_option maxHeartbeats 2000000 in
theorem V27 (c : Dev nD) : (V m c main_v27 : FVec Ideal S1024x5120 .bf16) = truncf .bf16 (shapeCast S1024x5120 (m ((c : Thread nD τ).loc main_arg2)) shapeCasts_S1x1024x5120_S1024x5120 : FVec Ideal S1024x5120 .f32) bitsLt_bf16_f32 := by
  unfold V
  simp only [List.flatten_cons, List.flatten_nil, List.append_nil, List.cons_append, List.nil_append]
  after_results_simp <;> rfl
set_option maxHeartbeats 2000000 in
theorem V29 (c : Dev nD) : (V m c main_v29 : FVec Ideal S1x2048 .f32) = broadcastInDim S1x2048 ![1] bcast_S2048_S1x2048_1 (shapeCast S2048 (m ((c : Thread nD τ).loc main_arg3)) shapeCasts_S1x2048_S2048) := by
  unfold V
  simp only [List.flatten_cons, List.flatten_nil, List.append_nil, List.cons_append, List.nil_append]
  after_results_simp <;> rfl

theorem g_at (a : FVec Ideal S1x1024 .f32) (e : Fin 1024) : (broadcastInDim S1x1024 ![1] bcast_S1024_S1x1024_1 (shapeCast S1024 a shapeCasts_S1x1024_S1024) : FVec Ideal S1x1024 .f32) (ix2 0 e) = a (ix2 0 e) := by
  pointwise []

theorem wt_at (a : FVec Ideal S1x1024x5120 .f32) (d : Fin 1024) (f : Fin 5120) : (truncf .bf16 (shapeCast S1024x5120 a shapeCasts_S1x1024x5120_S1024x5120 : FVec Ideal S1024x5120 .f32) bitsLt_bf16_f32 : FVec Ideal S1024x5120 .bf16) (ix2 d f) = a (ix3 0 d f) := by
  pointwise []

theorem bg_at (a : FVec Ideal S1x2048 .f32) (e : Fin 2048) : (broadcastInDim S1x2048 ![1] bcast_S2048_S1x2048_1 (shapeCast S2048 a shapeCasts_S1x2048_S2048) : FVec Ideal S1x2048 .f32) (ix2 0 e) = a (ix2 0 e) := by
  pointwise []

theorem v25_at (c : Dev nD) (e : Fin 1024) : (V m c main_v25 : FVec Ideal S1x1024 .f32) (ix2 0 e) = (m ((c : Thread nD τ).loc main_arg1)) (ix2 0 e) :=
  (congrFun (V25 m c) _).trans (g_at _ e)

theorem v27_at (c : Dev nD) (d : Fin 1024) (f : Fin 5120) : (V m c main_v27 : FVec Ideal S1024x5120 .bf16) (ix2 d f) = (m ((c : Thread nD τ).loc main_arg2)) (ix3 0 d f) :=
  (congrFun (V27 m c) _).trans (wt_at _ d f)

theorem v29_at (c : Dev nD) (e : Fin 2048) : (V m c main_v29 : FVec Ideal S1x2048 .f32) (ix2 0 e) = (m ((c : Thread nD τ).loc main_arg3)) (ix2 0 e) :=
  (congrFun (V29 m c) _).trans (bg_at _ e)

theorem ang_at (s : Fin 2048) (l : Fin 128) : ang (ix2 s l) = ang32 (ix2 s ⟨l.val % 32, by omega⟩) := by
  pointwise [ang]
  split_ifs <;> (congr 1; refine (ix2_inj ..).2 ⟨rfl, ?_⟩; apply Fin.ext; dsimp only; omega)

theorem half_at (l : Fin 128) : half (ix1 l) = if l.val % 64 < 32 then 1#1 else 0#1 := by
  revert l
  decide +kernel

/-- A frequency's cosine at a position. -/
def cosv (s : Fin 2048) (d : Fin 32) : EReal := (Host.cos ang32 : FVec Ideal S2048x32 .f32) (ix2 s d)
/-- A frequency's sine at a position. -/
def sinv (s : Fin 2048) (d : Fin 32) : EReal := (Host.sin ang32 : FVec Ideal S2048x32 .f32) (ix2 s d)

theorem cos_at (s : Fin 2048) (l : Fin 128) : (Host.cos ang : FVec Ideal S2048x128 .f32) (ix2 s l) = cosv s ⟨l.val % 32, by omega⟩ := by
  pointwise [cosv, ang_at]

theorem sa_at (s : Fin 2048) (l : Fin 128) : sa (ix2 s l) = if l.val % 64 < 32 then -sinv s ⟨l.val % 32, by omega⟩ else 0 := by
  pointwise [sa, sinv, zeros, half_at, ang_at]
  split <;> rfl

theorem sb_at (s : Fin 2048) (l : Fin 128) : sb (ix2 s l) = if l.val % 64 < 32 then 0 else sinv s ⟨l.val % 32, by omega⟩ := by
  pointwise [sb, sinv, zeros, half_at, ang_at]
  split <;> rfl

end Cert.InTab
end
-- ==== Proof.InRef.lean ====
module

public import proofs.«01_k».proof.Proof.Gen.InReferenceIdeal.Run
public import proofs.«01_k».proof.Proof.InBody
public import proofs.«01_k».proof.Proof.InTab

/-! The input projection's reference, read at an index. -/

@[expose] public section
set_option maxRecDepth 16384
noncomputable section
open Idealize.ShloMosaic Idealize.ShloMosaic.TcCoe Idealize.SL.Sem
namespace Cert.InRef
open Cert.InReferenceIdeal Cert.InReferenceIdeal.Gen Cert.InMath Cert.OutBody Cert.InTab Cert.InBody

/-- The angles. -/
def ang32 : FVec Ideal S2048x32 .f32 :=
  mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (mulf (Host.negf (sitofp .f32 (iotaInDim S32 32 0))) (broadcastInDim S32 ![] bcast_S_S32 (constant S_ .f32 0x40000000#32))) (broadcastInDim S32 ![] bcast_S_S32 (constant S_ .f32 0x42800000#32))))))
/-- The angles of one head. -/
def ang : FVec Ideal S2048x64 .f32 := concatenate S2048x64 1 [⟨S2048x32, ang32⟩, ⟨S2048x32, ang32⟩] concatenates_S2048x32_S2048x32_S2048x64_d1
/-- The normed rows. -/
def hn (x : FVec Ideal S32x2048x1024 .f32) (g : FVec Ideal S1x1024 .f32) : FVec Ideal S32x2048x1024 .f32 :=
  mulf (mulf x (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x x) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (shapeCast S1024 g shapeCasts_S1x1024_S1024)))
/-- The projection. -/
def proj (x : FVec Ideal S32x2048x1024 .f32) (g : FVec Ideal S1x1024 .f32) (w : FVec Ideal S1x1024x5120 .f32) : FVec Ideal S32x2048x5120 .f32 :=
  Host.dotGeneral dot_S32x2048x1024_S1024x5120_S32x2048x5120_2_0_01_1_n_n none (hn x g) (shapeCast S1024x5120 w shapeCasts_S1x1024x5120_S1024x5120)
/-- A branch's columns by heads. -/
def heads (p : FVec Ideal S32x2048x512 .f32) : FVec Ideal S32x8x2048x64 .f32 :=
  transpose S32x8x2048x64 [0, 2, 1, 3] (shapeCast S32x2048x8x64 p shapeCasts_S32x2048x512_S32x2048x8x64) transposes_S32x2048x8x64_S32x8x2048x64_0_2_1_3
/-- A table spread over batches and heads. -/
def spread (t : FVec Ideal S2048x64 .f32) : FVec Ideal S32x8x2048x64 .f32 :=
  broadcastInDim S32x8x2048x64 ![0, 1, 2, 3] bcast_S1x1x2048x64_S32x8x2048x64_0_1_2_3 (broadcastInDim S1x1x2048x64 ![2, 3] bcast_S2048x64_S1x1x2048x64_2_3 t)
/-- The rotation. -/
def rope (p : FVec Ideal S32x2048x512 .f32) : FVec Ideal S32x8x2048x64 .f32 :=
  addf (mulf (heads p) (spread (Host.cos ang))) (mulf (concatenate S32x8x2048x64 3 [⟨S32x8x2048x32, (Host.negf (extractStridedSlice S32x8x2048x32 ![0, 0, 0, 32] (heads p) slices_S32x8x2048x64_S32x8x2048x32_0_0_0_32))⟩, ⟨S32x8x2048x32, (extractStridedSlice S32x8x2048x32 ![0, 0, 0, 0] (heads p) slices_S32x8x2048x64_S32x8x2048x32_0_0_0_0)⟩] concatenates_S32x8x2048x32_S32x8x2048x32_S32x8x2048x64_d3) (spread (Host.sin ang)))
/-- The heads side by side. -/
def flat (p : FVec Ideal S32x8x2048x64 .f32) : FVec Ideal S32x2048x512 .f32 :=
  shapeCast S32x2048x512 (transpose S32x2048x8x64 [0, 2, 1, 3] p transposes_S32x8x2048x64_S32x2048x8x64_0_2_1_3) shapeCasts_S32x2048x8x64_S32x2048x512

section results
variable (x : FVec Ideal S32x2048x1024 .f32) (g : FVec Ideal S1x1024 .f32) (w : FVec Ideal S1x1024x5120 .f32) (bg : FVec Ideal S1x2048 .f32)

/-- The block attention's queries. -/
def refqa : FVec Ideal S32x2048x512 .bf16 := truncf .bf16 (mulf (flat (rope (extractStridedSlice S32x2048x512 ![0, 0, 0] (proj x g w) slices_S32x2048x5120_S32x2048x512_0_0_0))) (broadcastInDim S32x2048x512 ![] bcast_S_S32x2048x512 (constant S_ .f32 0x3E000000#32))) bitsLt_bf16_f32
/-- The block attention's keys. -/
def refka : FVec Ideal S32x2048x512 .bf16 := truncf .bf16 (flat (rope (extractStridedSlice S32x2048x512 ![0, 0, 512] (proj x g w) slices_S32x2048x5120_S32x2048x512_0_0_512))) bitsLt_bf16_f32
/-- The block attention's values. -/
def refva : FVec Ideal S32x2048x512 .bf16 := truncf .bf16 (extractStridedSlice S32x2048x512 ![0, 0, 1024] (proj x g w) slices_S32x2048x5120_S32x2048x512_0_0_1024) bitsLt_bf16_f32
/-- The stick-breaking attention's queries. -/
def refqb : FVec Ideal S32x2048x512 .bf16 := truncf .bf16 (mulf (extractStridedSlice S32x2048x512 ![0, 0, 1536] (proj x g w) slices_S32x2048x5120_S32x2048x512_0_0_1536) (broadcastInDim S32x2048x512 ![] bcast_S_S32x2048x512 (constant S_ .f32 0x3E000000#32))) bitsLt_bf16_f32
/-- The stick-breaking attention's keys. -/
def refkb : FVec Ideal S32x2048x512 .bf16 := truncf .bf16 (extractStridedSlice S32x2048x512 ![0, 0, 2048] (proj x g w) slices_S32x2048x5120_S32x2048x512_0_0_2048) bitsLt_bf16_f32
/-- The stick-breaking attention's values. -/
def refvb : FVec Ideal S32x2048x512 .bf16 := truncf .bf16 (extractStridedSlice S32x2048x512 ![0, 0, 2560] (proj x g w) slices_S32x2048x5120_S32x2048x512_0_0_2560) bitsLt_bf16_f32
/-- The gates. -/
def refgt : FVec Ideal S32x2048x2048 .bf16 := truncf .bf16 (Host.divf (broadcastInDim S32x2048x2048 ![] bcast_S_S32x2048x2048 (constant S_ .f32 0x3F800000#32)) (addf (broadcastInDim S32x2048x2048 ![] bcast_S_S32x2048x2048 (constant S_ .f32 0x3F800000#32)) (Host.exp (Host.negf (addf (extractStridedSlice S32x2048x2048 ![0, 0, 3072] (proj x g w) slices_S32x2048x5120_S32x2048x2048_0_0_3072) (broadcastInDim S32x2048x2048 ![0, 1, 2] bcast_S1x1x2048_S32x2048x2048_0_1_2 (broadcastInDim S1x1x2048 ![2] bcast_S2048_S1x1x2048_2 (shapeCast S2048 bg shapeCasts_S1x2048_S2048)))))))) bitsLt_bf16_f32
/-- The means of the blocks of keys. -/
def refkm : FVec Ideal S32x8x1x512 .f32 :=
  shapeCast S32x8x1x512 (transpose S32x8x8x64 [0, 2, 1, 3] (Host.divf (Host.reduceAdd (shapeCast S32x8x8x256x64 (rope (extractStridedSlice S32x2048x512 ![0, 0, 512] (proj x g w) slices_S32x2048x5120_S32x2048x512_0_0_512)) shapeCasts_S32x8x2048x64_S32x8x8x256x64) (constant S_ .f32 0x00000000#32) reducesTo_S32x8x8x256x64_S32x8x8x64_d3 h_S_) (broadcastInDim S32x8x8x64 ![] bcast_S_S32x8x8x64 (constant S_ .f32 0x43800000#32))) transposes_S32x8x8x64_S32x8x8x64_0_2_1_3) shapeCasts_S32x8x8x64_S32x8x1x512
end results

/-- One token's projection. -/
def prow (x : FVec Ideal S32x2048x1024 .f32) (g : FVec Ideal S1x1024 .f32) (w : FVec Ideal S1x1024x5120 .f32) (b : Fin 32) (s : Fin 2048) (f : Fin 5120) : EReal :=
  pj (rms (fun e => x (ix3 b s e)) fun e => g (ix2 0 e)) fun d => w (ix3 0 d f)

theorem proj_at (x : FVec Ideal S32x2048x1024 .f32) (g : FVec Ideal S1x1024 .f32) (w : FVec Ideal S1x1024x5120 .f32) (b : Fin 32) (s : Fin 2048) (f : Fin 5120) :
    proj x g w (ix3 b s f) = prow x g w b s f := by
  pointwise [proj, hn, prow, pj, rms]

theorem ang_at (s : Fin 2048) (l : Fin 64) : ang (ix2 s l) = InTab.ang32 (ix2 s ⟨l.val % 32, by omega⟩) := by
  show ang (ix2 s l) = ang32 (ix2 s ⟨l.val % 32, by omega⟩)
  pointwise [ang]
  split_ifs <;> (congr 1; refine (ix2_inj ..).2 ⟨rfl, ?_⟩; apply Fin.ext; dsimp only; omega)

theorem rope_at (p : FVec Ideal S32x2048x512 .f32) (b : Fin 32) (h : Fin 8) (s : Fin 2048) (d : Fin 64) (e : Fin 512) (he : e.val = h.val * 64 + d.val) :
    rope p (ix4 b h s d) = roper (fun e => p (ix3 b s e)) (cosv s) (sinv s) e := by
  have e0 : (⟨h.val * 64 + d.val, by omega⟩ : Fin 512) = e := Fin.ext he.symm
  have e1 : (⟨d.val % 32, by omega⟩ : Fin 32) = ⟨e.val % 32, by omega⟩ := Fin.ext (by dsimp only; omega)
  have e2 : e.val % 64 = d.val := by omega
  pointwise [rope, heads, spread, ang_at, roper, cosv, sinv]
  rw [e0, e1, e2]
  congr 2
  split_ifs with hd
  · congr 2
    refine (ix3_inj ..).2 ⟨rfl, rfl, ?_⟩
    apply Fin.ext; dsimp only; omega
  all_goals
    congr 1
    refine (ix3_inj ..).2 ⟨rfl, rfl, ?_⟩
    apply Fin.ext; dsimp only; omega

theorem flat_at (p : FVec Ideal S32x2048x512 .f32) (b : Fin 32) (s : Fin 2048) (e : Fin 512) :
    flat (rope p) (ix3 b s e) = roper (fun e => p (ix3 b s e)) (cosv s) (sinv s) e := by
  refine Eq.trans ?_ (rope_at p b ⟨e.val / 64, by omega⟩ s ⟨e.val % 64, by omega⟩ e (by dsimp only; omega))
  pointwise [flat]

section at_
variable (x : FVec Ideal S32x2048x1024 .f32) (g : FVec Ideal S1x1024 .f32) (w : FVec Ideal S1x1024x5120 .f32) (bg : FVec Ideal S1x2048 .f32) (b : Fin 32) (s : Fin 2048)

theorem slice_at (o : ℕ) (ho : o + 512 ≤ 5120) (h) (e : Fin 512) :
    (extractStridedSlice S32x2048x512 ![0, 0, o] (proj x g w) h : FVec Ideal S32x2048x512 .f32) (ix3 b s e) = prow x g w b s ⟨o + e.val, by omega⟩ := by
  rw [← proj_at]
  pointwise []

theorem qa_at (e : Fin 512) : refqa x g w (ix3 b s e) = roper (fun e => prow x g w b s ⟨0 + e.val, by omega⟩) (cosv s) (sinv s) e * Ideal.ofBits .f32 0x3E000000#32 := by
  have h := flat_at (extractStridedSlice S32x2048x512 ![0, 0, 0] (proj x g w) slices_S32x2048x5120_S32x2048x512_0_0_0) b s e
  rw [show (fun e => (extractStridedSlice S32x2048x512 ![0, 0, 0] (proj x g w) slices_S32x2048x5120_S32x2048x512_0_0_0 : FVec Ideal S32x2048x512 .f32) (ix3 b s e)) = fun e => prow x g w b s ⟨0 + e.val, by omega⟩ from
    funext fun e => slice_at x g w b s 0 (by omega) _ e] at h
  rw [← h]
  rfl

theorem ka_at (e : Fin 512) : refka x g w (ix3 b s e) = roper (fun e => prow x g w b s ⟨512 + e.val, by omega⟩) (cosv s) (sinv s) e := by
  have h := flat_at (extractStridedSlice S32x2048x512 ![0, 0, 512] (proj x g w) slices_S32x2048x5120_S32x2048x512_0_0_512) b s e
  rw [show (fun e => (extractStridedSlice S32x2048x512 ![0, 0, 512] (proj x g w) slices_S32x2048x5120_S32x2048x512_0_0_512 : FVec Ideal S32x2048x512 .f32) (ix3 b s e)) = fun e => prow x g w b s ⟨512 + e.val, by omega⟩ from
    funext fun e => slice_at x g w b s 512 (by omega) _ e] at h
  rw [← h]
  rfl

theorem va_at (e : Fin 512) : refva x g w (ix3 b s e) = prow x g w b s ⟨1024 + e.val, by omega⟩ := slice_at x g w b s 1024 (by omega) slices_S32x2048x5120_S32x2048x512_0_0_1024 e
theorem qb_at (e : Fin 512) : refqb x g w (ix3 b s e) = prow x g w b s ⟨1536 + e.val, by omega⟩ * Ideal.ofBits .f32 0x3E000000#32 :=
  congrArg (fun z : EReal => z * Ideal.ofBits .f32 0x3E000000#32) (slice_at x g w b s 1536 (by omega) slices_S32x2048x5120_S32x2048x512_0_0_1536 e)
theorem kb_at (e : Fin 512) : refkb x g w (ix3 b s e) = prow x g w b s ⟨2048 + e.val, by omega⟩ := slice_at x g w b s 2048 (by omega) slices_S32x2048x5120_S32x2048x512_0_0_2048 e
theorem vb_at (e : Fin 512) : refvb x g w (ix3 b s e) = prow x g w b s ⟨2560 + e.val, by omega⟩ := slice_at x g w b s 2560 (by omega) slices_S32x2048x5120_S32x2048x512_0_0_2560 e

theorem gt_at (e : Fin 2048) : refgt x g w bg (ix3 b s e) = lgs (prow x g w b s ⟨3072 + e.val, by omega⟩ + bg (ix2 0 e)) := by
  rw [← proj_at]
  pointwise [refgt, lgs]

theorem km_at (n : Fin 8) (e : Fin 512) : refkm x g w (ix4 b n 0 e)
    = Ideal.div (∑ k : Fin 256, roper (fun e => prow x g w b ⟨n.val * 256 + k.val, by omega⟩ ⟨512 + e.val, by omega⟩) (cosv ⟨n.val * 256 + k.val, by omega⟩) (sinv ⟨n.val * 256 + k.val, by omega⟩) e) (Ideal.ofBits .f32 0x43800000#32) := by
  have h : ∀ k : Fin 256, rope (extractStridedSlice S32x2048x512 ![0, 0, 512] (proj x g w) slices_S32x2048x5120_S32x2048x512_0_0_512) (ix4 b ⟨e.val / 64, by omega⟩ ⟨n.val * 256 + k.val, by omega⟩ ⟨e.val % 64, by omega⟩)
      = roper (fun e => prow x g w b ⟨n.val * 256 + k.val, by omega⟩ ⟨512 + e.val, by omega⟩) (cosv ⟨n.val * 256 + k.val, by omega⟩) (sinv ⟨n.val * 256 + k.val, by omega⟩) e := fun k => by
    rw [rope_at _ b ⟨e.val / 64, by omega⟩ _ ⟨e.val % 64, by omega⟩ e (by dsimp only; omega)]
    congr 1
    exact funext fun e => slice_at x g w b _ 512 (by omega) _ e
  rw [← Finset.sum_congr rfl fun k _ => h k]
  pointwise [refkm]
end at_

end Cert.InRef
end
-- ==== Proof.InVal.lean ====
module

public import proofs.«01_k».proof.Proof.Gen.InKernelIdeal.Value
public import proofs.«01_k».proof.Proof.InRef
public import Idealize.ShloMosaic.Lib.Pipeline.ValueKit

/-! The arrays of results of the input projection are the reference's terms. -/

@[expose] public section
set_option maxRecDepth 16384
noncomputable section
open Idealize.ShloMosaic Idealize.ShloMosaic.TcCoe Idealize.SL.Sem
open Idealize.ShloMosaic.Pipeline (Dat)
namespace Cert.InVal
open Cert.InKernelIdeal Cert.InKernelIdeal.Gen Cert.InMath Cert.OutBody Cert.InTab Cert.InBody Cert.InRef

section body
variable (x0 : Vec Ideal S1x512x1024 .f32) (x1 : Vec Ideal S1x1024 .f32) (x2 : Vec Ideal S1024x5120 .bf16) (x3 : Vec Ideal S1x2048 .f32) (x4 x5 x6 : Vec Ideal S512x128 .f32)

/-- One token's projection, from its blocks. -/
def krow (x0 : Vec Ideal S1x512x1024 .f32) (x1 : Vec Ideal S1x1024 .f32) (x2 : Vec Ideal S1024x5120 .bf16) (r : Fin 512) (f : Fin 5120) : EReal :=
  pj (rms (fun e => x0 (ix3 0 r e)) fun e => x1 (ix2 0 e)) fun d => x2 (ix2 d f)

theorem norm_at (r : Fin 512) : (fun d => k0_pay16 x0 x1 x2 x3 x4 x5 x6 (ix2 r d)) = rms (fun e => x0 (ix3 0 r e)) fun e => x1 (ix2 0 e) := by
  funext d
  unfold k0_pay16
  rw [View.ld_unit_lit _ x0 (by decide), View.ld_unit_lit _ x1 (by decide), InBody.pay2_val]

theorem w_at (o : ℕ) (ho : o + 512 ≤ 5120) (inb) (d : Fin 1024) (e : Fin 512) : View.ld x2 (Rect.unit (s := S1024x5120) ![0, o] S1024x512.size inb) (ix2 d e) = x2 (ix2 d ⟨o + e.val, by omega⟩) :=
  View.ld_unit_apply_of x2 _ _ _ _ _ fun a => by match a with | 0 => simp | 1 => simp

theorem wg_at (inb) (d : Fin 1024) (e : Fin 2048) : View.ld x2 (Rect.unit (s := S1024x5120) ![0, 3072] S1024x2048.size inb) (ix2 d e) = x2 (ix2 d ⟨3072 + e.val, by omega⟩) :=
  View.ld_unit_apply_of x2 _ _ _ _ _ fun a => by match a with | 0 => simp | 1 => simp

theorem out7_at (r e : Fin 512) : out0_7 x0 x1 x2 x3 x4 x5 x6 (ix3 0 r e)
    = ropek (fun e => krow x0 x1 x2 r ⟨0 + e.val, by omega⟩) (fun l => x4 (ix2 r l)) (fun l => x5 (ix2 r l)) (fun l => x6 (ix2 r l)) e * Ideal.ofBits .f32 0x3E000000#32 := by
  unfold out0_7
  rw [View.canon_cons_unit_lit _ _ _ (by decide), pay7_val, View.ld_unit_lit _ x0 (by decide), View.ld_unit_lit _ x1 (by decide), View.ld_unit_lit _ x4 (by decide), View.ld_unit_lit _ x5 (by decide), View.ld_unit_lit _ x6 (by decide)]
  unfold krow
  simp only [w_at x2 0 (by omega), InBody.pay2_val]

theorem pay8_at (r e : Fin 512) : k0_pay8 (k0_pay16 x0 x1 x2 x3 x4 x5 x6) (k0_pay17 x0 x1 x2 x3 x4 x5 x6) (k0_pay18 x0 x1 x2 x3 x4 x5 x6) (k0_pay19 x0 x1 x2 x3 x4 x5 x6) (View.ld x2 r0_5) (ix2 r e)
    = ropek (fun e => krow x0 x1 x2 r ⟨512 + e.val, by omega⟩) (fun l => x4 (ix2 r l)) (fun l => x5 (ix2 r l)) (fun l => x6 (ix2 r l)) e := by
  unfold k0_pay17 k0_pay18 k0_pay19
  rw [pay8_val, norm_at, View.ld_unit_lit _ x4 (by decide), View.ld_unit_lit _ x5 (by decide), View.ld_unit_lit _ x6 (by decide)]
  unfold krow
  simp only [w_at x2 512 (by omega)]

theorem out8_at (r e : Fin 512) : out0_8 x0 x1 x2 x3 x4 x5 x6 (ix3 0 r e)
    = ropek (fun e => krow x0 x1 x2 r ⟨512 + e.val, by omega⟩) (fun l => x4 (ix2 r l)) (fun l => x5 (ix2 r l)) (fun l => x6 (ix2 r l)) e := by
  unfold out0_8
  rw [View.canon_cons_unit_lit _ _ _ (by decide), pay9_val, pay8_at]

theorem out9_at (r e : Fin 512) : out0_9 x0 x1 x2 x3 x4 x5 x6 (ix3 0 r e) = krow x0 x1 x2 r ⟨1024 + e.val, by omega⟩ := by
  unfold out0_9
  rw [View.canon_cons_unit_lit _ _ _ (by decide), pay12_val, norm_at]
  unfold krow
  simp only [w_at x2 1024 (by omega)]

theorem out10_at (r e : Fin 512) : out0_10 x0 x1 x2 x3 x4 x5 x6 (ix3 0 r e) = krow x0 x1 x2 r ⟨1536 + e.val, by omega⟩ * Ideal.ofBits .f32 0x3E000000#32 := by
  unfold out0_10
  rw [View.canon_cons_unit_lit _ _ _ (by decide), pay13_val, norm_at]
  unfold krow
  simp only [w_at x2 1536 (by omega)]

theorem out11_at (r e : Fin 512) : out0_11 x0 x1 x2 x3 x4 x5 x6 (ix3 0 r e) = krow x0 x1 x2 r ⟨2048 + e.val, by omega⟩ := by
  unfold out0_11
  rw [View.canon_cons_unit_lit _ _ _ (by decide), pay14_val, norm_at]
  unfold krow
  simp only [w_at x2 2048 (by omega)]

theorem out12_at (r e : Fin 512) : out0_12 x0 x1 x2 x3 x4 x5 x6 (ix3 0 r e) = krow x0 x1 x2 r ⟨2560 + e.val, by omega⟩ := by
  unfold out0_12
  rw [View.canon_cons_unit_lit _ _ _ (by decide), pay15_val, norm_at]
  unfold krow
  simp only [w_at x2 2560 (by omega)]

theorem out13_at (r : Fin 512) (e : Fin 2048) : out0_13 x0 x1 x2 x3 x4 x5 x6 (ix3 0 r e) = lgs (krow x0 x1 x2 r ⟨3072 + e.val, by omega⟩ + x3 (ix2 0 e)) := by
  unfold out0_13
  rw [View.canon_cons_unit_lit _ _ _ (by decide), InBody.pay1_val, norm_at, View.ld_unit_lit _ x3 (by decide)]
  unfold krow
  simp only [wg_at x2]

/-- Two rows stored one above the other. -/
theorem rows_at (p1 p0 : Vec Ideal S1x1x1x512 .f32) (n : Fin 2) (e : Fin 512) :
    View.canon (Val := Elt Ideal) (e := .f32) (s := S1x2x1x512) [⟨r0_7, p1⟩, ⟨r0_6, p0⟩] (ix4 0 n 0 e) = if n.val = 0 then p0 (ix4 0 0 0 e) else p1 (ix4 0 0 0 e) := by
  refine View.canon_apply_of_pieces (Val := Elt Ideal) (e := .f32) (S := S1x2x1x512)
    (fun y => if (y 1).val = 0 then p0 (ix4 0 0 0 ⟨(y 3).val, (y 3).isLt⟩) else p1 (ix4 0 0 0 ⟨(y 3).val, (y 3).isLt⟩)) _ ?_ (ix4 0 n 0 e) (cover0_14 _ _ _)
  intro pc hpc
  rcases List.mem_cons.mp hpc with rfl | hpc
  · intro z
    have z1 : (z 1).val < 1 := (z 1).isLt
    have hz : z = ix4 0 0 0 ⟨(z 3).val, (z 3).isLt⟩ := by
      funext a
      match a with
      | 0 => exact Fin.ext (by have : (z 0).val < 1 := (z 0).isLt; show (z 0).val = 0; omega)
      | 1 => exact Fin.ext (by show (z 1).val = 0; omega)
      | 2 => exact Fin.ext (by have : (z 2).val < 1 := (z 2).isLt; show (z 2).val = 0; omega)
      | 3 => rfl
    have h1 : ¬ (r0_7.idx z 1).val = 0 := by
      show ¬ 1 + 1 * (z 1).val = 0
      omega
    refine Eq.trans ?_ (if_neg h1).symm
    refine (congrArg p1 hz).trans (congrArg p1 ?_)
    refine congrArg (fun q : Fin 512 => (ix4 0 0 0 q : S1x1x1x512.Idx)) (Fin.ext ?_)
    show (z 3).val = 0 + 1 * (z 3).val
    omega
  rcases List.mem_cons.mp hpc with rfl | hpc
  · intro z
    have z1 : (z 1).val < 1 := (z 1).isLt
    have hz : z = ix4 0 0 0 ⟨(z 3).val, (z 3).isLt⟩ := by
      funext a
      match a with
      | 0 => exact Fin.ext (by have : (z 0).val < 1 := (z 0).isLt; show (z 0).val = 0; omega)
      | 1 => exact Fin.ext (by show (z 1).val = 0; omega)
      | 2 => exact Fin.ext (by have : (z 2).val < 1 := (z 2).isLt; show (z 2).val = 0; omega)
      | 3 => rfl
    have h1 : (r0_6.idx z 1).val = 0 := by
      show 0 + 1 * (z 1).val = 0
      omega
    refine Eq.trans ?_ (if_pos h1).symm
    refine (congrArg p0 hz).trans (congrArg p0 ?_)
    refine congrArg (fun q : Fin 512 => (ix4 0 0 0 q : S1x1x1x512.Idx)) (Fin.ext ?_)
    show (z 3).val = 0 + 1 * (z 3).val
    omega
  nomatch hpc

/-- The two rows of means, from the keys. -/
theorem means_at (h : FVec Ideal S512x1024 .bf16) (v19 v22 v25 : FVec Ideal S512x512 .f32) (w : Vec Ideal S1024x512 .bf16) (n : Fin 2) (e : Fin 512) :
    View.canon (Val := Elt Ideal) (e := .f32) (s := S1x2x1x512) [⟨r0_7, k0_pay11 h v19 v22 v25 w⟩, ⟨r0_6, k0_pay10 h v19 v22 v25 w⟩] (ix4 0 n 0 e)
      = (∑ k : Fin 256, k0_pay8 h v19 v22 v25 w (ix2 ⟨n.val * 256 + k.val, by omega⟩ e)) * Ideal.ofBits .f32 0x3B800000#32 := by
  rw [rows_at]
  match n with
  | 0 => exact (if_pos rfl).trans (pay10_val h v19 v22 v25 w e)
  | 1 => exact (if_neg (by decide)).trans (pay11_val h v19 v22 v25 w e)

theorem out14_at (n : Fin 2) (e : Fin 512) : out0_14 x0 x1 x2 x3 x4 x5 x6 (ix4 0 n 0 e)
    = (∑ k : Fin 256, ropek (fun e => krow x0 x1 x2 ⟨n.val * 256 + k.val, by omega⟩ ⟨512 + e.val, by omega⟩) (fun l => x4 (ix2 ⟨n.val * 256 + k.val, by omega⟩ l)) (fun l => x5 (ix2 ⟨n.val * 256 + k.val, by omega⟩ l)) (fun l => x6 (ix2 ⟨n.val * 256 + k.val, by omega⟩ l)) e) * Ideal.ofBits .f32 0x3B800000#32 := by
  unfold out0_14
  rw [means_at]
  simp only [pay8_at]

end body

variable (m : (ℓ : Loc nD τ sig) → Buf (Elt Ideal) ℓ)

theorem idx : ∀ t : Fin cfg0.N, win0_0.index t = ![t.val % 32, t.val / 32, 0] ∧ win0_1.index t = ![0, 0] ∧ win0_2.index t = ![0, 0] ∧ win0_3.index t = ![0, 0]
    ∧ win0_4.index t = ![t.val / 32, 0] ∧ win0_5.index t = ![t.val / 32, 0] ∧ win0_6.index t = ![t.val / 32, 0]
    ∧ win0_7.index t = ![t.val % 32, t.val / 32, 0] ∧ win0_8.index t = ![t.val % 32, t.val / 32, 0] ∧ win0_9.index t = ![t.val % 32, t.val / 32, 0]
    ∧ win0_10.index t = ![t.val % 32, t.val / 32, 0] ∧ win0_11.index t = ![t.val % 32, t.val / 32, 0] ∧ win0_12.index t = ![t.val % 32, t.val / 32, 0]
    ∧ win0_13.index t = ![t.val % 32, t.val / 32, 0] ∧ win0_14.index t = ![t.val % 32, t.val / 32, 0, 0] :=
  (by decide +kernel : ∀ t : Fin grid0.N, _)

section blocks
variable (c : Dev nD) (t : Fin cfg0.N)
/-- The batch of a step. -/
def bt (t : Fin cfg0.N) : Fin 32 := ⟨t.val % 32, by omega⟩
/-- A row's token at a step. -/
def st (t : Fin cfg0.N) (r : Fin 512) : Fin 2048 := ⟨t.val / 32 * 512 + r.val, by have : t.val < 128 := t.isLt; omega⟩

theorem b0 (r : Fin 512) (d : Fin 1024) : (iblk m c 0 t : Vec Ideal S1x512x1024 .f32) (ix3 0 r d) = (m ((c : Thread nD τ).loc main_arg0)) (ix3 (bt t) (st t r) d) := by
  unfold bt st
  blk_point [iblk, V, idx t]
theorem b1 (e : Fin 1024) : (iblk m c 1 t : Vec Ideal S1x1024 .f32) (ix2 0 e) = (m ((c : Thread nD τ).loc main_arg1)) (ix2 0 e) := by
  refine Eq.trans ?_ (v25_at m c e)
  blk_point [iblk, idx t]
theorem b2 (d : Fin 1024) (f : Fin 5120) : (iblk m c 2 t : Vec Ideal S1024x5120 .bf16) (ix2 d f) = (m ((c : Thread nD τ).loc main_arg2)) (ix3 0 d f) := by
  refine Eq.trans ?_ (v27_at m c d f)
  blk_point [iblk, idx t]
theorem b3 (e : Fin 2048) : (iblk m c 3 t : Vec Ideal S1x2048 .f32) (ix2 0 e) = (m ((c : Thread nD τ).loc main_arg3)) (ix2 0 e) := by
  refine Eq.trans ?_ (v29_at m c e)
  blk_point [iblk, idx t]
theorem b4 (r : Fin 512) (l : Fin 128) : (iblk m c 4 t : Vec Ideal S512x128 .f32) (ix2 r l) = cosv (st t r) ⟨l.val % 32, by omega⟩ := by
  rw [← cos_at, ← V15 m c]
  unfold st
  blk_point [iblk, idx t]
theorem b5 (r : Fin 512) (l : Fin 128) : (iblk m c 5 t : Vec Ideal S512x128 .f32) (ix2 r l) = if l.val % 64 < 32 then -sinv (st t r) ⟨l.val % 32, by omega⟩ else 0 := by
  rw [← sa_at, ← V22 m c]
  unfold st
  blk_point [iblk, idx t]
theorem b6 (r : Fin 512) (l : Fin 128) : (iblk m c 6 t : Vec Ideal S512x128 .f32) (ix2 r l) = if l.val % 64 < 32 then 0 else sinv (st t r) ⟨l.val % 32, by omega⟩ := by
  rw [← sb_at, ← V23 m c]
  unfold st
  blk_point [iblk, idx t]

theorem krow_at (r : Fin 512) (f : Fin 5120) : krow (iblk m c 0 t) (iblk m c 1 t) (iblk m c 2 t) r f
    = prow (m ((c : Thread nD τ).loc main_arg0)) (m ((c : Thread nD τ).loc main_arg1)) (m ((c : Thread nD τ).loc main_arg2)) (bt t) (st t r) f := by
  unfold krow prow
  simp only [b0, b1, b2]

theorem rope_row (o : ℕ) (ho : o + 512 ≤ 5120) (r e : Fin 512) : ropek (fun e => krow (iblk m c 0 t) (iblk m c 1 t) (iblk m c 2 t) r ⟨o + e.val, by omega⟩)
      (fun l => (iblk m c 4 t : Vec Ideal S512x128 .f32) (ix2 r l)) (fun l => (iblk m c 5 t : Vec Ideal S512x128 .f32) (ix2 r l)) (fun l => (iblk m c 6 t : Vec Ideal S512x128 .f32) (ix2 r l)) e
    = roper (fun e => prow (m ((c : Thread nD τ).loc main_arg0)) (m ((c : Thread nD τ).loc main_arg1)) (m ((c : Thread nD τ).loc main_arg2)) (bt t) (st t r) ⟨o + e.val, by omega⟩) (cosv (st t r)) (sinv (st t r)) e := by
  simp only [krow_at]
  exact rope_eq _ _ _ _ _ _ (b4 m c t r) (b5 m c t r) (b6 m c t r) e
end blocks

end Cert.InVal
end
-- ==== Proof.InFin.lean ====
module

public import proofs.«01_k».proof.Proof.InVal
public import Idealize.ShloMosaic.Lib.Pipeline.ValueKit

/-! The arrays of results of the input projection are the reference's terms. -/

@[expose] public section
set_option maxRecDepth 16384
noncomputable section
open Idealize.ShloMosaic Idealize.ShloMosaic.TcCoe Idealize.SL.Sem
open Idealize.ShloMosaic.Pipeline (Dat)
namespace Cert.InVal
open Cert.InKernelIdeal Cert.InKernelIdeal.Gen Cert.InMath Cert.OutBody Cert.InTab Cert.InBody Cert.InRef

variable (m : (ℓ : Loc nD τ sig) → Buf (Elt Ideal) ℓ)

theorem covers7 : win0_7.Covers := by decide +kernel
theorem covers8 : win0_8.Covers := by decide +kernel
theorem covers9 : win0_9.Covers := by decide +kernel
theorem covers10 : win0_10.Covers := by decide +kernel
theorem covers11 : win0_11.Covers := by decide +kernel
theorem covers12 : win0_12.Covers := by decide +kernel
theorem covers13 : win0_13.Covers := by decide +kernel
theorem covers14 : win0_14.Covers := by decide +kernel

/-- The block attention's queries. -/
theorem final7 (c : Dev nD) : (dats m 0 c).arrAt 7 cfg0.N = InRef.refqa (m ((c : Thread nD τ).loc main_arg0)) (m ((c : Thread nD τ).loc main_arg1)) (m ((c : Thread nD τ).loc main_arg2)) := by
  refine (dats m 0 c).arrAt_eq_of_covers 7 _ covers7 fun t _ y => ?_
  blk_simp
  rw [after0_7]
  idx_vars y
  obtain rfl : y0 = 0 := Subsingleton.elim _ _
  rw [out7_at, rope_row m c t 0 (by omega), ← qa_at]
  unfold bt st
  blk_ext [idx t]

/-- The block attention's keys. -/
theorem final8 (c : Dev nD) : (dats m 0 c).arrAt 8 cfg0.N = InRef.refka (m ((c : Thread nD τ).loc main_arg0)) (m ((c : Thread nD τ).loc main_arg1)) (m ((c : Thread nD τ).loc main_arg2)) := by
  refine (dats m 0 c).arrAt_eq_of_covers 8 _ covers8 fun t _ y => ?_
  blk_simp
  rw [after0_8]
  idx_vars y
  obtain rfl : y0 = 0 := Subsingleton.elim _ _
  rw [out8_at, rope_row m c t 512 (by omega), ← ka_at]
  unfold bt st
  blk_ext [idx t]

/-- The block attention's values. -/
theorem final9 (c : Dev nD) : (dats m 0 c).arrAt 9 cfg0.N = InRef.refva (m ((c : Thread nD τ).loc main_arg0)) (m ((c : Thread nD τ).loc main_arg1)) (m ((c : Thread nD τ).loc main_arg2)) := by
  refine (dats m 0 c).arrAt_eq_of_covers 9 _ covers9 fun t _ y => ?_
  blk_simp
  rw [after0_9]
  idx_vars y
  obtain rfl : y0 = 0 := Subsingleton.elim _ _
  rw [out9_at, krow_at, ← va_at]
  unfold bt st
  blk_ext [idx t]

/-- The stick-breaking attention's queries. -/
theorem final10 (c : Dev nD) : (dats m 0 c).arrAt 10 cfg0.N = InRef.refqb (m ((c : Thread nD τ).loc main_arg0)) (m ((c : Thread nD τ).loc main_arg1)) (m ((c : Thread nD τ).loc main_arg2)) := by
  refine (dats m 0 c).arrAt_eq_of_covers 10 _ covers10 fun t _ y => ?_
  blk_simp
  rw [after0_10]
  idx_vars y
  obtain rfl : y0 = 0 := Subsingleton.elim _ _
  rw [out10_at, krow_at, ← qb_at]
  unfold bt st
  blk_ext [idx t]

/-- The stick-breaking attention's keys. -/
theorem final11 (c : Dev nD) : (dats m 0 c).arrAt 11 cfg0.N = InRef.refkb (m ((c : Thread nD τ).loc main_arg0)) (m ((c : Thread nD τ).loc main_arg1)) (m ((c : Thread nD τ).loc main_arg2)) := by
  refine (dats m 0 c).arrAt_eq_of_covers 11 _ covers11 fun t _ y => ?_
  blk_simp
  rw [after0_11]
  idx_vars y
  obtain rfl : y0 = 0 := Subsingleton.elim _ _
  rw [out11_at, krow_at, ← kb_at]
  unfold bt st
  blk_ext [idx t]

/-- The stick-breaking attention's values. -/
theorem final12 (c : Dev nD) : (dats m 0 c).arrAt 12 cfg0.N = InRef.refvb (m ((c : Thread nD τ).loc main_arg0)) (m ((c : Thread nD τ).loc main_arg1)) (m ((c : Thread nD τ).loc main_arg2)) := by
  refine (dats m 0 c).arrAt_eq_of_covers 12 _ covers12 fun t _ y => ?_
  blk_simp
  rw [after0_12]
  idx_vars y
  obtain rfl : y0 = 0 := Subsingleton.elim _ _
  rw [out12_at, krow_at, ← vb_at]
  unfold bt st
  blk_ext [idx t]

/-- The gates. -/
theorem final13 (c : Dev nD) : (dats m 0 c).arrAt 13 cfg0.N = InRef.refgt (m ((c : Thread nD τ).loc main_arg0)) (m ((c : Thread nD τ).loc main_arg1)) (m ((c : Thread nD τ).loc main_arg2)) (m ((c : Thread nD τ).loc main_arg3)) := by
  refine (dats m 0 c).arrAt_eq_of_covers 13 _ covers13 fun t _ y => ?_
  blk_simp
  rw [after0_13]
  idx_vars y
  obtain rfl : y0 = 0 := Subsingleton.elim _ _
  rw [out13_at, krow_at, b3, ← gt_at]
  unfold bt st
  blk_ext [idx t]

theorem c256 : Ideal.ofBits .f32 0x43800000#32 = ((256 : ℝ) : EReal) := by
  simp [Ideal.ofBits, Ideal.ieee, -EReal.coe_mul]; norm_num

theorem i256 : Ideal.ofBits .f32 0x3B800000#32 = ((1 / 256 : ℝ) : EReal) := by
  simp [Ideal.ofBits, Ideal.ieee, -EReal.coe_mul]; norm_num

/-- The mean of 256 numbers, by a division and by a product. -/
theorem mean_eq (x : EReal) : x * Ideal.ofBits .f32 0x3B800000#32 = Ideal.div x (Ideal.ofBits .f32 0x43800000#32) := by
  rw [c256, i256, Ideal.div_coe (by norm_num)]

/-- A block of keys of a step. -/
def nt (t : Fin cfg0.N) (n : Fin 2) : Fin 8 := ⟨t.val / 32 * 2 + n.val, by have : t.val < 128 := t.isLt; omega⟩

theorem st_nt (t : Fin cfg0.N) (n : Fin 2) (k : Fin 256) : st t ⟨n.val * 256 + k.val, by omega⟩ = ⟨(nt t n).val * 256 + k.val, by have := (nt t n).isLt; omega⟩ := by
  unfold st nt
  apply Fin.ext
  dsimp only
  omega

/-- The means of a step, from its blocks. -/
theorem mean_row (c : Dev nD) (t : Fin cfg0.N) (n : Fin 2) (e : Fin 512) :
    (∑ k : Fin 256, ropek (fun e => krow (iblk m c 0 t) (iblk m c 1 t) (iblk m c 2 t) ⟨n.val * 256 + k.val, by omega⟩ ⟨512 + e.val, by omega⟩)
      (fun l => (iblk m c 4 t : Vec Ideal S512x128 .f32) (ix2 ⟨n.val * 256 + k.val, by omega⟩ l)) (fun l => (iblk m c 5 t : Vec Ideal S512x128 .f32) (ix2 ⟨n.val * 256 + k.val, by omega⟩ l)) (fun l => (iblk m c 6 t : Vec Ideal S512x128 .f32) (ix2 ⟨n.val * 256 + k.val, by omega⟩ l)) e) * Ideal.ofBits .f32 0x3B800000#32
      = InRef.refkm (m ((c : Thread nD τ).loc main_arg0)) (m ((c : Thread nD τ).loc main_arg1)) (m ((c : Thread nD τ).loc main_arg2)) (ix4 (bt t) (nt t n) 0 e) := by
  rw [mean_eq]
  refine Eq.trans ?_ (km_at (m ((c : Thread nD τ).loc main_arg0)) (m ((c : Thread nD τ).loc main_arg1)) (m ((c : Thread nD τ).loc main_arg2)) (bt t) (nt t n) e).symm
  refine congrArg (fun z => Ideal.div z (Ideal.ofBits .f32 0x43800000#32)) (Finset.sum_congr rfl fun k _ => ?_)
  rw [← st_nt]
  exact rope_row m c t 512 (by omega) ⟨n.val * 256 + k.val, by omega⟩ e

/-- The means of the blocks of keys. -/
theorem final14 (c : Dev nD) : (dats m 0 c).arrAt 14 cfg0.N = InRef.refkm (m ((c : Thread nD τ).loc main_arg0)) (m ((c : Thread nD τ).loc main_arg1)) (m ((c : Thread nD τ).loc main_arg2)) := by
  refine (dats m 0 c).arrAt_eq_of_covers 14 _ covers14 fun t _ y => ?_
  blk_simp
  rw [after0_14]
  idx_vars y
  obtain rfl : y0 = 0 := Subsingleton.elim _ _
  obtain rfl : y2 = 0 := Subsingleton.elim _ _
  rw [out14_at, mean_row]
  unfold bt nt
  blk_ext [idx t]

end Cert.InVal
end
-- ==== Proof.InClaim.lean ====
module

public import proofs.«01_k».proof.Defs
public import proofs.«01_k».proof.Proof.InFin

/-! The value claim of the input projection. -/

@[expose] public section
set_option maxRecDepth 16384
noncomputable section
open Idealize.ShloMosaic Idealize.ShloMosaic.TcCoe Idealize.SL.Sem
namespace Cert.InClaim

section
open Cert.InReferenceIdeal Cert.InReferenceIdeal.Gen
variable (m : (ℓ : Loc nD τ sig) → Buf (Elt Ideal) ℓ) (c : Dev nD)
theorem qa_eq : Value.res_main_v86 m c = InRef.refqa (m ((c.tc : Thread nD τ).loc main_arg0)) (m ((c.tc : Thread nD τ).loc main_arg1)) (m ((c.tc : Thread nD τ).loc main_arg2)) := rfl
theorem ka_eq : Value.res_main_v89 m c = InRef.refka (m ((c.tc : Thread nD τ).loc main_arg0)) (m ((c.tc : Thread nD τ).loc main_arg1)) (m ((c.tc : Thread nD τ).loc main_arg2)) := rfl
theorem km_eq : Value.res_main_v73 m c = InRef.refkm (m ((c.tc : Thread nD τ).loc main_arg0)) (m ((c.tc : Thread nD τ).loc main_arg1)) (m ((c.tc : Thread nD τ).loc main_arg2)) := rfl
end

set_option maxHeartbeats 4000000 in
/-- The input projection's kernel and its reference return the same eight arrays. -/
theorem algebraic : Cert.algebraic_InKernelIdeal_InReferenceIdeal
    (hInKernelIdeal := Cert.InKernelIdeal.Gen.facts) (hInReferenceIdeal := Cert.InReferenceIdeal.Gen.facts) := by
  intro m g m' g' _ hm
  refine ⟨fun c => InRef.refqa (m ((c.tc : Thread _ _).loc Cert.InKernelIdeal.main_arg0)) (m ((c.tc : Thread _ _).loc Cert.InKernelIdeal.main_arg1)) (m ((c.tc : Thread _ _).loc Cert.InKernelIdeal.main_arg2)), fun c => InRef.refka (m ((c.tc : Thread _ _).loc Cert.InKernelIdeal.main_arg0)) (m ((c.tc : Thread _ _).loc Cert.InKernelIdeal.main_arg1)) (m ((c.tc : Thread _ _).loc Cert.InKernelIdeal.main_arg2)), fun c => InRef.refva (m ((c.tc : Thread _ _).loc Cert.InKernelIdeal.main_arg0)) (m ((c.tc : Thread _ _).loc Cert.InKernelIdeal.main_arg1)) (m ((c.tc : Thread _ _).loc Cert.InKernelIdeal.main_arg2)), fun c => InRef.refqb (m ((c.tc : Thread _ _).loc Cert.InKernelIdeal.main_arg0)) (m ((c.tc : Thread _ _).loc Cert.InKernelIdeal.main_arg1)) (m ((c.tc : Thread _ _).loc Cert.InKernelIdeal.main_arg2)), fun c => InRef.refkb (m ((c.tc : Thread _ _).loc Cert.InKernelIdeal.main_arg0)) (m ((c.tc : Thread _ _).loc Cert.InKernelIdeal.main_arg1)) (m ((c.tc : Thread _ _).loc Cert.InKernelIdeal.main_arg2)), fun c => InRef.refvb (m ((c.tc : Thread _ _).loc Cert.InKernelIdeal.main_arg0)) (m ((c.tc : Thread _ _).loc Cert.InKernelIdeal.main_arg1)) (m ((c.tc : Thread _ _).loc Cert.InKernelIdeal.main_arg2)),
    fun c => InRef.refgt (m ((c.tc : Thread _ _).loc Cert.InKernelIdeal.main_arg0)) (m ((c.tc : Thread _ _).loc Cert.InKernelIdeal.main_arg1)) (m ((c.tc : Thread _ _).loc Cert.InKernelIdeal.main_arg2)) (m ((c.tc : Thread _ _).loc Cert.InKernelIdeal.main_arg3)), fun c => InRef.refkm (m ((c.tc : Thread _ _).loc Cert.InKernelIdeal.main_arg0)) (m ((c.tc : Thread _ _).loc Cert.InKernelIdeal.main_arg1)) (m ((c.tc : Thread _ _).loc Cert.InKernelIdeal.main_arg2)), ?_, ?_⟩
  · refine (θ_run _ _ _).mono (fun r h c => ?_) (Cert.InKernelIdeal.Value.run_blocks m g)
    obtain ⟨h7, h8, h9, h10, h11, h12, h13, h14, hk⟩ := h c
    exact ⟨h7.trans (InVal.final7 m c), h8.trans (InVal.final8 m c), h9.trans (InVal.final9 m c), h10.trans (InVal.final10 m c), h11.trans (InVal.final11 m c), h12.trans (InVal.final12 m c),
      h13.trans (InVal.final13 m c), h14.trans (InVal.final14 m c), hk⟩
  · refine (θ_run _ _ _).mono (fun r h c => ?_) (Cert.InReferenceIdeal.Value.run m' g')
    obtain ⟨h7, h8, h9, h10, h11, h12, h13, h14, hk⟩ := h c
    obtain ⟨e0, e1, e2, e3⟩ := hm c
    have hf : ∀ {α : Type} (f : FVec Ideal Cert.InReferenceIdeal.S32x2048x1024 .f32 → FVec Ideal Cert.InReferenceIdeal.S1x1024 .f32 → FVec Ideal Cert.InReferenceIdeal.S1x1024x5120 .f32 → FVec Ideal Cert.InReferenceIdeal.S1x2048 .f32 → α),
        f (m' ((c.tc : Thread _ _).loc Cert.InReferenceIdeal.main_arg0)) (m' ((c.tc : Thread _ _).loc Cert.InReferenceIdeal.main_arg1)) (m' ((c.tc : Thread _ _).loc Cert.InReferenceIdeal.main_arg2)) (m' ((c.tc : Thread _ _).loc Cert.InReferenceIdeal.main_arg3)) = f (m ((c.tc : Thread _ _).loc Cert.InKernelIdeal.main_arg0)) (m ((c.tc : Thread _ _).loc Cert.InKernelIdeal.main_arg1)) (m ((c.tc : Thread _ _).loc Cert.InKernelIdeal.main_arg2)) (m ((c.tc : Thread _ _).loc Cert.InKernelIdeal.main_arg3)) := fun f => congr (congr (congr (congrArg f e0) e1) e2) e3
    clear e0 e1 e2 e3 hm
    refine ⟨h7.trans ((qa_eq m' c).trans (hf fun x g w _ => InRef.refqa x g w)), h8.trans ((ka_eq m' c).trans (hf fun x g w _ => InRef.refka x g w)), ?_, ?_, ?_, ?_, ?_,
      h14.trans ((km_eq m' c).trans (hf fun x g w _ => InRef.refkm x g w)), hk⟩
    · exact h9.trans (hf fun x g w _ => InRef.refva x g w)
    · exact h10.trans (hf fun x g w _ => InRef.refqb x g w)
    · exact h11.trans (hf fun x g w _ => InRef.refkb x g w)
    · exact h12.trans (hf fun x g w _ => InRef.refvb x g w)
    · exact h13.trans (hf InRef.refgt)

end Cert.InClaim
end
-- ==== Proof.MobaFin.lean ====
module

public import proofs.«01_k».proof.Pre_finite_qk_means
public import proofs.«01_k».proof.Proof.SbFin

/-! What the precondition of the block attention says of an element of the arrays it names. -/

@[expose] public section
set_option maxRecDepth 16384
noncomputable section
open Idealize.ShloMosaic
namespace Cert.MobaFin

instance facts1 : Cert.Pre_finite_qk_means.Facts where
  bitsLt_bf16_f32 := by decide
  bcast_S_S32x2048x512 := by decide
  reducesTo_S32x2048x512_S_d0_1_2 := by decide
  h_S_ := by decide
  bcast_S_S32x8x1x512 := by decide
  reducesTo_S32x8x1x512_S_d0_1_2_3 := by decide

/-- Every element of the queries, of the keys and of the means is a real. -/
theorem fin_qk_means (q k v : FVec Ideal Cert.Pre_finite_qk_means.S32x2048x512 .bf16) (km : FVec Ideal Cert.Pre_finite_qk_means.S32x8x1x512 .f32)
    (h : Cert.Pre_finite_qk_means.fn (F := Ideal) q k v km = fun _ => 1#1) :
    (∀ i, ∃ r : ℝ, q i = (r : EReal)) ∧ (∀ i, ∃ r : ℝ, k i = (r : EReal)) ∧ ∀ i, ∃ r : ℝ, km i = (r : EReal) := by
  have h0 := congrFun h ix0
  haveI : Subsingleton Cert.Pre_finite_qk_means.S_.Idx := ⟨fun a b => funext fun x => x.elim0⟩
  obtain ⟨h1, h3⟩ := IntOp.andi_eq_one.1 h0
  obtain ⟨h1, h2⟩ := IntOp.andi_eq_one.1 h1
  exact ⟨fun i => SbFin.real_of_olt _ (Host.reduce_andi_all _ _ _ _ _ h1 i), fun i => SbFin.real_of_olt _ (Host.reduce_andi_all _ _ _ _ _ h2 i),
    fun i => SbFin.real_of_olt _ (Host.reduce_andi_all _ _ _ _ _ h3 i)⟩

end Cert.MobaFin
end
-- ==== Proof.MobaMath.lean ====
module

public import Idealize.ShloMosaic.PureOps.Ideal
public import proofs.«01_k».proof.Proof.SbMath

/-! The arithmetic of block attention over the extended reals, apart from any program: scores are real, values any
extended reals. -/

@[expose] public section
noncomputable section
namespace Cert.MobaMath
open Idealize.ShloMosaic Finset
open Cert.SbMath (coe_mul_sum coe_sum)
open Classical

section tot
variable {M : Type*} [AddCommMonoid M]

/-- The total of `G` over the keys a query sees: those of its own block from `a` up to the query, `r` further, and those of
the chosen ones of the first `k` blocks. -/
def tot (S : ℕ → Prop) (a r k : ℕ) (G : ℕ → M) : M :=
  (∑ c : Fin 256, if c.val ≤ r then G (a + c.val) else 0) + ∑ j ∈ range (256 * k), if S (j / 256) then G j else 0

theorem tot_zero (S : ℕ → Prop) (a r : ℕ) (G : ℕ → M) : tot S a r 0 G = ∑ c : Fin 256, if c.val ≤ r then G (a + c.val) else 0 := by
  simp [tot]

theorem tot_succ (S : ℕ → Prop) (a r k : ℕ) (G : ℕ → M) :
    tot S a r (k + 1) G = tot S a r k G + ∑ c : Fin 256, if S k then G (256 * k + c.val) else 0 := by
  unfold tot
  rw [add_assoc]
  congr 1
  rw [show 256 * (k + 1) = 256 * k + 256 by ring, sum_range_add, Fin.sum_univ_eq_sum_range (fun c => if S k then G (256 * k + c) else 0) 256]
  congr 1
  refine sum_congr rfl fun c hc => ?_
  have := mem_range.1 hc
  rw [show (256 * k + c) / 256 = k by omega]

theorem tot_congr (S : ℕ → Prop) (a r k : ℕ) (G H : ℕ → M) (h : ∀ j, G j = H j) : tot S a r k G = tot S a r k H := by
  rw [show G = H from funext h]

/-- The total over all keys with the mask written out. -/
theorem tot_see (S : ℕ → Prop) (q r : ℕ) (hq : q < 8) (hr : r < 256) (hS : ∀ n, S n → n < q) (G : ℕ → M) :
    ∑ j : Fin 2048, (if S (j.val / 256) ∨ (j.val / 256 = q ∧ j.val ≤ 256 * q + r) then G j.val else 0) = tot S (256 * q) r q G := by
  rw [Fin.sum_univ_eq_sum_range (fun j => if S (j / 256) ∨ (j / 256 = q ∧ j ≤ 256 * q + r) then G j else 0) 2048,
    show 2048 = 256 * q + (256 + (2048 - 256 * q - 256)) by omega, sum_range_add, sum_range_add]
  rw [sum_eq_zero (s := range (2048 - 256 * q - 256)) (fun c _ => if_neg ?_), add_zero, add_comm]
  · unfold tot
    congr 1
    · rw [Fin.sum_univ_eq_sum_range (fun c => if c ≤ r then G (256 * q + c) else 0) 256]
      refine sum_congr rfl fun c hc => ?_
      have := mem_range.1 hc
      have e : (256 * q + c) / 256 = q := by omega
      have hn : ¬ S q := fun h => lt_irrefl _ (hS q h)
      rw [e]
      simp [hn]
    · refine sum_congr rfl fun c hc => ?_
      have := mem_range.1 hc
      have e : c / 256 ≠ q := by omega
      simp [e]
  · rintro (h | h)
    · have := hS _ h; omega
    · omega

end tot

theorem mul_tot (S : ℕ → Prop) (a r k : ℕ) (c : ℝ) (G : ℕ → ℝ) : c * tot S a r k G = tot S a r k fun j => c * G j := by
  unfold tot
  rw [mul_add, mul_sum, mul_sum]
  congr 1 <;> exact sum_congr rfl fun j _ => by split <;> simp

theorem coe_mul_tot (S : ℕ → Prop) (a r k : ℕ) (c : ℝ) (hc : 0 ≤ c) (G : ℕ → EReal) : (c : EReal) * tot S a r k G = tot S a r k fun j => (c : EReal) * G j := by
  unfold tot
  rw [EReal.left_distrib_of_nonneg_of_ne_top (by exact_mod_cast hc) (EReal.coe_ne_top c), coe_mul_sum c hc, coe_mul_sum c hc]
  congr 1 <;> exact sum_congr rfl fun j _ => by split <;> simp

section row
variable (S : ℕ → Prop) (a r : ℕ) (z : ℕ → ℝ) (v : ℕ → EReal)

/-- The sum of the weights relative to `m`. -/
def den (m : ℝ) (k : ℕ) : ℝ := tot S a r k fun j => Real.exp (z j - m)

/-- The weighted values relative to `m`. -/
def num (m : ℝ) (k : ℕ) : EReal := tot S a r k fun j => ((Real.exp (z j - m) : ℝ) : EReal) * v j

/-- The attention's result: the values weighted by the softmax of the keys seen. -/
def att (k : ℕ) : EReal := tot S a r k fun j => ((Real.exp (z j) / den S a r z 0 k : ℝ) : EReal) * v j

theorem den_shift (m m' : ℝ) (k : ℕ) : Real.exp (m - m') * den S a r z m k = den S a r z m' k := by
  unfold den
  rw [mul_tot]
  exact tot_congr _ _ _ _ _ _ fun j => by rw [← Real.exp_add]; congr 1; ring

theorem num_shift (m m' : ℝ) (k : ℕ) : ((Real.exp (m - m') : ℝ) : EReal) * num S a r z v m k = num S a r z v m' k := by
  unfold num
  rw [coe_mul_tot _ _ _ _ _ (Real.exp_nonneg _)]
  refine tot_congr _ _ _ _ _ _ fun j => ?_
  rw [← mul_assoc, ← EReal.coe_mul, ← Real.exp_add]
  rw [show m - m' + (z j - m) = z j - m' by ring]

theorem den_pos (m : ℝ) (k : ℕ) : 0 < den S a r z m k := by
  unfold den tot
  refine add_pos_of_pos_of_nonneg ?_ (sum_nonneg fun j _ => ?_)
  · refine sum_pos' (fun c _ => ?_) ⟨0, mem_univ _, ?_⟩
    · split <;> positivity
    · simp [Real.exp_pos]
  · split <;> positivity

/-- The quotient does not depend on the reference point of the weights. -/
theorem quot (m : ℝ) (k : ℕ) : Ideal.div (num S a r z v m k) (den S a r z m k : EReal) = att S a r z v k := by
  have hp := den_pos S a r z m k
  have h0 : ((den S a r z m k : ℝ) : EReal) ≠ 0 := by exact_mod_cast hp.ne'
  unfold Ideal.div
  rw [if_neg h0, ← EReal.coe_inv, mul_comm]
  unfold num att
  rw [coe_mul_tot _ _ _ _ _ (inv_nonneg.2 hp.le)]
  refine tot_congr _ _ _ _ _ _ fun j => ?_
  rw [← mul_assoc, ← EReal.coe_mul]
  congr 2
  rw [← den_shift S a r z m 0 k, Real.exp_sub, Real.exp_sub]
  have := (Real.exp_pos m).ne'
  field_simp
  simp

/-- A masked score's weight. -/
theorem exp_mask (p : Prop) [Decidable p] (x m : ℝ) : Ideal.exp ((if p then (x : EReal) else ⊥) - (m : EReal)) = ((if p then Real.exp (x - m) else 0 : ℝ) : EReal) := by
  split
  · rw [← EReal.coe_sub, Ideal.exp_coe]
  · rw [EReal.bot_sub, EReal.coe_zero]; rfl

theorem mask_mul (p : Prop) [Decidable p] (x : ℝ) (y : EReal) : ((if p then x else 0 : ℝ) : EReal) * y = if p then (x : EReal) * y else 0 := by
  split <;> simp

/-- One more block: the sum of the weights. -/
theorem den_step (s : Fin 256 → EReal) (k : ℕ) (hs : ∀ c, s c = if S k then (z (256 * k + c.val) : EReal) else ⊥) (m m' : ℝ) :
    Ideal.exp ((m : EReal) - (m' : EReal)) * (den S a r z m k : EReal) + ∑ c, Ideal.exp (s c - (m' : EReal)) = (den S a r z m' (k + 1) : EReal) := by
  rw [← EReal.coe_sub, Ideal.exp_coe, ← EReal.coe_mul, den_shift]
  simp only [hs, exp_mask]
  rw [← coe_sum, ← EReal.coe_add]
  unfold den
  rw [tot_succ]

/-- One more block: the weighted values. -/
theorem num_step (s : Fin 256 → EReal) (w : Fin 256 → EReal) (k : ℕ) (hs : ∀ c, s c = if S k then (z (256 * k + c.val) : EReal) else ⊥)
    (hw : ∀ c, w c = v (256 * k + c.val)) (m m' : ℝ) :
    Ideal.exp ((m : EReal) - (m' : EReal)) * num S a r z v m k + ∑ c, Ideal.exp (s c - (m' : EReal)) * w c = num S a r z v m' (k + 1) := by
  rw [← EReal.coe_sub, Ideal.exp_coe, num_shift]
  simp only [hs, exp_mask, mask_mul, hw]
  unfold num
  rw [tot_succ]

/-- The query's own block: the sum of the weights. -/
theorem den_own (s : Fin 256 → EReal) (hs : ∀ c, s c = if c.val ≤ r then (z (a + c.val) : EReal) else ⊥) (m : ℝ) :
    ∑ c, Ideal.exp (s c - (m : EReal)) = (den S a r z m 0 : EReal) := by
  simp only [hs, exp_mask]
  rw [← coe_sum]
  unfold den
  rw [tot_zero]

/-- The query's own block: the weighted values. -/
theorem num_own (s : Fin 256 → EReal) (w : Fin 256 → EReal) (hs : ∀ c, s c = if c.val ≤ r then (z (a + c.val) : EReal) else ⊥)
    (hw : ∀ c, w c = v (a + c.val)) (m : ℝ) :
    ∑ c, Ideal.exp (s c - (m : EReal)) * w c = num S a r z v m 0 := by
  simp only [hs, exp_mask, mask_mul, hw]
  unfold num
  rw [tot_zero]

/-- A greatest element of scores of which none is plus infinity and one is a real is a real. -/
theorem fold_real {n : ℕ} (b : EReal) (hb : b ≠ ⊤) (f : Fin n → EReal) (hf : ∀ c, f c ≠ ⊤) (h : b ≠ ⊥ ∨ ∃ c, f c ≠ ⊥) :
    ∃ m : ℝ, Finset.fold max b f univ = (m : EReal) := by
  have h1 : Finset.fold max b f univ ≠ ⊤ := by
    have : Finset.fold max b f univ < ⊤ := Finset.fold_max_lt _ |>.2 ⟨hb.lt_top, fun c _ => (hf c).lt_top⟩
    exact this.ne
  have h2 : Finset.fold max b f univ ≠ ⊥ := by
    have : ⊥ < Finset.fold max b f univ := by
      rw [Finset.lt_fold_max]
      rcases h with h | ⟨c, h⟩
      · exact Or.inl (bot_lt_iff_ne_bot.2 h)
      · exact Or.inr ⟨c, mem_univ _, bot_lt_iff_ne_bot.2 h⟩
    exact this.ne'
  exact ⟨_, (EReal.coe_toReal h1 h2).symm⟩

theorem mask_ne_top (p : Prop) [Decidable p] (x : ℝ) : (if p then (x : EReal) else ⊥) ≠ ⊤ := by
  split <;> simp

end row

/-- The softmax of the masked scores against all the keys. -/
theorem softmax (S : ℕ → Prop) (q r : ℕ) (hq : q < 8) (hr : r < 256) (hS : ∀ n, S n → n < q) (z : ℕ → ℝ) (v : ℕ → EReal) (x w : Fin 2048 → EReal)
    (hx : ∀ j, x j = if S (j.val / 256) ∨ (j.val / 256 = q ∧ j.val ≤ 256 * q + r) then (z j.val : EReal) else ⊥) (hw : ∀ j, w j = v j.val) (m : ℝ) :
    ∑ j, Ideal.div (Ideal.exp (x j - (m : EReal))) (∑ i, Ideal.exp (x i - (m : EReal))) * w j = att S (256 * q) r z v q := by
  have e : ∑ i, Ideal.exp (x i - (m : EReal)) = (den S (256 * q) r z m q : EReal) := by
    simp only [hx, exp_mask]
    rw [← coe_sum, tot_see S q r hq hr hS (fun j => Real.exp (z j - m))]
    rfl
  have hp := den_pos S (256 * q) r z m q
  have h0 : ((den S (256 * q) r z m q : ℝ) : EReal) ≠ 0 := by exact_mod_cast hp.ne'
  rw [e, att, ← tot_see S q r hq hr hS]
  refine sum_congr rfl fun j _ => ?_
  rw [hx, exp_mask, hw]
  unfold Ideal.div
  rw [if_neg h0, ← EReal.coe_inv, ← EReal.coe_mul]
  split
  · congr 2
    rw [← den_shift S (256 * q) r z m 0 q, Real.exp_sub, Real.exp_sub]
    have := (Real.exp_pos m).ne'
    field_simp
    simp
  · simp
end Cert.MobaMath
end
-- ==== Proof.MobaTop.lean ====
module

public import Idealize.ShloMosaic.Lib.SortPrefix
public import Idealize.ShloMosaic.PureOps.Ideal
public import proofs.«01_k».proof.Proof.SbMath

/-! The blocks of the three greatest gates, told by counting the gates ahead of each. -/

@[expose] public section
noncomputable section
namespace Cert.MobaTop
open Idealize.ShloMosaic Finset

/-- Sorting an ascending list by the key alone is sorting it by the key and then the position. -/
theorem sort_refine {n : ℕ} (B R : Fin n → Fin n → Bool) (h : ∀ a b, a < b → B b a = R b a) (l : List (Fin n)) (hl : l.Pairwise (· < ·)) :
    stableSort B l = stableSort R l := by
  induction l with
  | nil => rfl
  | cons a l ih =>
    have h1 := List.pairwise_cons.1 hl
    show insertBefore B a (stableSort B l) = insertBefore R a (stableSort R l)
    rw [ih h1.2]
    exact insertBefore_congr B R a _ fun b hb => h a b (h1.1 b ((perm_stableSort R l).mem_iff.1 hb))

theorem from_refine {n : ℕ} (B R : Fin n → Fin n → Bool) (h : ∀ a b, a < b → B b a = R b a) : sortedFrom B = sortedFrom R := by
  have e : sortPositions n B = sortPositions n R := sort_refine B R h _ (List.pairwise_lt_finRange n)
  funext k
  have key : ∀ (l l' : List (Fin n)) (_ : l = l') (h : n = l.length) (h' : n = l'.length), l.get (k.cast h) = l'.get (k.cast h') := fun l l' e h h' => by subst e; rfl
  exact key _ _ e _ _

/-- Under a strict total order the sorted positions are in order. -/
theorem from_lt {n : ℕ} (R : Fin n → Fin n → Bool) (hR : StrictTotalBefore R) (i j : Fin n) : R (sortedFrom R i) (sortedFrom R j) = true ↔ i < j := by
  have hs := hR.sorted_stableSort (List.finRange n)
  have key : ∀ i j : Fin n, i < j → R (sortedFrom R j) (sortedFrom R i) = false := fun i j hij =>
    List.pairwise_iff_get.1 hs (i.cast (length_sortPositions n R).symm) (j.cast (length_sortPositions n R).symm) hij
  constructor
  · intro h
    by_contra hn
    rcases eq_or_lt_of_le (not_lt.1 hn) with e | e
    · rw [e, hR.irrefl] at h; exact absurd h (by decide)
    · rw [key j i e] at h; exact absurd h (by decide)
  · intro h
    rcases hR.total _ _ (fun e => h.ne (sortedFrom_injective R e)) with h1 | h1
    · exact h1
    · rw [key i j h] at h1; exact absurd h1 (by decide)

/-- A position is among the first `k` of the sort exactly if fewer than `k` are before it. -/
theorem mem_first {n : ℕ} (R : Fin n → Fin n → Bool) (hR : StrictTotalBefore R) (k : ℕ) (p : Fin n) :
    (∃ t : Fin n, t.val < k ∧ sortedFrom R t = p) ↔ (univ.filter fun m => R m p = true).card < k := by
  obtain ⟨t, rfl⟩ := sortedFrom_surjective R p
  have e : (univ.filter fun m => R m (sortedFrom R t) = true) = (univ.filter fun i : Fin n => i < t).image (sortedFrom R) := by
    ext m
    obtain ⟨i, rfl⟩ := sortedFrom_surjective R m
    simp only [mem_filter, mem_univ, true_and, mem_image, from_lt R hR]
    exact ⟨fun h => ⟨i, h, rfl⟩, fun ⟨i', h, e⟩ => by rwa [← sortedFrom_injective R e]⟩
  have c : (univ.filter fun i : Fin n => i < t).card = t.val := by
    have : (univ.filter fun i : Fin n => i < t) = Finset.Iio t := by ext; simp
    rw [this, Fin.card_Iio]
  rw [e, card_image_of_injective _ (sortedFrom_injective R), c]
  exact ⟨fun ⟨t', h, e⟩ => by rwa [← sortedFrom_injective R e], fun h => ⟨t, h, rfl⟩⟩

/-- Gate `m` is ahead of gate `n`: greater, or equal and earlier. -/
def ahead (g : ℕ → ℝ) (m n : ℕ) : Prop := g n < g m ∨ (g m = g n ∧ m < n)

open Classical in
/-- Block `n` is chosen of the `a` past blocks: fewer than three past gates are ahead of its own. -/
def chosen (g : ℕ → ℝ) (a n : ℕ) : Prop := n < a ∧ (univ.filter fun m : Fin 8 => m.val < a ∧ ahead g m.val n).card < 3

/-- The sort's three first past blocks are the chosen ones. -/
theorem chosen_iff (g : ℕ → ℝ) (a : ℕ) (x : Fin 8 → EReal) (hx : ∀ m : Fin 8, x m = if m.val < a then (g m.val : EReal) else ⊥) (n : Fin 8) :
    (∃ t : Fin 8, t.val < 3 ∧ sortedFrom (fun k k' => decide (x k' < x k)) t = n) ∧ n.val < a ↔ chosen g a n.val := by
  classical
  have hR := StrictTotalBefore.of_key_then_position (n := 8) (fun u w : EReal => decide (w < u)) x (fun u => by simp)
    (fun u v w h1 h2 => by simp only [decide_eq_true_eq] at *; exact h2.trans h1)
    (fun u w => by simp only [decide_eq_true_eq]; rcases lt_trichotomy w u with h | h | h; exacts [Or.inl h, Or.inr (Or.inl h.symm), Or.inr (Or.inr h)])
  rw [from_refine _ (fun k k' : Fin 8 => decide (x k' < x k) || (decide (x k = x k') && decide (k < k'))) (fun u w h => by
    have : ¬ w < u := not_lt.2 h.le
    simp [this]), mem_first _ hR]
  unfold chosen
  rw [and_comm]
  refine and_congr_right fun hn => ?_
  have e : (univ.filter fun m : Fin 8 => (decide (x n < x m) || (decide (x m = x n) && decide (m < n))) = true)
      = univ.filter fun m : Fin 8 => m.val < a ∧ ahead g m.val n.val := by
    ext m
    rw [mem_filter, mem_filter]
    refine and_congr_right fun _ => ?_
    rw [Bool.or_eq_true, Bool.and_eq_true, decide_eq_true_eq, decide_eq_true_eq, decide_eq_true_eq, hx m, hx n, if_pos hn]
    unfold ahead
    by_cases hm : m.val < a
    · rw [if_pos hm, EReal.coe_lt_coe_iff, EReal.coe_eq_coe_iff]
      exact ⟨fun h => ⟨hm, h⟩, fun h => h.2⟩
    · rw [if_neg hm]
      simp [hm]
  rw [e]

theorem chosen_lt {g : ℕ → ℝ} {a n : ℕ} (h : chosen g a n) : n < a := h.1

/-- A count of ones, as extended reals. -/
theorem count_eq (P : Fin 8 → Prop) [DecidablePred P] : (∑ m : Fin 8, if P m then (1 : EReal) else 0) = (((univ.filter P).card : ℝ) : EReal) := by
  rw [Finset.card_filter]
  push_cast
  rw [SbMath.coe_sum]
  exact sum_congr rfl fun m _ => by split <;> simp
open Classical in
/-- A block is chosen exactly if the ones of the gates ahead of its own add up to less than three. -/
theorem chosen_count (g : ℕ → ℝ) (a n : ℕ) :
    chosen g a n ↔ n < a ∧ (∑ m : Fin 8, if m.val < a ∧ ahead g m.val n then (1 : EReal) else 0) < ((3 : ℝ) : EReal) := by
  unfold chosen
  refine and_congr_right fun _ => ?_
  rw [count_eq, EReal.coe_lt_coe_iff]
  exact ⟨fun h => by exact_mod_cast h, fun h => by exact_mod_cast h⟩
end Cert.MobaTop
end
-- ==== Proof.MobaBody.lean ====
module

public import proofs.«01_k».proof.Proof.Gen.MobaKernelIdeal.Skeleton
public import proofs.«01_k».proof.Proof.MobaMath
public import proofs.«01_k».proof.Proof.MobaTop
public import proofs.«01_k».proof.Proof.SbVal
public import Idealize.ShloMosaic.Lib.Pointwise
public import Idealize.ShloMosaic.Lib.WordCmp

/-! The values of block attention's gates and of one block of keys, at a query row. -/

@[expose] public section
set_option maxRecDepth 16384
noncomputable section
open Idealize.ShloMosaic Idealize.ShloMosaic.TcCoe Idealize.SL.Sem
namespace Cert.MobaBody
open Cert.MobaKernelIdeal Cert.MobaKernelIdeal.Gen Cert.MobaMath Cert.MobaTop
open Cert.SbBody (sel)

/-- The lanes' numbers. -/
abbrev lanes : IVec S256x128 32 := iota Kind.tc S256x128 32 [1] iota_S256x128_d1_w32

open Classical in
/-- One if gate `m` is a past gate ahead of gate `n`. -/
def ones (γ : ℕ → ℝ) (a n m : ℕ) : EReal := if m < a ∧ ahead γ m n then 1 else 0

/-- Whether one gate is ahead of another, as the body adds it. -/
theorem cell (γ : ℕ → ℝ) (a n m : ℕ) (ha : a < 256) (hn : n < 256) (hm : m < 256) (x y : EReal) (hx : x = (γ m : EReal)) (hy : y = (γ n : EReal))
    [Decidable (y < x)] [Decidable (x = y)] (w : BitVec 32) (hw : w = BitVec.ofNat 32 n) :
    Scalar.select (IntOp.ori (BitVec.ofBool (decide (y < x))) (IntOp.andi (BitVec.ofBool (decide (x = y))) (IntOp.cmpi CmpIPredicate.sgt w (BitVec.ofNat 32 m))))
      (Scalar.select (Scalar.cmpi CmpIPredicate.sgt (BitVec.ofNat 32 a) (BitVec.ofNat 32 m)) (1 : EReal) 0) 0
      = ones γ a n m := by
  have e : Scalar.cmpi CmpIPredicate.sgt (BitVec.ofNat 32 a) (BitVec.ofNat 32 m) = BitVec.ofBool (decide (m < a)) := SbBody.sgt a m ha hm
  rw [hw, SbBody.sgt n m hn hm, e, WordCmp.andi_ofBool, WordCmp.ori_ofBool, ← Bool.decide_and, ← Bool.decide_or, sel, sel]
  have h1 : (y < x ∨ x = y ∧ m < n) ↔ ahead γ m n := by
    rw [hx, hy, EReal.coe_lt_coe_iff, EReal.coe_eq_coe_iff]; exact Iff.rfl
  unfold ones
  by_cases h2 : ahead γ m n <;> by_cases h3 : m < a <;> simp [h1, h2, h3]

theorem three : Ideal.ofBits FTy.f32 1077936128#32 = ((3 : ℝ) : EReal) := by
  simp [Ideal.ofBits, Ideal.ieee, -EReal.coe_mul]; norm_num

theorem blk64 : ∀ n : Fin 8, IntOp.subi (BitVec.ofNat 32 (64 + n.val)) 64#32 = BitVec.ofNat 32 n.val := by decide
theorem blk0 : ∀ n : Fin 8, IntOp.subi (BitVec.ofNat 32 n.val) 0#32 = BitVec.ofNat 32 n.val := by decide
theorem gate_lane : ∀ n : Fin 8, IntOp.andi (IntOp.cmpi CmpIPredicate.sge (BitVec.ofNat 32 n.val) 0#32) (IntOp.cmpi CmpIPredicate.slt (BitVec.ofNat 32 n.val) 8#32) = 1#1 := by decide
theorem gate_off64 : ∀ x : Fin 128, x.val < 64 ∨ 72 ≤ x.val → IntOp.andi (IntOp.cmpi CmpIPredicate.sge (IntOp.subi (BitVec.ofNat 32 x.val) 64#32) 0#32) (IntOp.cmpi CmpIPredicate.slt (IntOp.subi (BitVec.ofNat 32 x.val) 64#32) 8#32) = 0#1 := by decide +kernel
theorem gate_off0 : ∀ x : Fin 128, 8 ≤ x.val → IntOp.andi (IntOp.cmpi CmpIPredicate.sge (IntOp.subi (BitVec.ofNat 32 x.val) 0#32) 0#32) (IntOp.cmpi CmpIPredicate.slt (IntOp.subi (BitVec.ofNat 32 x.val) 0#32) 8#32) = 0#1 := by decide +kernel

theorem one_andi (x : BitVec 1) : IntOp.andi 1#1 x = x := by revert x; decide
theorem zero_andi (x : BitVec 1) : IntOp.andi 0#1 x = 0#1 := by revert x; decide

open Classical in
/-- The word that says a block is not chosen. -/
theorem closing (γ : ℕ → ℝ) (a n : ℕ) (ha : a < 256) (hn : n < 256) (s : EReal) (hs : s = ∑ m : Fin 8, ones γ a n m.val)
    [Decidable (s < ((3 : ℝ) : EReal))] :
    IntOp.xori (IntOp.andi (IntOp.cmpi CmpIPredicate.slt (BitVec.ofNat 32 n) (BitVec.ofNat 32 a)) (BitVec.ofBool (decide (s < ((3 : ℝ) : EReal))))) 1#1
      = if chosen γ a n then 0#1 else 1#1 := by
  rw [SbBody.slt n a hn ha, WordCmp.andi_ofBool, ← Bool.decide_and]
  have h : (n < a ∧ s < ((3 : ℝ) : EReal)) ↔ chosen γ a n := by
    rw [hs, chosen_count]
    refine and_congr_right fun _ => Eq.to_iff (congrArg (· < _) (Finset.sum_congr rfl fun m _ => ?_))
    unfold ones
    congr
  by_cases hc : chosen γ a n <;> simp [h, hc] <;> rfl

/-- The first head's blocks that are not chosen, by lane. -/
def unsel0 (a2 : BitVec 32) (g : FVec Ideal S256x128 .f32) : IVec S256x128 1 :=
  k0_pay43 a2 g (k0_pay30 lanes k0_pay29) (k0_pay31 lanes k0_pay29) (k0_pay32 a2 lanes k0_pay29)
   (k0_pay38 a2 g (k0_pay30 lanes k0_pay29) (k0_pay33 a2 lanes g k0_pay29) (k0_pay35 g) (k0_pay36 g) k0_pay37) (k0_pay40 g) (k0_pay41 g) k0_pay42

/-- The second head's. -/
def unsel1 (a2 : BitVec 32) (g : FVec Ideal S256x128 .f32) : IVec S256x128 1 :=
  andi (k0_pay67 lanes) (xori (k0_pay77 a2 g (k0_pay66 lanes) (k0_pay68 a2 lanes)
   (k0_pay73 a2 g (k0_pay66 lanes) (k0_pay69 a2 lanes g) (k0_pay71 g) (k0_pay72 g)) (k0_pay75 g) (k0_pay76 g)) (constantI S256x128 1 1#1))

section unsel
variable (a : ℕ) (ha : a < 8) (g : FVec Ideal S256x128 .f32) (r : Fin 256) (γ : ℕ → ℝ)
include ha

open Classical in
theorem unsel0_at (hg : ∀ m : Fin 8, g (ix2 r ⟨64 + m.val, by omega⟩) = (γ m.val : EReal)) (n : Fin 8) :
    unsel0 (BitVec.ofNat 32 a) g (ix2 r ⟨64 + n.val, by omega⟩) = if chosen γ a n.val then 0#1 else 1#1 := by
  have h0 : g (ix2 r 64) = (γ 0 : EReal) := hg 0
  have h1 : g (ix2 r 65) = (γ 1 : EReal) := hg 1
  have h2 : g (ix2 r 66) = (γ 2 : EReal) := hg 2
  have h3 : g (ix2 r 67) = (γ 3 : EReal) := hg 3
  have h4 : g (ix2 r 68) = (γ 4 : EReal) := hg 4
  have h5 : g (ix2 r 69) = (γ 5 : EReal) := hg 5
  have h6 : g (ix2 r 70) = (γ 6 : EReal) := hg 6
  have h7 : g (ix2 r 71) = (γ 7 : EReal) := hg 7
  pointwise [unsel0, k0_pay43, k0_pay38, k0_pay33, k0_pay35, k0_pay36, k0_pay34, k0_pay37, k0_pay40, k0_pay41, k0_pay39, k0_pay42, k0_pay30, k0_pay31, k0_pay32, k0_pay29]
  have hn := n.isLt
  rw [cell γ a n.val 0 (by omega) (by omega) (by omega) _ _ h0 (hg n) _ (blk64 n), cell γ a n.val 1 (by omega) (by omega) (by omega) _ _ h1 (hg n) _ (blk64 n),
    cell γ a n.val 2 (by omega) (by omega) (by omega) _ _ h2 (hg n) _ (blk64 n), cell γ a n.val 3 (by omega) (by omega) (by omega) _ _ h3 (hg n) _ (blk64 n),
    cell γ a n.val 4 (by omega) (by omega) (by omega) _ _ h4 (hg n) _ (blk64 n), cell γ a n.val 5 (by omega) (by omega) (by omega) _ _ h5 (hg n) _ (blk64 n),
    cell γ a n.val 6 (by omega) (by omega) (by omega) _ _ h6 (hg n) _ (blk64 n), cell γ a n.val 7 (by omega) (by omega) (by omega) _ _ h7 (hg n) _ (blk64 n)]
  simp only [blk64, gate_lane, one_andi, three]
  exact closing γ a n.val (by omega) (by omega) _ (by rw [Fin.sum_univ_eight]; rfl)

theorem unsel0_off (x : Fin 128) (hx : x.val < 64 ∨ 72 ≤ x.val) : unsel0 (BitVec.ofNat 32 a) g (ix2 r x) = 0#1 := by
  pointwise [unsel0, k0_pay43, k0_pay30, k0_pay31, k0_pay29]
  rw [gate_off64 x hx, zero_andi]

open Classical in
theorem unsel1_at (hg : ∀ m : Fin 8, g (ix2 r ⟨m.val, by omega⟩) = (γ m.val : EReal)) (n : Fin 8) :
    unsel1 (BitVec.ofNat 32 a) g (ix2 r ⟨n.val, by omega⟩) = if chosen γ a n.val then 0#1 else 1#1 := by
  have h0 : g (ix2 r 0) = (γ 0 : EReal) := hg 0
  have h1 : g (ix2 r 1) = (γ 1 : EReal) := hg 1
  have h2 : g (ix2 r 2) = (γ 2 : EReal) := hg 2
  have h3 : g (ix2 r 3) = (γ 3 : EReal) := hg 3
  have h4 : g (ix2 r 4) = (γ 4 : EReal) := hg 4
  have h5 : g (ix2 r 5) = (γ 5 : EReal) := hg 5
  have h6 : g (ix2 r 6) = (γ 6 : EReal) := hg 6
  have h7 : g (ix2 r 7) = (γ 7 : EReal) := hg 7
  pointwise [unsel1, k0_pay77, k0_pay73, k0_pay69, k0_pay70, k0_pay71, k0_pay72, k0_pay74, k0_pay75, k0_pay76, k0_pay66, k0_pay67, k0_pay68]
  have hn := n.isLt
  rw [cell γ a n.val 0 (by omega) (by omega) (by omega) _ _ h0 (hg n) _ (blk0 n), cell γ a n.val 1 (by omega) (by omega) (by omega) _ _ h1 (hg n) _ (blk0 n),
    cell γ a n.val 2 (by omega) (by omega) (by omega) _ _ h2 (hg n) _ (blk0 n), cell γ a n.val 3 (by omega) (by omega) (by omega) _ _ h3 (hg n) _ (blk0 n),
    cell γ a n.val 4 (by omega) (by omega) (by omega) _ _ h4 (hg n) _ (blk0 n), cell γ a n.val 5 (by omega) (by omega) (by omega) _ _ h5 (hg n) _ (blk0 n),
    cell γ a n.val 6 (by omega) (by omega) (by omega) _ _ h6 (hg n) _ (blk0 n), cell γ a n.val 7 (by omega) (by omega) (by omega) _ _ h7 (hg n) _ (blk0 n)]
  simp only [blk0, gate_lane, one_andi, three]
  exact closing γ a n.val (by omega) (by omega) _ (by rw [Fin.sum_univ_eight]; rfl)

theorem unsel1_off (x : Fin 128) (hx : 8 ≤ x.val) : unsel1 (BitVec.ofNat 32 a) g (ix2 r x) = 0#1 := by
  pointwise [unsel1, k0_pay66, k0_pay67]
  rw [gate_off0 x hx, zero_andi]
end unsel

/-! ### One block of keys -/

theorem neg_val : (Named.named (F := Ideal) κ "neg" (φ := .f32) 4048155338#32 : EReal) = ⊥ := rfl

/-- The score with a block's bias in a lane outside the head. -/
theorem biased (H : Fin 128 → Prop) [DecidablePred H] (q kk b : Fin 128 → EReal) (p : Fin 128) (hp : ¬ H p) (hq : ∀ x, ¬ H x → q x = 0) (hb : ∀ x, H x → b x = 0) :
    ∑ x, (q x + b x) * (if H x then kk x else if x = p then 1 else 0) = (∑ x, q x * kk x) + b p := by
  have e : ∀ x, (q x + b x) * (if H x then kk x else if x = p then 1 else 0) = q x * kk x + if x = p then b x else 0 := fun x => by
    by_cases h : H x
    · have : x ≠ p := fun e => hp (e ▸ h)
      simp [h, this, hb x h]
    · rw [if_neg h, hq x h]
      by_cases e : x = p <;> simp [e]
  simp only [e]
  rw [Finset.sum_add_distrib, Finset.sum_ite_eq' Finset.univ p b]
  simp

theorem pay50_at (i : grid0.Coords) (v203 : IVec S256x128 1) (v205 : FVec Ideal S256x128 .bf16) (v214 : IVec S256x128 32) (v219 : IVec S256x128 1) (k : Fin (k0_t1_loop i).trips) (kb : Vec Ideal S1x256x128 .bf16) (r c : Fin 256) :
    k0_pay50 i v203 v205 v214 v219 k kb (ix2 r c) = ∑ x : Fin 128, (v205 (ix2 r x) + Scalar.select (v219 (ix2 r x)) (⊥ : EReal) 0) *
        Scalar.select (v203 (ix2 c x)) (kb (ix3 0 c x)) (Scalar.select (IntOp.cmpi CmpIPredicate.eq (v214 (ix2 c x)) (Scf.iv 0#32 1#32 k.val)) 1 0) := by
  pointwise [k0_pay50, k0_pay44]
  simp only [neg_val]

/-- The scores of one earlier block: the block's own if it is chosen. -/
theorem scores (i : grid0.Coords) (v203 : IVec S256x128 1) (v205 : FVec Ideal S256x128 .bf16) (v214 : IVec S256x128 32) (v219 : IVec S256x128 1) (k : Fin (k0_t1_loop i).trips) (kb : Vec Ideal S1x256x128 .bf16) (r c : Fin 256)
    (H : Fin 128 → Prop) [DecidablePred H] (p : Fin 128) (hp : ¬ H p) (h203 : ∀ x, v203 (ix2 c x) = BitVec.ofBool (decide (H x))) (h214 : ∀ x, IntOp.cmpi CmpIPredicate.eq (v214 (ix2 c x)) (Scf.iv 0#32 1#32 k.val) = BitVec.ofBool (decide (x = p)))
    (hq : ∀ x, ¬ H x → v205 (ix2 r x) = 0) (hb : ∀ x, H x → v219 (ix2 r x) = 0#1) (S : Prop) [Decidable S] (hS : v219 (ix2 r p) = if S then 0#1 else 1#1)
    (z : ℝ) (hz : ∑ x : Fin 128, v205 (ix2 r x) * kb (ix3 0 c x) = (z : EReal)) :
    k0_pay50 i v203 v205 v214 v219 k kb (ix2 r c) = if S then (z : EReal) else ⊥ := by
  rw [pay50_at]
  simp only [h203, h214, sel]
  refine (biased H (fun x => v205 (ix2 r x)) (fun x => kb (ix3 0 c x)) (fun x => Scalar.select (v219 (ix2 r x)) (⊥ : EReal) 0) p hp hq fun x hx => ?_).trans ?_
  · rw [hb x hx]; rfl
  · rw [hz, hS]
    by_cases h : S <;> simp [h, Scalar.select]

section step
variable (i : grid0.Coords) (v203 : IVec S256x128 1) (v205 : FVec Ideal S256x128 .bf16) (v214 : IVec S256x128 32) (v219 : IVec S256x128 1) (k : Fin (k0_t1_loop i).trips) (kb vb : Vec Ideal S1x256x128 .bf16) (r : Fin 256)
  (S : ℕ → Prop) (z : ℕ → ℝ) (a q : ℕ)

open Classical in
/-- One more earlier block of keys. -/
theorem step (hs : ∀ c : Fin 256, k0_pay50 i v203 v205 v214 v219 k kb (ix2 r c) = if S k.val then (z (256 * k.val + c.val) : EReal) else ⊥)
    (v : ℕ → EReal) (l : Fin 128) (hv : ∀ c : Fin 256, vb (ix3 0 c l) = v (256 * k.val + c.val))
    (M L : FVec Ideal S256x1 .f32) (A : FVec Ideal S256x128 .f32)
    (h : ∃ m : ℝ, M (ix2 r 0) = (m : EReal) ∧ L (ix2 r 0) = (den S a q z m k.val : EReal) ∧ A (ix2 r l) = num S a q z v m k.val) :
    ∃ m : ℝ, k0_pay51 i v203 v205 v214 v219 k M kb (ix2 r 0) = (m : EReal) ∧ k0_pay54 i v203 v205 v214 v219 k M L kb (ix2 r 0) = (den S a q z m (k.val + 1) : EReal)
      ∧ k0_pay55 i v203 v205 v214 v219 k M A kb vb (ix2 r l) = num S a q z v m (k.val + 1) := by
  obtain ⟨m, h1, h2, h3⟩ := h
  have e : k0_pay51 i v203 v205 v214 v219 k M kb (ix2 r 0) = max (M (ix2 r 0)) (Finset.fold max (Ideal.ofBits FTy.f32 4286578688#32) (fun x => k0_pay50 i v203 v205 v214 v219 k kb (ix2 r x)) Finset.univ) := by
    pointwise [k0_pay51]
  have hb : Ideal.ofBits FTy.f32 4286578688#32 = ⊥ := by simp [Ideal.ofBits, Ideal.ieee]
  have ht : Finset.fold max (Ideal.ofBits FTy.f32 4286578688#32) (fun x => k0_pay50 i v203 v205 v214 v219 k kb (ix2 r x)) Finset.univ < ⊤ := by
    rw [Finset.fold_max_lt]
    refine ⟨by rw [hb]; exact bot_lt_top, fun c _ => ?_⟩
    rw [hs]
    exact (mask_ne_top _ _).lt_top
  have hm : ∃ m' : ℝ, k0_pay51 i v203 v205 v214 v219 k M kb (ix2 r 0) = (m' : EReal) := by
    rw [e, h1]
    exact ⟨_, (EReal.coe_toReal (max_lt (EReal.coe_lt_top m) ht).ne (lt_of_lt_of_le (EReal.bot_lt_coe m) (le_max_left _ _)).ne').symm⟩
  obtain ⟨m', hm⟩ := hm
  refine ⟨m', hm, ?_, ?_⟩
  · pointwise [k0_pay54, k0_pay52, k0_pay53]
    rw [hm, h1, h2]
    exact den_step S a q z _ k.val hs m m'
  · pointwise [k0_pay55, k0_pay52, k0_pay53]
    rw [hm, h1, h3]
    exact num_step S a q z v _ _ k.val hs hv m m'
end step

/-- The masked scores of the query's own block. -/
theorem pay45_at (k qh : FVec Ideal S256x128 .bf16) (r c : Fin 256) :
    k0_pay45 (iota Kind.tc S256x256 32 [0] iota_S256x256_d0_w32) (iota Kind.tc S256x256 32 [1] iota_S256x256_d1_w32) k qh (ix2 r c)
      = if c.val ≤ r.val then ∑ x : Fin 128, qh (ix2 r x) * k (ix2 c x) else ⊥ := by
  have e : IntOp.cmpi CmpIPredicate.sle (BitVec.ofNat 32 c.val) (BitVec.ofNat 32 r.val) = BitVec.ofBool (decide (c.val ≤ r.val)) := WordCmp.cmpi_sle_ofNat (by omega) (by omega)
  pointwise [k0_pay45]
  rw [e, sel, neg_val]

open Classical in
/-- The query's own block of keys. -/
theorem own (S : ℕ → Prop) (z : ℕ → ℝ) (a : ℕ) (k vv qh : FVec Ideal S256x128 .bf16) (r : Fin 256) (l : Fin 128)
    (hz : ∀ c : Fin 256, ∑ x : Fin 128, qh (ix2 r x) * k (ix2 c x) = (z (a + c.val) : EReal)) (v : ℕ → EReal) (hv : ∀ c : Fin 256, vv (ix2 c l) = v (a + c.val)) :
    ∃ m : ℝ, k0_pay46 (iota Kind.tc S256x256 32 [0] iota_S256x256_d0_w32) (iota Kind.tc S256x256 32 [1] iota_S256x256_d1_w32) k qh (ix2 r 0) = (m : EReal)
      ∧ k0_pay48 (iota Kind.tc S256x256 32 [0] iota_S256x256_d0_w32) (iota Kind.tc S256x256 32 [1] iota_S256x256_d1_w32) k qh (ix2 r 0) = (den S a r.val z m 0 : EReal)
      ∧ k0_pay49 (iota Kind.tc S256x256 32 [0] iota_S256x256_d0_w32) (iota Kind.tc S256x256 32 [1] iota_S256x256_d1_w32) k vv qh (ix2 r l) = num S a r.val z v m 0 := by
  have hs : ∀ c : Fin 256, k0_pay45 (iota Kind.tc S256x256 32 [0] iota_S256x256_d0_w32) (iota Kind.tc S256x256 32 [1] iota_S256x256_d1_w32) k qh (ix2 r c)
      = if c.val ≤ r.val then (z (a + c.val) : EReal) else ⊥ := fun c => by rw [pay45_at, hz]
  have hb : Ideal.ofBits FTy.f32 4286578688#32 = ⊥ := by simp [Ideal.ofBits, Ideal.ieee]
  have e : k0_pay46 (iota Kind.tc S256x256 32 [0] iota_S256x256_d0_w32) (iota Kind.tc S256x256 32 [1] iota_S256x256_d1_w32) k qh (ix2 r 0)
      = Finset.fold max (Ideal.ofBits FTy.f32 4286578688#32) (fun x => k0_pay45 (iota Kind.tc S256x256 32 [0] iota_S256x256_d0_w32) (iota Kind.tc S256x256 32 [1] iota_S256x256_d1_w32) k qh (ix2 r x)) Finset.univ := by
    pointwise [k0_pay46]
  obtain ⟨m, hm⟩ := fold_real (Ideal.ofBits FTy.f32 4286578688#32) (by rw [hb]; exact bot_ne_top)
    (fun x => k0_pay45 (iota Kind.tc S256x256 32 [0] iota_S256x256_d0_w32) (iota Kind.tc S256x256 32 [1] iota_S256x256_d1_w32) k qh (ix2 r x))
    (fun c => by rw [hs]; exact mask_ne_top _ _) (Or.inr ⟨⟨0, by omega⟩, by rw [hs, if_pos (Nat.zero_le _)]; exact EReal.coe_ne_bot _⟩)
  refine ⟨m, e.trans hm, ?_, ?_⟩
  · pointwise [k0_pay48, k0_pay47]
    rw [e.trans hm]
    exact den_own S a r.val z _ hs m
  · pointwise [k0_pay49, k0_pay47]
    rw [e.trans hm]
    exact num_own S a r.val z v _ _ hs hv m

theorem pay62_at (L : FVec Ideal S256x1 .f32) (A : FVec Ideal S256x128 .f32) (r : Fin 256) (l : Fin 128) : k0_pay62 L A (ix2 r l) = Ideal.div (A (ix2 r l)) (L (ix2 r 0)) := by
  pointwise [k0_pay62]

theorem pay19_at (B : FVec Ideal S256x128 .f32) (L : FVec Ideal S256x1 .f32) (A : FVec Ideal S256x128 .f32) (r : Fin 256) (l : Fin 128) :
    k0_pay19 B (k0_pay63 lanes) L A (ix3 0 r l) = if 64 ≤ l.val then Ideal.div (A (ix2 r l)) (L (ix2 r 0)) else B (ix2 r l) := by
  pointwise [k0_pay19, k0_pay63]
  rw [SbBody.half 64 128 l.val (by omega) (by omega) l.isLt, sel]
  simp

theorem pay27_at (x0 : Vec Ideal S1x256x128 .bf16) (r : Fin 256) (x : Fin 128) : k0_pay27 x0 (ix2 r x) = if x.val < 64 then x0 (ix3 0 r x) else 0 := by
  pointwise [k0_pay27, k0_pay26, k0_pay20]
  rw [SbBody.half 0 64 x.val (by omega) (by omega) x.isLt, sel]
  simp

theorem pay64_at (x0 : Vec Ideal S1x256x128 .bf16) (r : Fin 256) (x : Fin 128) : k0_pay64 (k0_pay20 x0) lanes (ix2 r x) = if 64 ≤ x.val then x0 (ix3 0 r x) else 0 := by
  pointwise [k0_pay64, k0_pay63, k0_pay20]
  rw [SbBody.half 64 128 x.val (by omega) (by omega) x.isLt, sel]
  simp

/-- The first head's gates: the remainder of the means' rounding is nothing over the reals. -/
theorem gate0_at (x0 : Vec Ideal S1x256x128 .bf16) (x3 : Vec Ideal S1x8x128 .f32) (hm : ∀ i, ∃ y : ℝ, x3 i = (y : EReal)) (r : Fin 256) (n : Fin 8) :
    k0_pay28 x0 x3 (ix2 r ⟨64 + n.val, by omega⟩) = ∑ d : Fin 64, x0 (ix3 0 r ⟨d.val, by omega⟩) * x3 (ix3 0 n ⟨d.val, by omega⟩) := by
  have e : ∀ x : Fin 128, x3 (ix3 0 n x) - x3 (ix3 0 n x) = 0 := fun x => by
    obtain ⟨y, hy⟩ := hm (ix3 0 n x)
    rw [hy, ← EReal.coe_sub, sub_self]; rfl
  pointwise [k0_pay28, k0_pay27, k0_pay20, k0_pay26, k0_pay22, k0_pay23, k0_pay21]
  simp only [e, mul_zero, SbBody.half 0 64 _ (by omega) (by omega) (Fin.isLt _), sel]
  simp only [Nat.zero_le, true_and, ite_self, Finset.sum_const_zero, add_zero]
  exact SbVal.sum_lo fun x => x0 (ix3 0 r x) * x3 (ix3 0 n x)

/-- The second head's gates. -/
theorem gate1_at (x0 : Vec Ideal S1x256x128 .bf16) (x3 : Vec Ideal S1x8x128 .f32) (hm : ∀ i, ∃ y : ℝ, x3 i = (y : EReal)) (r : Fin 256) (n : Fin 8) :
    k0_pay65 (k0_pay20 x0) lanes (k0_pay22 x3) (k0_pay23 x3) (ix2 r ⟨n.val, by omega⟩) = ∑ d : Fin 64, x0 (ix3 0 r ⟨64 + d.val, by omega⟩) * x3 (ix3 0 n ⟨64 + d.val, by omega⟩) := by
  have e : ∀ x : Fin 128, x3 (ix3 0 n x) - x3 (ix3 0 n x) = 0 := fun x => by
    obtain ⟨y, hy⟩ := hm (ix3 0 n x)
    rw [hy, ← EReal.coe_sub, sub_self]; rfl
  pointwise [k0_pay65, k0_pay64, k0_pay63, k0_pay20, k0_pay22, k0_pay23, k0_pay21]
  have h : ∀ x : Fin 128, (64 ≤ x.val ∧ x.val < 128) ↔ 64 ≤ x.val := fun x => ⟨fun h => h.1, fun h => ⟨h, x.isLt⟩⟩
  simp only [e, mul_zero, SbBody.half 64 128 _ (by omega) (by omega) (Fin.isLt _), sel, h]
  simp only [ite_self, Finset.sum_const_zero, add_zero]
  exact SbVal.sum_hi fun x => x0 (ix3 0 r x) * x3 (ix3 0 n x)

theorem e2 (v3 v4 : IVec S256x256 32) (k q : FVec Ideal S256x128 .bf16) : k0_pay3 v3 v4 k q = k0_pay46 v3 v4 k q := rfl
theorem e4 (v3 v4 : IVec S256x256 32) (k q : FVec Ideal S256x128 .bf16) : k0_pay5 v3 v4 k q = k0_pay48 v3 v4 k q := rfl
theorem e5 (v3 v4 : IVec S256x256 32) (k v q : FVec Ideal S256x128 .bf16) : k0_pay6 v3 v4 k v q = k0_pay49 v3 v4 k v q := rfl
theorem e6 (i : grid0.Coords) (v203 : IVec S256x128 1) (v205 : FVec Ideal S256x128 .bf16) (v214 : IVec S256x128 32) (v219 v346 cc : IVec S256x128 1) (k : Fin (k0_t3_loop i).trips) (ar : FVec Ideal S256x1 .f32) (v385 : Vec Ideal S1x256x128 .bf16) :
  k0_pay8 i v203 v205 v214 v219 v346 cc k ar v385 = k0_pay51 i v203 v205 v214 (andi v219 (xori v346 cc)) k ar v385 := rfl
theorem e7 (i : grid0.Coords) (v203 : IVec S256x128 1) (v205 : FVec Ideal S256x128 .bf16) (v214 : IVec S256x128 32) (v219 v346 cc : IVec S256x128 1) (k : Fin (k0_t3_loop i).trips) (ar br : FVec Ideal S256x1 .f32) (v385 : Vec Ideal S1x256x128 .bf16) :
  k0_pay11 i v203 v205 v214 v219 v346 cc k ar br v385 = k0_pay54 i v203 v205 v214 (andi v219 (xori v346 cc)) k ar br v385 := rfl
theorem e8 (i : grid0.Coords) (v203 : IVec S256x128 1) (v205 : FVec Ideal S256x128 .bf16) (v214 : IVec S256x128 32) (v219 v346 cc : IVec S256x128 1) (k : Fin (k0_t3_loop i).trips) (ar  : FVec Ideal S256x1 .f32) (br : FVec Ideal S256x128 .f32) (v385 v : Vec Ideal S1x256x128 .bf16) :
  k0_pay12 i v203 v205 v214 v219 v346 cc k ar br v385 v = k0_pay55 i v203 v205 v214 (andi v219 (xori v346 cc)) k ar br v385 v := rfl
end Cert.MobaBody
end
-- ==== Proof.MobaLoop.lean ====
module

public import proofs.«01_k».proof.Proof.Gen.MobaKernelIdeal.Value
public import proofs.«01_k».proof.Proof.MobaBody
public import Idealize.ShloMosaic.Lib.Pipeline.ValueKit
public import Idealize.ShloMosaic.Lib.Pointwise

/-! The loop over the earlier blocks of keys of block attention, and one window of results. -/

@[expose] public section
set_option maxRecDepth 16384
noncomputable section
open Idealize.ShloMosaic Idealize.ShloMosaic.TcCoe Idealize.SL.Sem
open Idealize.ShloMosaic.Pipeline (Dat)
namespace Cert.MobaBody
open Cert.MobaKernelIdeal Cert.MobaKernelIdeal.Gen Cert.MobaMath Cert.MobaTop
open Cert.SbBody (sel)

theorem trips1 : ∀ i : grid0.Coords, (k0_t1_loop i).trips = (i 2).val := by decide +kernel
theorem trips2 : ∀ i : grid0.Coords, (k0_t2_loop i).trips = 0 := by decide +kernel
theorem trips3 : ∀ i : grid0.Coords, (k0_t3_loop i).trips = (i 2).val := by decide +kernel
theorem trips4 : ∀ i : grid0.Coords, (k0_t4_loop i).trips = 0 := by decide +kernel
theorem off1 : ∀ i : grid0.Coords, k0_off1 i = ![0, 256 * (i 2).val, 0] := by decide +kernel
theorem off2 : ∀ i : grid0.Coords, ∀ k : Fin (k0_t1_loop i).trips, k0_off2 i k = ![0, 256 * k.val, 0] := by decide +kernel
theorem off4 : ∀ i : grid0.Coords, ∀ k : Fin (k0_t3_loop i).trips, k0_off4 i k = ![0, 256 * k.val, 0] := by decide +kernel

/-- A load of a block of rows. -/
theorem ld_rows (x : Vec Ideal S1x2048x128 .bf16) (off : Fin 3 → ℕ) (inb : ∀ a, off a + (![1, 256, 128] : Fin 3 → ℕ) a ≤ S1x2048x128.size a) (a : ℕ) (ha : a + 256 ≤ 2048)
    (h : off = ![0, a, 0]) (c : Fin 256) (l : Fin 128) :
    (View.ld x (Rect.unit off ![1, 256, 128] inb) : Vec Ideal S1x256x128 .bf16) (ix3 0 c l) = x (ix3 0 ⟨a + c.val, by omega⟩ l) := by
  subst h
  refine View.ld_unit_apply_of _ _ _ _ _ _ fun k => ?_
  fin_cases k <;> simp <;> rfl

theorem pay24_at (kb : Vec Ideal S1x256x128 .bf16) (c : Fin 256) (x : Fin 128) : k0_pay24 kb (ix2 c x) = kb (ix3 0 c x) := by
  pointwise [k0_pay24]

theorem pay25_at (kb : Vec Ideal S1x256x128 .bf16) (c : Fin 256) (x : Fin 128) : k0_pay25 kb (ix2 c x) = kb (ix3 0 c x) := by
  pointwise [k0_pay25]

theorem head0 (c : Fin 256) (x : Fin 128) : k0_pay26 (ix2 c x) = BitVec.ofBool (decide (x.val < 64)) := by
  pointwise [k0_pay26]
  rw [SbBody.half 0 64 x.val (by omega) (by omega) x.isLt]
  simp

theorem head1 (c : Fin 256) (x : Fin 128) : k0_pay63 lanes (ix2 c x) = BitVec.ofBool (decide (64 ≤ x.val)) := by
  pointwise [k0_pay63]
  rw [SbBody.half 64 128 x.val (by omega) (by omega) x.isLt]
  simp

theorem lane64 : ∀ (k : Fin 8) (x : Fin 128), IntOp.cmpi CmpIPredicate.eq (IntOp.subi (BitVec.ofNat 32 x.val) 64#32) (Scf.iv 0#32 1#32 k.val) = BitVec.ofBool (decide (x.val = 64 + k.val)) := by decide +kernel
theorem lane0 : ∀ (k : Fin 8) (x : Fin 128), IntOp.cmpi CmpIPredicate.eq (IntOp.subi (BitVec.ofNat 32 x.val) 0#32) (Scf.iv 0#32 1#32 k.val) = BitVec.ofBool (decide (x.val = k.val)) := by decide +kernel

theorem blk0_at (k : ℕ) (hk : k < 8) (c : Fin 256) (x : Fin 128) : IntOp.cmpi CmpIPredicate.eq (k0_pay30 lanes k0_pay29 (ix2 c x)) (Scf.iv 0#32 1#32 k) = BitVec.ofBool (decide (x = ⟨64 + k, by omega⟩)) := by
  have e : k0_pay30 lanes k0_pay29 (ix2 c x) = IntOp.subi (BitVec.ofNat 32 x.val) 64#32 := by
    pointwise [k0_pay30, k0_pay29]
  rw [e]
  exact (lane64 ⟨k, hk⟩ x).trans (by simp only [Fin.ext_iff])

theorem blk1_at (k : ℕ) (hk : k < 8) (c : Fin 256) (x : Fin 128) : IntOp.cmpi CmpIPredicate.eq (k0_pay66 lanes (ix2 c x)) (Scf.iv 0#32 1#32 k) = BitVec.ofBool (decide (x = ⟨k, by omega⟩)) := by
  have e : k0_pay66 lanes (ix2 c x) = IntOp.subi (BitVec.ofNat 32 x.val) 0#32 := by
    pointwise [k0_pay66]
  rw [e]
  exact (lane0 ⟨k, hk⟩ x).trans (by simp only [Fin.ext_iff])

variable (c : Dev nD) (i : grid0.Coords) (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x8x128 .f32) (harg6 : arg6.IsWhole) (arg7 : Memref sig .tc .vmem S1x256x128 .bf16) (harg7 : arg7.IsWhole)

theorem trip1 (𝒱 : Variants) (bd : Option 𝒱.V) (a2 : BitVec 32) (w1 : FVec Ideal S256x128 .bf16) (w2 : IVec S256x128 32) (w3 w4 : IVec S256x256 32) (w7 w10 : FVec Ideal S8x128 .bf16) (w15 w18 : FVec Ideal S256x128 .bf16)
    (v23 : IVec S256x128 1) (v25 : FVec Ideal S256x128 .bf16) (v36 : IVec S256x128 32) (v170 : IVec S256x128 1) (x1 x2 : Vec Ideal S1x2048x128 .bf16) (k acc) :
   tripR_k0_t1 (F := Ideal) 𝒱 c bd i arg3 harg3 arg4 harg4 arg5 harg5 arg6 harg6 arg7 harg7 a2 w1 w2 w3 w4 w7 w10 w15 w18 v23 v25 v36 v170 (harg4.unread x1) (harg5.unread x2) k acc =
    (k0_pay51 i v23 v25 v36 v170 k acc.1 (View.ld x1 (Rect.unit (k0_off2 i k) ![1, 256, 128] (k0_off2_inb i k))),
     k0_pay54 i v23 v25 v36 v170 k acc.1 acc.2.1 (View.ld x1 (Rect.unit (k0_off2 i k) ![1, 256, 128] (k0_off2_inb i k))),
     k0_pay55 i v23 v25 v36 v170 k acc.1 acc.2.2 (View.ld x1 (Rect.unit (k0_off2 i k) ![1, 256, 128] (k0_off2_inb i k)))
        (View.ld x2 (Rect.unit (k0_off2 i k) ![1, 256, 128] (k0_off2_inb i k)))) := by
  unfold tripR_k0_t1
  unfold trip_k0_t1
  dsimp only
  simp only [View.readAt_eq_ld, harg4.read_unread, harg5.read_unread]

theorem trip3 (𝒱 : Variants) (bd : Option 𝒱.V)
    (v203 : IVec S256x128 1) (v205 : FVec Ideal S256x128 .bf16) (v214 : IVec S256x128 32) (v219 v346 cc : IVec S256x128 1) (x1 x2 : Vec Ideal S1x2048x128 .bf16) (k acc) :
   tripR_k0_t3 (F := Ideal) 𝒱 c bd i arg3 harg3 arg4 harg4 arg5 harg5 arg6 harg6 arg7 harg7 v203 v205 v214 v219 v346 cc (harg4.unread x1) (harg5.unread x2) k acc =
    (k0_pay8 i v203 v205 v214 v219 v346 cc k acc.1 (View.ld x1 (Rect.unit (k0_off4 i k) ![1, 256, 128] (k0_off4_inb i k))),
     k0_pay11 i v203 v205 v214 v219 v346 cc k acc.1 acc.2.1 (View.ld x1 (Rect.unit (k0_off4 i k) ![1, 256, 128] (k0_off4_inb i k))),
     k0_pay12 i v203 v205 v214 v219 v346 cc k acc.1 acc.2.2 (View.ld x1 (Rect.unit (k0_off4 i k) ![1, 256, 128] (k0_off4_inb i k)))
        (View.ld x2 (Rect.unit (k0_off4 i k) ![1, 256, 128] (k0_off4_inb i k)))) := by
  unfold tripR_k0_t3
  unfold trip_k0_t3
  dsimp only
  simp only [View.readAt_eq_ld, harg4.read_unread, harg5.read_unread]

section row
variable (qh : FVec Ideal S256x128 .bf16) (x1 x2 : Vec Ideal S1x2048x128 .bf16) (r : Fin 256) (l : Fin 128) (z : ℕ → ℝ) (v : ℕ → EReal)
  (hz : ∀ j : Fin 2048, ∑ x : Fin 128, qh (ix2 r x) * x1 (ix3 0 j x) = (z j.val : EReal))
  (hv : ∀ j : Fin 2048, x2 (ix3 0 j l) = v j.val) (S : ℕ → Prop) (a : ℕ)

/-- What a head's loop carries at a row after `n` blocks. -/
def Inv (s : FVec Ideal S256x1 .f32 × FVec Ideal S256x1 .f32 × FVec Ideal S256x128 .f32) (n : ℕ) : Prop :=
  ∃ m : ℝ, s.1 (ix2 r 0) = (m : EReal) ∧ s.2.1 (ix2 r 0) = (den S a r.val z m n : EReal) ∧ s.2.2 (ix2 r l) = num S a r.val z v m n

include hz hv

/-- One trip of a head's loop. -/
theorem trip_inv (v203 : IVec S256x128 1) (v214 : IVec S256x128 32) (v219 : IVec S256x128 1) (k : Fin (k0_t1_loop i).trips)
    (H : Fin 128 → Prop) [DecidablePred H] (p : Fin 128) (hp : ¬ H p) (h203 : ∀ (c : Fin 256) x, v203 (ix2 c x) = BitVec.ofBool (decide (H x)))
    (h214 : ∀ (c : Fin 256) x, IntOp.cmpi CmpIPredicate.eq (v214 (ix2 c x)) (Scf.iv 0#32 1#32 k.val) = BitVec.ofBool (decide (x = p)))
    (hq : ∀ x, ¬ H x → qh (ix2 r x) = 0) (hb : ∀ x, H x → v219 (ix2 r x) = 0#1) [Decidable (S k.val)] (hS : v219 (ix2 r p) = if S k.val then 0#1 else 1#1)
    (off : Fin 3 → ℕ) (inb inb') (ho : off = ![0, 256 * k.val, 0]) (hk : k.val < 8) (M L A) (h : Inv r l z v S a (M, L, A) k.val) :
    Inv r l z v S a (k0_pay51 i v203 qh v214 v219 k M (View.ld x1 (Rect.unit off ![1, 256, 128] inb)),
      k0_pay54 i v203 qh v214 v219 k M L (View.ld x1 (Rect.unit off ![1, 256, 128] inb)),
      k0_pay55 i v203 qh v214 v219 k M A (View.ld x1 (Rect.unit off ![1, 256, 128] inb)) (View.ld x2 (Rect.unit off ![1, 256, 128] inb'))) (k.val + 1) := by
  refine step i v203 qh v214 v219 k _ _ r S z a r.val (fun c => ?_) v l (fun c => ?_) M L A h
  · refine (scores i v203 qh v214 v219 k _ r c H p hp (h203 c) (h214 c) hq hb (S k.val) hS (z (256 * k.val + c.val)) ?_).trans ?_
    · rw [← hz ⟨256 * k.val + c.val, by omega⟩]
      exact Finset.sum_congr rfl fun x _ => by rw [ld_rows x1 off inb _ (by omega) ho]
    · congr
  · rw [ld_rows x2 _ _ _ (by omega) ho, hv]

open Classical in
theorem loop1 (𝒱 : Variants) (bd : Option 𝒱.V) (a2 : BitVec 32) (w1 : FVec Ideal S256x128 .bf16) (w2 : IVec S256x128 32) (w3 w4 : IVec S256x256 32) (w7 w10 : FVec Ideal S8x128 .bf16) (w15 w18 : FVec Ideal S256x128 .bf16)
    (U : IVec S256x128 1) (hq : ∀ x : Fin 128, ¬ x.val < 64 → qh (ix2 r x) = 0) (hb : ∀ x : Fin 128, x.val < 64 → U (ix2 r x) = 0#1)
    (hS : ∀ n : Fin 8, U (ix2 r ⟨64 + n.val, by omega⟩) = if S n.val then 0#1 else 1#1) (init) (h : Inv r l z v S a init 0) :
    ∀ n ≤ (i 2).val, Inv r l z v S a (st_k0_t1 (F := Ideal) 𝒱 c bd i arg3 harg3 arg4 harg4 arg5 harg5 arg6 harg6 arg7 harg7 a2 w1 w2 w3 w4 w7 w10 w15 w18 k0_pay26 qh (k0_pay30 lanes k0_pay29) U (harg4.unread x1) (harg5.unread x2) init n) n := by
  intro n
  induction n with
  | zero => intro _; exact h
  | succ n ih =>
    intro hn
    have hi : (i 2).val < 8 := (i 2).isLt
    have e := st_k0_t1_succ (F := Ideal) 𝒱 c bd i arg3 harg3 arg4 harg4 arg5 harg5 arg6 harg6 arg7 harg7 a2 w1 w2 w3 w4 w7 w10 w15 w18 k0_pay26 qh (k0_pay30 lanes k0_pay29) U (harg4.unread x1) (harg5.unread x2) init ⟨n, by rw [trips1]; omega⟩
    rw [trip1] at e
    dsimp only at e
    rw [e]
    exact trip_inv i qh x1 x2 r l z v hz hv S a k0_pay26 (k0_pay30 lanes k0_pay29) U ⟨n, by rw [trips1]; omega⟩ (fun x => x.val < 64) ⟨64 + n, by omega⟩ (by simp) head0
      (blk0_at n (by omega)) hq hb (hS ⟨n, by omega⟩) _ _ _ (off2 i ⟨n, by rw [trips1]; omega⟩) (by dsimp only; omega) _ _ _ (ih (by omega))

open Classical in
theorem loop3 (𝒱 : Variants) (bd : Option 𝒱.V) (v346 : IVec S256x128 1)
    (hq : ∀ x : Fin 128, ¬ 64 ≤ x.val → qh (ix2 r x) = 0) (hb : ∀ x : Fin 128, 64 ≤ x.val → andi (k0_pay67 lanes) (xori v346 (constantI S256x128 1 1#1)) (ix2 r x) = 0#1)
    (hS : ∀ n : Fin 8, andi (k0_pay67 lanes) (xori v346 (constantI S256x128 1 1#1)) (ix2 r ⟨n.val, by omega⟩) = if S n.val then 0#1 else 1#1) (init) (h : Inv r l z v S a init 0) :
    ∀ n ≤ (i 2).val, Inv r l z v S a (st_k0_t3 (F := Ideal) 𝒱 c bd i arg3 harg3 arg4 harg4 arg5 harg5 arg6 harg6 arg7 harg7 (k0_pay63 lanes) qh (k0_pay66 lanes) (k0_pay67 lanes) v346 (constantI S256x128 1 1#1) (harg4.unread x1) (harg5.unread x2) init n) n := by
  intro n
  induction n with
  | zero => intro _; exact h
  | succ n ih =>
    intro hn
    have hi : (i 2).val < 8 := (i 2).isLt
    have e := st_k0_t3_succ (F := Ideal) 𝒱 c bd i arg3 harg3 arg4 harg4 arg5 harg5 arg6 harg6 arg7 harg7 (k0_pay63 lanes) qh (k0_pay66 lanes) (k0_pay67 lanes) v346 (constantI S256x128 1 1#1) (harg4.unread x1) (harg5.unread x2) init ⟨n, by rw [trips3]; omega⟩
    rw [trip3] at e
    dsimp only at e
    rw [e, e6, e7, e8]
    exact trip_inv i qh x1 x2 r l z v hz hv S a (k0_pay63 lanes) (k0_pay66 lanes) _ ⟨n, by rw [trips1]; omega⟩ (fun x => 64 ≤ x.val) ⟨n, by omega⟩ (by dsimp only; omega) head1
      (blk1_at n (by omega)) hq hb (hS ⟨n, by omega⟩) _ _ _ (off4 i ⟨n, by rw [trips3]; omega⟩) (by dsimp only; omega) _ _ _ (ih (by omega))

/-- The start of a head's loop at the query's own block. -/
theorem own_inv (off : Fin 3 → ℕ) (inb inb') (ha : a + 256 ≤ 2048) (h : off = ![0, a, 0]) :
    Inv r l z v S a (k0_pay46 (iota Kind.tc S256x256 32 [0] iota_S256x256_d0_w32) (iota Kind.tc S256x256 32 [1] iota_S256x256_d1_w32) (k0_pay24 (View.ld x1 (Rect.unit off ![1, 256, 128] inb))) qh,
      k0_pay48 (iota Kind.tc S256x256 32 [0] iota_S256x256_d0_w32) (iota Kind.tc S256x256 32 [1] iota_S256x256_d1_w32) (k0_pay24 (View.ld x1 (Rect.unit off ![1, 256, 128] inb))) qh,
      k0_pay49 (iota Kind.tc S256x256 32 [0] iota_S256x256_d0_w32) (iota Kind.tc S256x256 32 [1] iota_S256x256_d1_w32) (k0_pay24 (View.ld x1 (Rect.unit off ![1, 256, 128] inb))) (k0_pay25 (View.ld x2 (Rect.unit off ![1, 256, 128] inb'))) qh) 0 := by
  unfold Inv
  dsimp only
  refine own S z a _ _ qh r l (fun c => ?_) v fun c => ?_
  · rw [← hz ⟨a + c.val, by omega⟩]
    exact Finset.sum_congr rfl fun x _ => by rw [pay24_at, ld_rows x1 off inb _ ha h]
  · rw [pay25_at, ld_rows x2 _ _ _ ha h, hv]

omit hz hv in
theorem inv_quot {s : FVec Ideal S256x1 .f32 × FVec Ideal S256x1 .f32 × FVec Ideal S256x128 .f32} {n : ℕ} (h : Inv r l z v S a s n) :
    Ideal.div (s.2.2 (ix2 r l)) (s.2.1 (ix2 r 0)) = att S a r.val z v n := by
  obtain ⟨m, _, h2, h3⟩ := h
  rw [h2, h3, quot]
end row

/-- The window's results: each lane half holds its head's attention. -/
theorem out_val (x0 : Vec Ideal S1x256x128 .bf16) (x1 x2 : Vec Ideal S1x2048x128 .bf16) (x3 : Vec Ideal S1x8x128 .f32) (hm : ∀ i, ∃ y : ℝ, x3 i = (y : EReal)) (r : Fin 256) (l : Fin 128) (z0 z1 γ0 γ1 : ℕ → ℝ) (v : ℕ → EReal)
    (hz0 : ∀ j : Fin 2048, ∑ x : Fin 128, (if x.val < 64 then x0 (ix3 0 r x) else 0) * x1 (ix3 0 j x) = (z0 j.val : EReal))
    (hz1 : ∀ j : Fin 2048, ∑ x : Fin 128, (if 64 ≤ x.val then x0 (ix3 0 r x) else 0) * x1 (ix3 0 j x) = (z1 j.val : EReal))
    (hg0 : ∀ n : Fin 8, ∑ d : Fin 64, x0 (ix3 0 r ⟨d.val, by omega⟩) * x3 (ix3 0 n ⟨d.val, by omega⟩) = (γ0 n.val : EReal))
    (hg1 : ∀ n : Fin 8, ∑ d : Fin 64, x0 (ix3 0 r ⟨64 + d.val, by omega⟩) * x3 (ix3 0 n ⟨64 + d.val, by omega⟩) = (γ1 n.val : EReal))
    (hv : ∀ j : Fin 2048, x2 (ix3 0 j l) = v j.val) :
    out0_A_4 c i arg3 harg3 arg4 harg4 arg5 harg5 arg6 harg6 arg7 harg7 x0 x1 x2 x3 (ix3 0 r l)
      = if 64 ≤ l.val then att (chosen γ1 (i 2).val) (256 * (i 2).val) r.val z1 v (i 2).val else att (chosen γ0 (i 2).val) (256 * (i 2).val) r.val z0 v (i 2).val := by
  have hi : (i 2).val < 8 := (i 2).isLt
  have q0 : ∀ x : Fin 128, ¬ x.val < 64 → k0_pay27 x0 (ix2 r x) = 0 := fun x h => by rw [pay27_at, if_neg h]
  have q1 : ∀ x : Fin 128, ¬ 64 ≤ x.val → k0_pay64 (k0_pay20 x0) lanes (ix2 r x) = 0 := fun x h => by rw [pay64_at, if_neg h]
  simp only [← pay27_at x0] at hz0
  simp only [← pay64_at x0] at hz1
  have A0 := fun inb inb' => own_inv _ x1 x2 r l z0 v hz0 hv (chosen γ0 (i 2).val) (256 * (i 2).val) _ inb inb' (by omega) (off1 i)
  have A1 := fun inb inb' => own_inv _ x1 x2 r l z1 v hz1 hv (chosen γ1 (i 2).val) (256 * (i 2).val) _ inb inb' (by omega) (off1 i)
  have U0 := unsel0_at (i 2).val hi (k0_pay28 x0 x3) r γ0 fun n => (gate0_at x0 x3 hm r n).trans (hg0 n)
  have U1 := unsel1_at (i 2).val hi (k0_pay65 (k0_pay20 x0) lanes (k0_pay22 x3) (k0_pay23 x3)) r γ1 fun n => (gate1_at x0 x3 hm r n).trans (hg1 n)
  have V0 := fun x h => unsel0_off (i 2).val hi (k0_pay28 x0 x3) r x (Or.inl h)
  have V1 := fun (x : Fin 128) (h : 64 ≤ x.val) => unsel1_off (i 2).val hi (k0_pay65 (k0_pay20 x0) lanes (k0_pay22 x3) (k0_pay23 x3)) r x (by omega)
  have e1 := trips1 i
  have e2 := trips2 i
  have e3 := trips3 i
  have e4 := trips4 i
  dsimp only [Scf.Loop.trips] at e1 e2 e3 e4
  frame_out
  rw [pay19_at, pay62_at, e2, e1, st_k0_t2_zero, st_k0_t4_zero]
  split
  · refine inv_quot r l z1 v _ _ (loop3 c i arg3 harg3 arg4 harg4 arg5 harg5 arg6 harg6 arg7 harg7 _ x1 x2 r l z1 v hz1 hv _ _ Variants.none none _ q1 V1 U1 _ ?_ _ le_rfl)
    exact A1 _ _
  · refine inv_quot r l z0 v _ _ (loop1 c i arg3 harg3 arg4 harg4 arg5 harg5 arg6 harg6 arg7 harg7 _ x1 x2 r l z0 v hz0 hv _ _ Variants.none none _ _ _ _ _ _ _ _ _ _ q0 V0 U0 _ ?_ _ le_rfl)
    exact A0 _ _
end Cert.MobaBody
end
-- ==== Proof.MobaRef.lean ====
module

public import proofs.«01_k».proof.Proof.Gen.MobaReferenceIdeal.Run
public import proofs.«01_k».proof.Proof.MobaBody
public import Idealize.ShloMosaic.Lib.Pointwise

/-! The reference's block attention at an index. -/

@[expose] public section
set_option maxRecDepth 16384
noncomputable section
open Idealize.ShloMosaic Idealize.ShloMosaic.TcCoe Idealize.SL.Sem
namespace Cert.MobaRef
open Cert.MobaReferenceIdeal Cert.MobaReferenceIdeal.Gen Cert.MobaMath Cert.MobaTop

abbrev Arr := (⟨S32x2048x512, .bf16⟩ : BufTy).Contents (Elt Ideal)
abbrev Means := (⟨S32x8x1x512, .f32⟩ : BufTy).Contents (Elt Ideal)

def heads (x : Arr) : FVec Ideal S32x8x2048x64 .f32 :=
  transpose S32x8x2048x64 [0, 2, 1, 3] (shapeCast S32x2048x8x64 (extf (F := Ideal) (s := S32x2048x512) .f32 x bitsLt_bf16_f32) shapeCasts_S32x2048x512_S32x2048x8x64) transposes_S32x2048x8x64_S32x8x2048x64_0_2_1_3

def zs (q k : Arr) : FVec Ideal S32x8x2048x2048 .f32 :=
  Host.dotGeneral dot_S32x8x2048x64_S32x8x2048x64_S32x8x2048x2048_3_3_2_2_01_01 none (heads q) (heads k)

/-- The block of a position. -/
def blk : IVec S2048 32 := shapeCast S2048 (iotaInDim S8x256 32 0) shapeCasts_S8x256_S2048

def kms (km : Means) : FVec Ideal S32x8x8x64 .f32 :=
  transpose S32x8x8x64 [0, 2, 1, 3] (shapeCast S32x8x8x64 (α := Ideal .f32) (s := S32x8x1x512) km shapeCasts_S32x8x1x512_S32x8x8x64) transposes_S32x8x8x64_S32x8x8x64_0_2_1_3

def past : IVec S32x8x2048x8 1 :=
  broadcastInDim S32x8x2048x8 ![2, 3] bcast_S2048x8_S32x8x2048x8_2_3 (cmpi .slt (broadcastInDim S2048x8 ![0, 1] bcast_S1x8_S2048x8_0_1 (broadcastInDim S1x8 ![1] bcast_S8_S1x8_1 (iotaInDim S8 32 0))) (broadcastInDim S2048x8 ![0, 1] bcast_S2048x1_S2048x8_0_1 (broadcastInDim S2048x1 ![0] bcast_S2048_S2048x1_0 blk)))

/-- The gates of the past blocks; minus infinity elsewhere. -/
def gates (q : Arr) (km : Means) : FVec Ideal S32x8x2048x8 .f32 :=
  select past (Host.dotGeneral dot_S32x8x2048x64_S32x8x8x64_S32x8x2048x8_3_3_2_2_01_01 none (heads q) (kms km))
    (broadcastInDim S32x8x2048x8 ![] bcast_S_S32x8x2048x8 (id (constant S_ .f32 0xFF800000#32)))

def top (G : FVec Ideal S32x8x2048x8 .f32) : IVec S32x8x2048x3 32 :=
  (Host.topK S32x8x2048x3 3 (FloatOps.cmpfTotal .gt) G sliceFits_S32x8x2048x8_S32x8x2048x3).2

def valid (g : IVec S32x8x2048x3 32) : IVec S32x8x2048x3 1 :=
  cmpi .slt g (broadcastInDim S32x8x2048x3 ![0, 1, 2, 3] bcast_S1x1x2048x1_S32x8x2048x3_0_1_2_3 (broadcastInDim S1x1x2048x1 ![2, 3] bcast_S2048x1_S1x1x2048x1_2_3 (broadcastInDim S2048x1 ![0] bcast_S2048_S2048x1_0 blk)))

def hits (g : IVec S32x8x2048x3 32) : IVec S32x8x2048x3x8 1 :=
  andi (cmpi .eq (broadcastInDim S32x8x2048x3x8 ![0, 1, 2, 3, 4] bcast_S32x8x2048x3x1_S32x8x2048x3x8_0_1_2_3_4 (broadcastInDim S32x8x2048x3x1 ![0, 1, 2, 3] bcast_S32x8x2048x3_S32x8x2048x3x1_0_1_2_3 g)) (broadcastInDim S32x8x2048x3x8 ![0, 1, 2, 3, 4] bcast_S1x1x1x1x8_S32x8x2048x3x8_0_1_2_3_4 (broadcastInDim S1x1x1x1x8 ![4] bcast_S8_S1x1x1x1x8_4 (iotaInDim S8 32 0))))
    (broadcastInDim S32x8x2048x3x8 ![0, 1, 2, 3, 4] bcast_S32x8x2048x3x1_S32x8x2048x3x8_0_1_2_3_4 (broadcastInDim S32x8x2048x3x1 ![0, 1, 2, 3] bcast_S32x8x2048x3_S32x8x2048x3x1_0_1_2_3 (valid g)))

/-- Which blocks a query has chosen. -/
def picked (g : IVec S32x8x2048x3 32) : IVec S32x8x2048x8 1 :=
  Host.reduce IntOp.ori (hits g) (constantI S_ 1 0#1) reducesTo_S32x8x2048x3x8_S32x8x2048x8_d3 h_S_

/-- The keys of the query's own block up to itself. -/
def local_ : IVec S2048x2048 1 :=
  andi (cmpi .eq (broadcastInDim S2048x2048 ![0, 1] bcast_S1x2048_S2048x2048_0_1 (broadcastInDim S1x2048 ![1] bcast_S2048_S1x2048_1 blk)) (broadcastInDim S2048x2048 ![0, 1] bcast_S2048x1_S2048x2048_0_1 (broadcastInDim S2048x1 ![0] bcast_S2048_S2048x1_0 blk)))
    (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The keys a query sees. -/
def see (p : IVec S32x8x2048x8 1) : IVec S32x8x2048x2048 1 :=
  ori (shapeCast S32x8x2048x2048 (broadcastInDim S32x8x2048x8x256 ![0, 1, 2, 3, 4] bcast_S32x8x2048x8x1_S32x8x2048x8x256_0_1_2_3_4 (broadcastInDim S32x8x2048x8x1 ![0, 1, 2, 3] bcast_S32x8x2048x8_S32x8x2048x8x1_0_1_2_3 p)) shapeCasts_S32x8x2048x8x256_S32x8x2048x2048)
    (broadcastInDim S32x8x2048x2048 ![0, 1, 2, 3] bcast_S1x1x2048x2048_S32x8x2048x2048_0_1_2_3 (broadcastInDim S1x1x2048x2048 ![2, 3] bcast_S2048x2048_S1x1x2048x2048_2_3 local_))

/-- The scores of the keys seen; minus infinity elsewhere. -/
def masked (p : IVec S32x8x2048x8 1) (Z : FVec Ideal S32x8x2048x2048 .f32) : FVec Ideal S32x8x2048x2048 .f32 :=
  select (see p) Z (broadcastInDim S32x8x2048x2048 ![] bcast_S_S32x8x2048x2048 (id (constant S_ .f32 0xFF800000#32)))

/-- A row's greatest score. -/
def rowmax (X : FVec Ideal S32x8x2048x2048 .f32) : FVec Ideal S32x8x2048 .f32 :=
  Host.reduce FloatOps.maximumf X (constant S_ .f32 0xFF800000#32) reducesTo_S32x8x2048x2048_S32x8x2048_d3 h_S_

def most (X : FVec Ideal S32x8x2048x2048 .f32) : FVec Ideal S32x8x2048 .f32 :=
  maximumf (broadcastInDim S32x8x2048 ![] bcast_S_S32x8x2048 (constant S_ .f32 0xFF800000#32)) (rowmax X)

def exps (X : FVec Ideal S32x8x2048x2048 .f32) : FVec Ideal S32x8x2048x2048 .f32 :=
  Host.exp (subf X (broadcastInDim S32x8x2048x2048 ![0, 1, 2, 3] bcast_S32x8x2048x1_S32x8x2048x2048_0_1_2_3 (broadcastInDim S32x8x2048x1 ![0, 1, 2] bcast_S32x8x2048_S32x8x2048x1_0_1_2 (most X))))

def probs (E : FVec Ideal S32x8x2048x2048 .f32) : FVec Ideal S32x8x2048x2048 .f32 :=
  Host.divf E (broadcastInDim S32x8x2048x2048 ![0, 1, 2, 3] bcast_S32x8x2048x1_S32x8x2048x2048_0_1_2_3 (broadcastInDim S32x8x2048x1 ![0, 1, 2] bcast_S32x8x2048_S32x8x2048x1_0_1_2 (Host.reduceAdd E (constant S_ .f32 0x00000000#32) reducesTo_S32x8x2048x2048_S32x8x2048_d3 h_S_)))

def outs (P : FVec Ideal S32x8x2048x2048 .f32) (v : Arr) : FVec Ideal S32x2048x512 .bf16 :=
  truncf .bf16 (shapeCast S32x2048x512 (transpose S32x2048x8x64 [0, 2, 1, 3] (Host.dotGeneral dot_S32x8x2048x2048_S32x8x2048x64_S32x8x2048x64_3_2_2_3_01_01 none P (heads v))
    transposes_S32x8x2048x64_S32x2048x8x64_0_2_1_3) shapeCasts_S32x2048x8x64_S32x2048x512) bitsLt_bf16_f32

/-- The reference's result of the four arguments. -/
def refv (q k v : Arr) (km : Means) : FVec Ideal S32x2048x512 .bf16 :=
  outs (probs (exps (masked (picked (top (gates q km))) (zs q k)))) v

theorem res_eq (m : (ℓ : Loc nD τ sig) → Buf (Elt Ideal) ℓ) (c : Dev nD) :
    Value.res_main_v69 m c = refv (m ((c.tc : Thread nD τ).loc main_arg0)) (m ((c.tc : Thread nD τ).loc main_arg1)) (m ((c.tc : Thread nD τ).loc main_arg2)) (m ((c.tc : Thread nD τ).loc main_arg3)) := rfl

theorem heads_at (x : Arr) (b : Fin 32) (hd : Fin 8) (t : Fin 2048) (d : Fin 64) :
    heads x (ix4 b hd t d) = x (ix3 b t ⟨hd.val * 64 + d.val, by omega⟩) := by
  pointwise [heads]

theorem zs_at (q k : Arr) (b : Fin 32) (hd : Fin 8) (t s : Fin 2048) :
    zs q k (ix4 b hd t s) = ∑ d : Fin 64, heads q (ix4 b hd t d) * heads k (ix4 b hd s d) := by
  pointwise [zs]

theorem kms_at (km : Means) (b : Fin 32) (hd n : Fin 8) (d : Fin 64) :
    kms km (ix4 b hd n d) = km (ix4 b n 0 ⟨hd.val * 64 + d.val, by omega⟩) := by
  pointwise [kms]

theorem blk_at (t : Fin 2048) : blk (ix1 t) = BitVec.ofNat 32 (t.val / 256) := by
  pointwise [blk]

theorem past_at (b : Fin 32) (hd : Fin 8) (t : Fin 2048) (n : Fin 8) :
    past (ix4 b hd t n) = BitVec.ofBool (decide (n.val < t.val / 256)) := by
  have : past (ix4 b hd t n) = IntOp.cmpi .slt (BitVec.ofNat 32 n.val) (blk (ix1 t)) := by
    pointwise [past]
  rw [this, blk_at]
  exact WordCmp.cmpi_slt_ofNat (by omega) (by omega)

theorem gates_at (q : Arr) (km : Means) (b : Fin 32) (hd : Fin 8) (t : Fin 2048) (n : Fin 8) :
    gates q km (ix4 b hd t n) = if n.val < t.val / 256 then ∑ d : Fin 64, heads q (ix4 b hd t d) * kms km (ix4 b hd n d) else ⊥ := by
  have h : Ideal.ofBits .f32 0xFF800000#32 = ⊥ := by simp [Ideal.ofBits, Ideal.ieee]
  have : gates q km (ix4 b hd t n) = Scalar.select (past (ix4 b hd t n)) (∑ d : Fin 64, heads q (ix4 b hd t d) * kms km (ix4 b hd n d)) (Ideal.ofBits .f32 0xFF800000#32) := by
    pointwise [gates, id]
  rw [this, past_at, SbBody.sel, h]

/-- The position that the sort of a row puts at a place. -/
def place (G : FVec Ideal S32x8x2048x8 .f32) (j : S32x8x2048x8.Idx) : BitVec 32 :=
  iotaInDim S32x8x2048x8 32 3 (j.along 3 (sortedFrom (fun k k' => Ideal.cmp .ogt (G (j.along 3 k)) (G (j.along 3 k')) == 1#1) (j 3)))

theorem along_at (b : Fin 32) (hd : Fin 8) (t : Fin 2048) (n : Fin 8) (k : Fin (S32x8x2048x8.size 3)) :
    (ix4 b hd t n : S32x8x2048x8.Idx).along 3 k = (ix4 b hd t (k : Fin 8) : S32x8x2048x8.Idx) := by
  funext a
  match a with
  | ⟨0, _⟩ => rfl
  | ⟨1, _⟩ => rfl
  | ⟨2, _⟩ => rfl
  | ⟨3, _⟩ => rfl

theorem top_place (G : FVec Ideal S32x8x2048x8 .f32) (i : S32x8x2048x3.Idx) :
    top G i = place G fun a => ⟨0 + (i (a.cast rfl)).val, Nat.lt_of_lt_of_le (Nat.add_lt_add_left (i _).isLt _) (sliceFits_S32x8x2048x8_S32x8x2048x3.2 a)⟩ := rfl

theorem top_at (G : FVec Ideal S32x8x2048x8 .f32) (b : Fin 32) (hd : Fin 8) (t : Fin 2048) (τ : Fin 3) :
    top G (ix4 b hd t τ) = BitVec.ofNat 32 (sortedFrom (fun k k' : Fin 8 => decide (G (ix4 b hd t k') < G (ix4 b hd t k))) ⟨τ.val, by omega⟩).val := by
  have e : (fun k k' : Fin 8 => Ideal.cmp .ogt (G (ix4 b hd t k)) (G (ix4 b hd t k')) == 1#1) = fun k k' : Fin 8 => decide (G (ix4 b hd t k') < G (ix4 b hd t k)) := by
    funext k k'
    rw [Bool.eq_iff_iff, beq_iff_eq, decide_eq_true_iff]
    exact WordCmp.ofBool_decide_eq_one_iff _
  rw [← e, top_place]
  refine (congrArg (place G) (funext fun a => (match a with
    | ⟨0, _⟩ => Fin.ext (Nat.zero_add _)
    | ⟨1, _⟩ => Fin.ext (Nat.zero_add _)
    | ⟨2, _⟩ => Fin.ext (Nat.zero_add _)
    | ⟨3, _⟩ => Fin.ext (Nat.zero_add _)) : _ = (ix4 b hd t (⟨τ.val, by omega⟩ : Fin 8) : S32x8x2048x8.Idx))).trans ?_
  unfold place
  simp only [along_at]
  rfl

theorem fold_or {n : ℕ} (f : Fin n → BitVec 1) : Finset.fold IntOp.ori 0#1 f Finset.univ = 1#1 ↔ ∃ τ, f τ = 1#1 := by
  have := Finset.fold_op_rel_iff_or (op := IntOp.ori) (r := fun _ w => w = 1#1) (f := f) (b := 0#1) (s := Finset.univ) (fun {x y z} => IntOp.ori_eq_one) (c := 0#1)
  simpa using this

theorem hits_at (g : IVec S32x8x2048x3 32) (b : Fin 32) (hd : Fin 8) (t : Fin 2048) (τ : Fin 3) (n a : Fin 8) (h : g (ix4 b hd t τ) = BitVec.ofNat 32 a.val) :
    hits g (ix5 b hd t τ n) = 1#1 ↔ a = n ∧ a.val < t.val / 256 := by
  have : hits g (ix5 b hd t τ n) = IntOp.andi (IntOp.cmpi .eq (g (ix4 b hd t τ)) (BitVec.ofNat 32 n.val)) (IntOp.cmpi .slt (g (ix4 b hd t τ)) (blk (ix1 t))) := by
    pointwise [hits, valid]
  rw [this, IntOp.andi_eq_one, blk_at, h, WordCmp.cmpi_slt_ofNat (by omega) (by omega), WordCmp.cmpi_eq_ofNat (by omega) (by omega), WordCmp.ofBool_decide_eq_one_iff, WordCmp.ofBool_decide_eq_one_iff, Fin.ext_iff]

theorem picked_at (g : IVec S32x8x2048x3 32) (b : Fin 32) (hd : Fin 8) (t : Fin 2048) (n : Fin 8) :
    picked g (ix4 b hd t n) = Finset.fold IntOp.ori 0#1 (fun τ : Fin 3 => hits g (ix5 b hd t τ n)) Finset.univ := by
  pointwise [picked]

theorem see_at (p : IVec S32x8x2048x8 1) (b : Fin 32) (hd : Fin 8) (t j : Fin 2048) :
    see p (ix4 b hd t j) = 1#1 ↔ p (ix4 b hd t ⟨j.val / 256, by omega⟩) = 1#1 ∨ (j.val / 256 = t.val / 256 ∧ j.val ≤ t.val) := by
  have : see p (ix4 b hd t j) = IntOp.ori (p (ix4 b hd t ⟨j.val / 256, by omega⟩)) (IntOp.andi (IntOp.cmpi .eq (blk (ix1 j)) (blk (ix1 t))) (IntOp.cmpi .sle (BitVec.ofNat 32 j.val) (BitVec.ofNat 32 t.val))) := by
    pointwise [see, local_]
  rw [this, IntOp.ori_eq_one, IntOp.andi_eq_one, blk_at, blk_at, WordCmp.cmpi_sle_ofNat (by omega) (by omega), WordCmp.cmpi_eq_ofNat (by omega) (by omega), WordCmp.ofBool_decide_eq_one_iff, WordCmp.ofBool_decide_eq_one_iff]

open Classical in
theorem masked_at (p : IVec S32x8x2048x8 1) (Z : FVec Ideal S32x8x2048x2048 .f32) (b : Fin 32) (hd : Fin 8) (t j : Fin 2048) :
    masked p Z (ix4 b hd t j) = if p (ix4 b hd t ⟨j.val / 256, by omega⟩) = 1#1 ∨ (j.val / 256 = t.val / 256 ∧ j.val ≤ t.val) then Z (ix4 b hd t j) else ⊥ := by
  have h : Ideal.ofBits .f32 0xFF800000#32 = ⊥ := by simp [Ideal.ofBits, Ideal.ieee]
  have : masked p Z (ix4 b hd t j) = Scalar.select (see p (ix4 b hd t j)) (Z (ix4 b hd t j)) (Ideal.ofBits .f32 0xFF800000#32) := by
    pointwise [masked, id]
  have e : see p (ix4 b hd t j) = BitVec.ofBool (decide (see p (ix4 b hd t j) = 1#1)) := by
    generalize see p (ix4 b hd t j) = w
    by_cases hw : w = 1#1
    · rw [decide_eq_true hw, hw]
      rfl
    · rw [decide_eq_false hw]
      revert hw
      revert w
      decide
  rw [this, h, e, SbBody.sel]
  exact if_congr (see_at p b hd t j) rfl rfl

theorem maxf_at (x y : FVec Ideal S32x8x2048 .f32) (i : S32x8x2048.Idx) : maximumf x y i = max (x i) (y i) := rfl

theorem floor_at (i : S32x8x2048.Idx) : broadcastInDim S32x8x2048 ![] bcast_S_S32x8x2048 (constant (F := Ideal) S_ .f32 0xFF800000#32) i = Ideal.ofBits .f32 0xFF800000#32 := rfl

theorem most_at (X : FVec Ideal S32x8x2048x2048 .f32) (i : S32x8x2048.Idx) : most X i = max (Ideal.ofBits .f32 0xFF800000#32) (rowmax X i) := by
  unfold most
  rw [maxf_at, floor_at]

theorem bits_bot : Ideal.ofBits .f32 0xFF800000#32 = ⊥ := by simp [Ideal.ofBits, Ideal.ieee]

/-- The operand index of a row's element. -/
theorem lift_at (hr : S32x8x2048x2048.Reduces [3] S32x8x2048) (b : Fin 32) (hd : Fin 8) (t : Fin 2048) (j : Fin (S32x8x2048x2048.size 3)) :
    hr.lift (ix3 b hd t) j = (ix4 b hd t (j : Fin 2048) : S32x8x2048x2048.Idx) := by
  funext a
  match a with
  | ⟨0, _⟩ => rfl
  | ⟨1, _⟩ => rfl
  | ⟨2, _⟩ => rfl
  | ⟨3, _⟩ => rfl

/-- The greatest of a row that has no plus infinity and some real is a real. -/
theorem most_real (X : FVec Ideal S32x8x2048x2048 .f32) (b : Fin 32) (hd : Fin 8) (t : Fin 2048) (h1 : ∀ j : Fin 2048, X (ix4 b hd t j) ≠ ⊤) (h2 : ∃ j : Fin 2048, X (ix4 b hd t j) ≠ ⊥) :
    ∃ M : ℝ, most X (ix3 b hd t) = (M : EReal) := by
  have hr : S32x8x2048x2048.Reduces [3] S32x8x2048 := by decide
  obtain ⟨j, hj⟩ := h2
  obtain ⟨M, hM⟩ := fold_real (n := S32x8x2048x2048.size 3) (Ideal.ofBits .f32 0xFF800000#32) (by rw [bits_bot]; exact bot_ne_top) (X ∘ hr.lift (ix3 b hd t))
    (fun k => by rw [Function.comp_apply, lift_at]; exact h1 _) (Or.inr ⟨j, fun hb => hj ((congrArg X (lift_at hr b hd t j)).symm.trans hb)⟩)
  refine ⟨M, ?_⟩
  have e : rowmax X (ix3 b hd t) = _ := Host.reduce_eq_fold_single _ _ _ _ hr _ _
  rw [most_at, bits_bot, e]
  refine (bot_sup_eq _).trans ?_
  exact hM

theorem exps_at (X : FVec Ideal S32x8x2048x2048 .f32) (b : Fin 32) (hd : Fin 8) (t j : Fin 2048) :
    exps X (ix4 b hd t j) = Ideal.exp (X (ix4 b hd t j) - most X (ix3 b hd t)) := by
  pointwise [exps]

theorem probs_at (E : FVec Ideal S32x8x2048x2048 .f32) (b : Fin 32) (hd : Fin 8) (t j : Fin 2048) :
    probs E (ix4 b hd t j) = Ideal.div (E (ix4 b hd t j)) (∑ i : Fin 2048, E (ix4 b hd t i)) := by
  pointwise [probs]

theorem outs_at (P : FVec Ideal S32x8x2048x2048 .f32) (v : Arr) (b : Fin 32) (hd : Fin 8) (t : Fin 2048) (d : Fin 64) :
    outs P v (ix3 b t ⟨hd.val * 64 + d.val, by omega⟩) = ∑ s : Fin 2048, P (ix4 b hd t s) * heads v (ix4 b hd s d) := by
  pointwise [outs]

open Classical in
/-- The reference's row: the attention over the chosen blocks and the query's own. -/
theorem refv_row (q k v : Arr) (km : Means) (b : Fin 32) (hd : Fin 8) (t : Fin 2048) (d : Fin 64) (z γ : ℕ → ℝ) (w : ℕ → EReal)
    (hz : ∀ s : Fin 2048, ∑ d : Fin 64, q (ix3 b t ⟨hd.val * 64 + d.val, by omega⟩) * k (ix3 b s ⟨hd.val * 64 + d.val, by omega⟩) = (z s.val : EReal))
    (hg : ∀ n : Fin 8, ∑ d : Fin 64, q (ix3 b t ⟨hd.val * 64 + d.val, by omega⟩) * km (ix4 b n 0 ⟨hd.val * 64 + d.val, by omega⟩) = (γ n.val : EReal))
    (hw : ∀ s : Fin 2048, v (ix3 b s ⟨hd.val * 64 + d.val, by omega⟩) = w s.val) :
    refv q k v km (ix3 b t ⟨hd.val * 64 + d.val, by omega⟩) = att (chosen γ (t.val / 256)) (256 * (t.val / 256)) (t.val % 256) z w (t.val / 256) := by
  have hp : ∀ n : Fin 8, picked (top (gates q km)) (ix4 b hd t n) = 1#1 ↔ chosen γ (t.val / 256) n.val := fun n => by
    rw [picked_at, fold_or, ← chosen_iff γ (t.val / 256) (fun m => gates q km (ix4 b hd t m)) (fun m => by
      rw [gates_at, ← hg]
      exact if_congr Iff.rfl (Finset.sum_congr rfl fun d _ => by rw [heads_at, kms_at]) rfl) n]
    constructor
    · rintro ⟨τ, h⟩
      have h' := (hits_at _ b hd t τ n _ (top_at _ b hd t τ)).1 h
      exact ⟨⟨_, τ.isLt, h'.1⟩, h'.1 ▸ h'.2⟩
    · rintro ⟨⟨τ, hτ, h⟩, h'⟩
      exact ⟨⟨τ.val, hτ⟩, (hits_at _ b hd t ⟨τ.val, hτ⟩ n _ (top_at _ b hd t ⟨τ.val, hτ⟩)).2 ⟨h, h.symm ▸ h'⟩⟩
  have hx : ∀ j : Fin 2048, masked (picked (top (gates q km))) (zs q k) (ix4 b hd t j) = if chosen γ (t.val / 256) (j.val / 256) ∨ (j.val / 256 = t.val / 256 ∧ j.val ≤ 256 * (t.val / 256) + t.val % 256) then (z j.val : EReal) else ⊥ := fun j => by
    rw [masked_at, zs_at, ← hz]
    refine if_congr (or_congr (hp _) ?_) (Finset.sum_congr rfl fun d _ => by rw [heads_at, heads_at]) rfl
    rw [Nat.div_add_mod]
  obtain ⟨M, hM⟩ := most_real (masked (picked (top (gates q km))) (zs q k)) b hd t (fun j => by rw [hx]; split <;> simp)
    ⟨t, by rw [hx, if_pos (Or.inr ⟨rfl, by rw [Nat.div_add_mod]⟩)]; simp⟩
  show outs _ v _ = _
  rw [outs_at, ← softmax (chosen γ (t.val / 256)) (t.val / 256) (t.val % 256) (by omega) (Nat.mod_lt _ (by omega)) (fun n h => chosen_lt h) z w _ (fun j => v (ix3 b j ⟨hd.val * 64 + d.val, by omega⟩)) hx hw M]
  refine Finset.sum_congr rfl fun j _ => ?_
  rw [heads_at, probs_at, exps_at, hM]
  simp only [exps_at, hM]

end Cert.MobaRef
end
-- ==== Proof.MobaVal.lean ====
module

public import proofs.«01_k».proof.Proof.SbVal
public import proofs.«01_k».proof.Proof.MobaLoop
public import proofs.«01_k».proof.Proof.MobaRef
public import proofs.«01_k».proof.Proof.Gen.MobaKernelIdeal.Value
public import Idealize.ShloMosaic.Lib.Pipeline.Covers
public import Idealize.ShloMosaic.Lib.Pipeline.ValueKit

/-! The array of results of the block attention's kernel is the reference's term. -/

@[expose] public section
set_option maxRecDepth 16384
noncomputable section
open Idealize.ShloMosaic Idealize.ShloMosaic.TcCoe Idealize.SL.Sem
open Idealize.ShloMosaic.Pipeline (Dat)
namespace Cert.MobaVal
open Cert.MobaKernelIdeal Cert.MobaKernelIdeal.Gen Cert.MobaMath Cert.MobaTop Cert.MobaRef
open Cert.SbVal (sum_lo sum_hi)
variable (m : (ℓ : Loc nD τ sig) → Buf (Elt Ideal) ℓ)

theorem idx : ∀ t : Fin cfg0.N, win0_0.index t = ![(grid0.coords t 0).val, (grid0.coords t 2).val, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val]
    ∧ win0_4.index t = ![(grid0.coords t 0).val, (grid0.coords t 2).val, (grid0.coords t 1).val] :=
  (by decide +kernel : ∀ t : Fin grid0.N, _)

set_option maxHeartbeats 2000000 in
theorem V0 (c : Dev nD) : (V m c main_v0 : FVec Ideal S32x8x512 .f32) = shapeCast S32x8x512 (m ((c : Thread nD τ).loc main_arg3)) shapeCasts_S32x8x1x512_S32x8x512 := by
  unfold V
  after_results_simp <;> rfl

theorem means_at (a : FVec Ideal S32x8x1x512 .f32) (b : Fin 32) (n : Fin 8) (e : Fin 512) : (shapeCast S32x8x512 a shapeCasts_S32x8x1x512_S32x8x512 : FVec Ideal S32x8x512 .f32) (ix3 b n e) = a (ix4 b n 0 e) := by
  pointwise []

theorem v0_at (c : Dev nD) (b : Fin 32) (n : Fin 8) (e : Fin 512) : (V m c main_v0 : FVec Ideal S32x8x512 .f32) (ix3 b n e) = (m ((c : Thread nD τ).loc main_arg3)) (ix4 b n 0 e) :=
  (congrFun (V0 m c) _).trans (means_at _ b n e)

section core
variable (q k v : Arr) (km : Means) (hq : ∀ i, ∃ r : ℝ, q i = (r : EReal)) (hk : ∀ i, ∃ r : ℝ, k i = (r : EReal)) (hm : ∀ i, ∃ r : ℝ, km i = (r : EReal))

/-- The gate of a query with a block, in one head: a real. -/
def gate (b : Fin 32) (hd : Fin 8) (t : Fin 2048) (n : ℕ) : ℝ :=
  if hn : n < 8 then ∑ d : Fin 64, (q (ix3 b t ⟨hd.val * 64 + d.val, by omega⟩)).toReal * (km (ix4 b ⟨n, hn⟩ 0 ⟨hd.val * 64 + d.val, by omega⟩)).toReal else 0

include hq hm in
theorem gate_eq (b : Fin 32) (hd : Fin 8) (t : Fin 2048) (n : Fin 8) :
    ∑ d : Fin 64, q (ix3 b t ⟨hd.val * 64 + d.val, by omega⟩) * km (ix4 b n 0 ⟨hd.val * 64 + d.val, by omega⟩) = (gate q km b hd t n.val : EReal) := by
  unfold gate
  rw [dif_pos n.isLt, SbMath.coe_sum]
  refine Finset.sum_congr rfl fun d _ => ?_
  obtain ⟨a, ha⟩ := hq (ix3 b t ⟨hd.val * 64 + d.val, by omega⟩)
  obtain ⟨a', ha'⟩ := hm (ix4 b n 0 ⟨hd.val * 64 + d.val, by omega⟩)
  rw [ha, ha', EReal.coe_mul]
  rfl

include hq hk hm in
/-- One window of results, from its four blocks, is the reference's. -/
theorem core (c : Dev nD) (i : grid0.Coords) (arg3 : Memref sig .tc .vmem S1x256x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x8x128 .f32) (harg6 : arg6.IsWhole) (arg7 : Memref sig .tc .vmem S1x256x128 .bf16) (harg7 : arg7.IsWhole)
    (x0 : Vec Ideal S1x256x128 .bf16) (x1 x2 : Vec Ideal S1x2048x128 .bf16) (x3 : Vec Ideal S1x8x128 .f32) (b : Fin 32) (hp : Fin 4)
    (h0 : ∀ (r : Fin 256) (x : Fin 128), x0 (ix3 0 r x) = q (ix3 b ⟨(i 2).val * 256 + r.val, by have : (i 2).val < 8 := (i 2).isLt; omega⟩ ⟨hp.val * 128 + x.val, by omega⟩))
    (h1 : ∀ (r : Fin 2048) (x : Fin 128), x1 (ix3 0 r x) = k (ix3 b r ⟨hp.val * 128 + x.val, by omega⟩))
    (h2 : ∀ (r : Fin 2048) (x : Fin 128), x2 (ix3 0 r x) = v (ix3 b r ⟨hp.val * 128 + x.val, by omega⟩))
    (h3 : ∀ (n : Fin 8) (x : Fin 128), x3 (ix3 0 n x) = km (ix4 b n 0 ⟨hp.val * 128 + x.val, by omega⟩))
    (r : Fin 256) (l : Fin 128) :
    out0_A_4 c i arg3 harg3 arg4 harg4 arg5 harg5 arg6 harg6 arg7 harg7 x0 x1 x2 x3 (ix3 0 r l)
      = refv q k v km (ix3 b ⟨(i 2).val * 256 + r.val, by have : (i 2).val < 8 := (i 2).isLt; omega⟩ ⟨hp.val * 128 + l.val, by omega⟩) := by
  have hi : (i 2).val < 8 := (i 2).isLt
  have ed : ((i 2).val * 256 + r.val) / 256 = (i 2).val := by omega
  have em : ((i 2).val * 256 + r.val) % 256 = r.val := by omega
  have hx : ∀ j, ∃ y : ℝ, x3 j = (y : EReal) := fun j => by
    idx_vars j
    have : j0 = 0 := Subsingleton.elim _ _
    subst this
    rw [h3]
    exact hm _
  refine (MobaBody.out_val c i arg3 harg3 arg4 harg4 arg5 harg5 arg6 harg6 arg7 harg7 x0 x1 x2 x3 hx r l
    (SbVal.score q k b ⟨2 * hp.val, by omega⟩ ⟨(i 2).val * 256 + r.val, by omega⟩) (SbVal.score q k b ⟨2 * hp.val + 1, by omega⟩ ⟨(i 2).val * 256 + r.val, by omega⟩)
    (gate q km b ⟨2 * hp.val, by omega⟩ ⟨(i 2).val * 256 + r.val, by omega⟩) (gate q km b ⟨2 * hp.val + 1, by omega⟩ ⟨(i 2).val * 256 + r.val, by omega⟩)
    (SbVal.col v b ⟨hp.val * 128 + l.val, by omega⟩) (fun j => ?_) (fun j => ?_) (fun n => ?_) (fun n => ?_) fun j => ?_).trans ?_
  · simp only [ite_mul, zero_mul]
    rw [sum_lo fun x => x0 (ix3 0 r x) * x1 (ix3 0 j x), ← SbVal.score_eq q k hq hk]
    refine Finset.sum_congr rfl fun d _ => ?_
    rw [h0, h1]
    congr 4 <;> (dsimp only; omega)
  · simp only [ite_mul, zero_mul]
    rw [sum_hi fun x => x0 (ix3 0 r x) * x1 (ix3 0 j x), ← SbVal.score_eq q k hq hk]
    refine Finset.sum_congr rfl fun d _ => ?_
    rw [h0, h1]
    congr 4 <;> (dsimp only; omega)
  · rw [← gate_eq q km hq hm]
    refine Finset.sum_congr rfl fun d _ => ?_
    rw [h0, h3]
    congr 4 <;> (dsimp only; omega)
  · rw [← gate_eq q km hq hm]
    refine Finset.sum_congr rfl fun d _ => ?_
    rw [h0, h3]
    congr 4 <;> (dsimp only; omega)
  · rw [h2, ← SbVal.col_eq]
  · have row := fun (hd : Fin 8) (d : Fin 64) => refv_row q k v km b hd ⟨(i 2).val * 256 + r.val, by omega⟩ d _ _ _ (SbVal.score_eq q k hq hk b hd _) (gate_eq q km hq hm b hd _) (SbVal.col_eq v b _)
    dsimp only at row
    simp only [ed, em] at row
    split
    · rename_i hl
      have e : (⟨hp.val * 128 + l.val, by omega⟩ : Fin 512) = ⟨(2 * hp.val + 1) * 64 + (l.val - 64), by omega⟩ := Fin.ext (by dsimp only; omega)
      rw [e]
      exact (row ⟨2 * hp.val + 1, by omega⟩ ⟨l.val - 64, by omega⟩).symm
    · rename_i hl
      have e : (⟨hp.val * 128 + l.val, by omega⟩ : Fin 512) = ⟨(2 * hp.val) * 64 + l.val, by omega⟩ := Fin.ext (by dsimp only; omega)
      rw [e]
      exact (row ⟨2 * hp.val, by omega⟩ ⟨l.val, by omega⟩).symm
end core

/-- The output window's block index. -/
theorem map4 : ∀ i : grid0.Coords, cc0_transform_4 i = ![(i 0).val, (i 2).val, (i 1).val] := by decide +kernel

/-- The grid point of given coordinates. -/
def pt (a : Fin 32) (b : Fin 4) (d : Fin 8) : grid0.Coords := fun x => match x with | 0 => a | 1 => b | 2 => d

/-- The output window's block index at a point of given coordinates. -/
theorem map4_at (a : Fin 32) (b : Fin 4) (d : Fin 8) :
    win0_4.indexMap (pt a b d) = ![a.val, d.val, b.val] := map4 (pt a b d)

/-- The output window's blocks reach every element of the array. -/
theorem covers : win0_4.Covers :=
  win0_4.covers_of_indexMap_surj rfl (by decide) fun β =>
    ⟨pt ⟨(β 0).val, (β 0).isLt⟩ ⟨(β 2).val, (β 2).isLt⟩ ⟨(β 1).val, (β 1).isLt⟩, fun a => by
      rw [map4_at]
      match a with
      | 0 => rfl
      | 1 => rfl
      | 2 => rfl⟩

/-- The whole array of results. -/
theorem final (c : Dev nD) (hq : ∀ i, ∃ r : ℝ, m ((c : Thread nD τ).loc main_arg0) i = (r : EReal)) (hk : ∀ i, ∃ r : ℝ, m ((c : Thread nD τ).loc main_arg1) i = (r : EReal))
    (hm : ∀ i, ∃ r : ℝ, m ((c : Thread nD τ).loc main_arg3) i = (r : EReal)) :
    (dats m 0 c).arrAt 4 cfg0.N
      = refv (m ((c : Thread nD τ).loc main_arg0)) (m ((c : Thread nD τ).loc main_arg1)) (m ((c : Thread nD τ).loc main_arg2)) (m ((c : Thread nD τ).loc main_arg3)) := by
  refine (dats m 0 c).arrAt_eq_of_covers 4 _ covers fun t _ y => ?_
  blk_simp
  rw [after0_4]
  idx_vars y
  have h0 : (grid0.coords t 0).val < 32 := (grid0.coords t 0).isLt
  have h1 : (grid0.coords t 1).val < 4 := (grid0.coords t 1).isLt
  have h2 : (grid0.coords t 2).val < 8 := (grid0.coords t 2).isLt
  have y0e : y0 = 0 := Subsingleton.elim _ _
  subst y0e
  unfold outsAt0
  refine (core _ _ (m ((c : Thread nD τ).loc main_arg2)) _ hq hk hm c (grid0.coords t) _ _ _ _ _ _ _ _ _ _ (iblk m c 0 t) (iblk m c 1 t) (iblk m c 2 t) (iblk m c 3 t) ⟨(grid0.coords t 0).val, h0⟩ ⟨(grid0.coords t 1).val, h1⟩
    (fun r x => ?_) (fun r x => ?_) (fun r x => ?_) (fun n x => ?_) y1 y2).trans ?_
  · blk_ext [iblk, V, idx t]
  · blk_ext [iblk, V, idx t]
  · blk_ext [iblk, V, idx t]
  · refine Eq.trans ?_ (v0_at m c _ n _)
    blk_point [iblk, idx t]
  · blk_ext [iblk, V, idx t]

end Cert.MobaVal
end
-- ==== Proof.MobaClaim.lean ====
module

public import proofs.«01_k».proof.Defs
public import proofs.«01_k».proof.Proof.MobaFin
public import proofs.«01_k».proof.Proof.MobaVal

/-! The value claim of the block attention's call. -/

@[expose] public section
set_option maxRecDepth 16384
noncomputable section
open Idealize.ShloMosaic Idealize.ShloMosaic.TcCoe Idealize.SL.Sem
namespace Cert.MobaClaim

/-- On finite queries, keys and means the block attention's kernel and its reference return the same array. -/
theorem algebraic : Cert.algebraic_MobaKernelIdeal_MobaReferenceIdeal_pre_finite_qk_means
    (hMobaKernelIdeal := Cert.MobaKernelIdeal.Gen.facts) (hMobaReferenceIdeal := Cert.MobaReferenceIdeal.Gen.facts) (hPre_finite_qk_means := Cert.MobaFin.facts1) := by
  intro m g m' g' hpre hm
  refine ⟨fun c => MobaRef.refv (m ((c.tc : Thread _ _).loc Cert.MobaKernelIdeal.main_arg0)) (m ((c.tc : Thread _ _).loc Cert.MobaKernelIdeal.main_arg1)) (m ((c.tc : Thread _ _).loc Cert.MobaKernelIdeal.main_arg2)) (m ((c.tc : Thread _ _).loc Cert.MobaKernelIdeal.main_arg3)), ?_, ?_⟩
  · refine (θ_run _ _ _).mono (fun r h c => ?_) (Cert.MobaKernelIdeal.Value.run_blocks m g)
    obtain ⟨h0, h1⟩ := h c
    have hf := MobaFin.fin_qk_means _ _ _ _ (hpre c)
    exact ⟨h0.trans (MobaVal.final m c hf.1 hf.2.1 hf.2.2), h1⟩
  · refine (θ_run _ _ _).mono (fun r h c => ?_) (Cert.MobaReferenceIdeal.Value.run m' g')
    obtain ⟨h0, h1⟩ := h c
    refine ⟨h0.trans ?_, h1⟩
    rw [MobaRef.res_eq]
    obtain ⟨e0, e1, e2, e3⟩ := hm c
    rw [e0, e1, e2, e3]

end Cert.MobaClaim
end
-- ==== Proof.lean ====
module

public import proofs.«01_k».proof.Defs
public import proofs.«01_k».proof.Proof.Frames
public import proofs.«01_k».proof.Proof.SbClaim
public import proofs.«01_k».proof.Proof.OutClaim
public import proofs.«01_k».proof.Proof.InClaim
public import proofs.«01_k».proof.Proof.MobaClaim

@[expose] public section
noncomputable section
namespace Cert.Proof
open Idealize.ShloMosaic Idealize.SL.Sem

/-- Everything that the certificate claims. -/
theorem claim : Cert.Claim :=
  ⟨Cert.Kernel.Gen.facts, Cert.KernelIdeal.Gen.facts, Cert.ReferenceIdeal.Gen.facts,
    Cert.OutKernel.Gen.facts, Cert.OutKernelIdeal.Gen.facts, Cert.OutReferenceIdeal.Gen.facts,
    Cert.InKernel.Gen.facts, Cert.InKernelIdeal.Gen.facts, Cert.InReferenceIdeal.Gen.facts,
    Cert.MobaKernel.Gen.facts, Cert.MobaKernelIdeal.Gen.facts, Cert.MobaReferenceIdeal.Gen.facts, Cert.SbFin.facts1, Cert.MobaFin.facts1,
    fun m g _ => Cert.Kernel.Gen.frame m g,
    fun m g _ => Cert.KernelIdeal.Gen.frame m g,
    fun m g _ => Cert.KernelIdeal.Gen.frame m g,
    Cert.Frames.ofReferenceIdeal,
    fun m g _ => Cert.Frames.ofReferenceIdeal m g trivial,
    fun m g _ => Cert.OutKernel.Gen.frame m g,
    fun m g _ => Cert.OutKernelIdeal.Gen.frame m g,
    Cert.Frames.ofOutReferenceIdeal,
    fun m g _ => Cert.InKernel.Gen.frame m g,
    fun m g _ => Cert.InKernelIdeal.Gen.frame m g,
    Cert.Frames.ofInReferenceIdeal,
    fun m g _ => Cert.MobaKernel.Gen.frame m g,
    fun m g _ => Cert.MobaKernelIdeal.Gen.frame m g,
    fun m g _ => Cert.MobaKernelIdeal.Gen.frame m g,
    Cert.Frames.ofMobaReferenceIdeal,
    fun m g _ => Cert.Frames.ofMobaReferenceIdeal m g trivial,
    trivial, Cert.SbClaim.algebraic, trivial, Cert.OutClaim.algebraic, trivial, Cert.InClaim.algebraic,
    IdealRules.named_const.statement Cert.MobaKernelIdeal.κ "neg" .f32 0xF149F2CA#32 ⊥ rfl, Cert.MobaClaim.algebraic⟩

end Cert.Proof
end
